-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sb_finite [hPre_sb_finite : Cert.Pre_sb_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sb_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sb_finite [hPre_sb_finite : Cert.Pre_sb_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sb_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sb_finite [hKernelIdeal : Cert.KernelIdeal.Facts] [hPre_sb_finite : Cert.Pre_sb_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sb_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sb_finite [hReferenceIdeal : Cert.ReferenceIdeal.Facts] [hPre_sb_finite : Cert.Pre_sb_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sb_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def preserves_Kernel_KernelIdeal : Prop :=
  True

def algebraic_KernelIdeal_ReferenceIdeal_pre_sb_finite [hKernelIdeal : Cert.KernelIdeal.Facts] [hReferenceIdeal : Cert.ReferenceIdeal.Facts] [hPre_sb_finite : Cert.Pre_sb_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sb_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v37_0)) (v1 : (c : Dev Cert.Kernel5Ideal.nD) → Buf (Elt Ideal) ((c.tc : Thread Cert.Kernel5Ideal.nD Cert.Kernel5Ideal.τ).loc Cert.Kernel5Ideal.main_v37_1)) (v2 : (c : Dev Cert.Kernel5Ideal.nD) → Buf (Elt Ideal) ((c.tc : Thread Cert.Kernel5Ideal.nD Cert.Kernel5Ideal.τ).loc Cert.Kernel5Ideal.main_v37_2)) (v3 : (c : Dev Cert.Kernel5Ideal.nD) → Buf (Elt Ideal) ((c.tc : Thread Cert.Kernel5Ideal.nD Cert.Kernel5Ideal.τ).loc Cert.Kernel5Ideal.main_v37_3)) (v4 : (c : Dev Cert.Kernel5Ideal.nD) → Buf (Elt Ideal) ((c.tc : Thread Cert.Kernel5Ideal.nD Cert.Kernel5Ideal.τ).loc Cert.Kernel5Ideal.main_v37_4)) (v5 : (c : Dev Cert.Kernel5Ideal.nD) → Buf (Elt Ideal) ((c.tc : Thread Cert.Kernel5Ideal.nD Cert.Kernel5Ideal.τ).loc Cert.Kernel5Ideal.main_v37_5)) (v6 : (c : Dev Cert.Kernel5Ideal.nD) → Buf (Elt Ideal) ((c.tc : Thread Cert.Kernel5Ideal.nD Cert.Kernel5Ideal.τ).loc Cert.Kernel5Ideal.main_v37_6)) (v7 : (c : Dev Cert.Kernel5Ideal.nD) → Buf (Elt Ideal) ((c.tc : Thread Cert.Kernel5Ideal.nD Cert.Kernel5Ideal.τ).loc Cert.Kernel5Ideal.main_v37_7)) (v8 : (c : Dev Cert.Kernel5Ideal.nD) → Buf (Elt Ideal) ((c.tc : Thread Cert.Kernel5Ideal.nD Cert.Kernel5Ideal.τ).loc Cert.Kernel5Ideal.main_v37_8)) (v9 : (c : Dev Cert.Kernel5Ideal.nD) → Buf (Elt Ideal) ((c.tc : Thread Cert.Kernel5Ideal.nD Cert.Kernel5Ideal.τ).loc Cert.Kernel5Ideal.main_v37_9)) (v10 : (c : Dev Cert.Kernel5Ideal.nD) → Buf (Elt Ideal) ((c.tc : Thread Cert.Kernel5Ideal.nD Cert.Kernel5Ideal.τ).loc Cert.Kernel5Ideal.main_v37_10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v37_0) = v0 c
          ∧ r.2.mem ((c.tc : Thread Cert.Kernel5Ideal.nD Cert.Kernel5Ideal.τ).loc Cert.Kernel5Ideal.main_v37_1) = v1 c
          ∧ r.2.mem ((c.tc : Thread Cert.Kernel5Ideal.nD Cert.Kernel5Ideal.τ).loc Cert.Kernel5Ideal.main_v37_2) = v2 c
          ∧ r.2.mem ((c.tc : Thread Cert.Kernel5Ideal.nD Cert.Kernel5Ideal.τ).loc Cert.Kernel5Ideal.main_v37_3) = v3 c
          ∧ r.2.mem ((c.tc : Thread Cert.Kernel5Ideal.nD Cert.Kernel5Ideal.τ).loc Cert.Kernel5Ideal.main_v37_4) = v4 c
          ∧ r.2.mem ((c.tc : Thread Cert.Kernel5Ideal.nD Cert.Kernel5Ideal.τ).loc Cert.Kernel5Ideal.main_v37_5) = v5 c
          ∧ r.2.mem ((c.tc : Thread Cert.Kernel5Ideal.nD Cert.Kernel5Ideal.τ).loc Cert.Kernel5Ideal.main_v37_6) = v6 c
          ∧ r.2.mem ((c.tc : Thread Cert.Kernel5Ideal.nD Cert.Kernel5Ideal.τ).loc Cert.Kernel5Ideal.main_v37_7) = v7 c
          ∧ r.2.mem ((c.tc : Thread Cert.Kernel5Ideal.nD Cert.Kernel5Ideal.τ).loc Cert.Kernel5Ideal.main_v37_8) = v8 c
          ∧ r.2.mem ((c.tc : Thread Cert.Kernel5Ideal.nD Cert.Kernel5Ideal.τ).loc Cert.Kernel5Ideal.main_v37_9) = v9 c
          ∧ r.2.mem ((c.tc : Thread Cert.Kernel5Ideal.nD Cert.Kernel5Ideal.τ).loc Cert.Kernel5Ideal.main_v37_10) = v10 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v51) = v0 c
          ∧ r.2.mem ((c.tc : Thread Cert.Reference5Ideal.nD Cert.Reference5Ideal.τ).loc Cert.Reference5Ideal.main_v53) = v1 c
          ∧ r.2.mem ((c.tc : Thread Cert.Reference5Ideal.nD Cert.Reference5Ideal.τ).loc Cert.Reference5Ideal.main_v57) = v2 c
          ∧ r.2.mem ((c.tc : Thread Cert.Reference5Ideal.nD Cert.Reference5Ideal.τ).loc Cert.Reference5Ideal.main_v58) = v3 c
          ∧ r.2.mem ((c.tc : Thread Cert.Reference5Ideal.nD Cert.Reference5Ideal.τ).loc Cert.Reference5Ideal.main_v62) = v4 c
          ∧ r.2.mem ((c.tc : Thread Cert.Reference5Ideal.nD Cert.Reference5Ideal.τ).loc Cert.Reference5Ideal.main_v66) = v5 c
          ∧ r.2.mem ((c.tc : Thread Cert.Reference5Ideal.nD Cert.Reference5Ideal.τ).loc Cert.Reference5Ideal.main_v67) = v6 c
          ∧ r.2.mem ((c.tc : Thread Cert.Reference5Ideal.nD Cert.Reference5Ideal.τ).loc Cert.Reference5Ideal.main_v68) = v7 c
          ∧ r.2.mem ((c.tc : Thread Cert.Reference5Ideal.nD Cert.Reference5Ideal.τ).loc Cert.Reference5Ideal.main_v69) = v8 c
          ∧ r.2.mem ((c.tc : Thread Cert.Reference5Ideal.nD Cert.Reference5Ideal.τ).loc Cert.Reference5Ideal.main_v70) = v9 c
          ∧ r.2.mem ((c.tc : Thread Cert.Reference5Ideal.nD Cert.Reference5Ideal.τ).loc Cert.Reference5Ideal.main_v71) = v10 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v11)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v49) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v19)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v19) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v57) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_sb_finite : Cert.Pre_sb_finite.Facts),
    quiescent_Kernel (hKernel := hKernel)
    ∧ quiescent_KernelIdeal (hKernelIdeal := hKernelIdeal)
    ∧ quiescent_KernelIdeal_pre_sb_finite (hKernelIdeal := hKernelIdeal) (hPre_sb_finite := hPre_sb_finite)
    ∧ quiescent_ReferenceIdeal (hReferenceIdeal := hReferenceIdeal)
    ∧ quiescent_ReferenceIdeal_pre_sb_finite (hReferenceIdeal := hReferenceIdeal) (hPre_sb_finite := hPre_sb_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_sb_finite (hKernelIdeal := hKernelIdeal) (hReferenceIdeal := hReferenceIdeal) (hPre_sb_finite := hPre_sb_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_sb_finite.lean ====
abbrev S8x2048x8x64 : Shape := ⟨4, ![8, 2048, 8, 64]⟩
abbrev S8x2048x2x8x64 : Shape := ⟨5, ![8, 2048, 2, 8, 64]⟩
abbrev S_ : Shape := ⟨0, ![]⟩

class Facts : Prop where
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_
  h_S_ : 0 < S_.numel
  bcast_S_S8x2048x2x8x64 : S_.BroadcastsInDim S8x2048x2x8x64 (![] : Fin 0 → Fin S8x2048x2x8x64.rank)
  reducesTo_S8x2048x2x8x64_S_d0_1_2_3_4 : S8x2048x2x8x64.ReducesTo [0, 1, 2, 3, 4] S_

variable [Facts]

def fn {F : FTy → Type} [FloatOps F] (main_arg0 : FVec F S8x2048x8x64 .f32) (main_arg1 : FVec F S8x2048x2x8x64 .f32) : IVec S_ 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_c : IVec S_ 1 := constantI S_ 1 1#1
  let main_v3 : IVec S_ 1 := (fun x v => Host.reduce IntOp.andi x v reducesTo_S8x2048x8x64_S_d0_1_2_3 h_S_) main_v2 main_c
  let main_v4 : FVec F S8x2048x2x8x64 .f32 := Host.absf main_arg1
  let main_cst_0 : FVec F S_ .f32 := constant S_ .f32 0x7F800000#32
  let main_v5 : FVec F S8x2048x2x8x64 .f32 := broadcastInDim S8x2048x2x8x64 ![] bcast_S_S8x2048x2x8x64 main_cst_0
  let main_v6 : IVec S8x2048x2x8x64 1 := cmpf .olt main_v4 main_v5
  let main_c_1 : IVec S_ 1 := constantI S_ 1 1#1
  let main_v7 : IVec S_ 1 := (fun x v => Host.reduce IntOp.andi x v reducesTo_S8x2048x2x8x64_S_d0_1_2_3_4 h_S_) main_v6 main_c_1
  let main_v8 : IVec S_ 1 := andi main_v3 main_v7
  main_v8
-- ==== Kernel.lean ====
abbrev S8x2048x8x64 : Shape := ⟨4, ![8, 2048, 8, 64]⟩
abbrev S8x2048x2x8x64 : Shape := ⟨5, ![8, 2048, 2, 8, 64]⟩
abbrev S_ : Shape := ⟨0, ![]⟩
abbrev S16384x512 : Shape := ⟨2, ![16384, 512]⟩
abbrev S16384x1024 : Shape := ⟨2, ![16384, 1024]⟩
abbrev S256x128 : Shape := ⟨2, ![256, 128]⟩
abbrev S2048x128 : Shape := ⟨2, ![2048, 128]⟩
abbrev S512x128 : Shape := ⟨2, ![512, 128]⟩
abbrev S1x128 : Shape := ⟨2, ![1, 128]⟩
abbrev S256x256 : Shape := ⟨2, ![256, 256]⟩
abbrev S512x1 : Shape := ⟨2, ![512, 1]⟩
abbrev S1x256 : Shape := ⟨2, ![1, 256]⟩
abbrev S512x256 : Shape := ⟨2, ![512, 256]⟩
abbrev S1024x128 : Shape := ⟨2, ![1024, 128]⟩
abbrev S1024x256 : Shape := ⟨2, ![1024, 256]⟩
abbrev S128x128 : Shape := ⟨2, ![128, 128]⟩
abbrev S384x128 : Shape := ⟨2, ![384, 128]⟩
abbrev S512x384 : Shape := ⟨2, ![512, 384]⟩
abbrev S1536x128 : Shape := ⟨2, ![1536, 128]⟩
abbrev S1536x256 : Shape := ⟨2, ![1536, 256]⟩
abbrev S512x512 : Shape := ⟨2, ![512, 512]⟩
abbrev S2048x256 : Shape := ⟨2, ![2048, 256]⟩

abbrev nBuf : Space → Nat
  | .hbm => 10
  | .vmem => 10
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x2x8x64, .f32⟩
  | .hbm, ⟨2, _⟩ => ⟨S_, .f32⟩
  | .hbm, ⟨3, _⟩ => ⟨S8x2048x8x64, .f32⟩
  | .hbm, ⟨4, _⟩ => ⟨S8x2048x8x64, .f32⟩
  | .hbm, ⟨5, _⟩ => ⟨S8x2048x8x64, .bf16⟩
  | .hbm, ⟨6, _⟩ => ⟨S16384x512, .bf16⟩
  | .hbm, ⟨7, _⟩ => ⟨S8x2048x2x8x64, .bf16⟩
  | .hbm, ⟨8, _⟩ => ⟨S16384x1024, .bf16⟩
  | .hbm, ⟨9, _⟩ => ⟨S16384x512, .bf16⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S512x128, .f32⟩
  | .local _ .vmem, ⟨9, _⟩ => ⟨S512x128, .f32⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let arg2 : BitVec 32 := BitVec.ofNat 32 (i 2).val
  let c2_i32 : BitVec 32 := 2#32
  let v41 : BitVec 32 := Scalar.muli arg2 c2_i32
  let c128_i32_11 : BitVec 32 := 128#32
  let v42 : BitVec 32 := Scalar.muli v41 c128_i32_11
  v42
def k0_off1 (i : grid0.Coords) : Fin 2 → Nat :=
  let arg2 : BitVec 32 := BitVec.ofNat 32 (i 2).val
  let c2_i32 : BitVec 32 := 2#32
  let v41 : BitVec 32 := Scalar.muli arg2 c2_i32
  let c128_i32_11 : BitVec 32 := 128#32
  let v42 : BitVec 32 := Scalar.muli v41 c128_i32_11
  let v43 : BitVec 32 := v42
  let v44 : Index := Scalar.indexCast v43
  let c0_12 : Index := 0#32
  ![v44.toNat, 0]
def k0_cond1 (i : grid0.Coords) : BitVec 1 :=
  let arg2 : BitVec 32 := BitVec.ofNat 32 (i 2).val
  let c2_i32_30 : BitVec 32 := 2#32
  let v111 : BitVec 32 := Scalar.muli arg2 c2_i32_30
  let c4_i32 : BitVec 32 := 4#32
  let v112 : BitVec 32 := Scalar.remsi v111 c4_i32
  let c1_i32 : BitVec 32 := 1#32
  let v113 : BitVec 1 := Scalar.cmpi .eq v112 c1_i32
  let v114 : BitVec 32 := Scalar.extui v113
  let c0_i32 : BitVec 32 := 0#32
  let v115 : BitVec 1 := Scalar.cmpi .ne v114 c0_i32
  v115

def k0_mult2 (i : grid0.Coords) : BitVec 32 :=
  let arg2 : BitVec 32 := BitVec.ofNat 32 (i 2).val
  let c2_i32_30 : BitVec 32 := 2#32
  let v111 : BitVec 32 := Scalar.muli arg2 c2_i32_30
  let c1_i32_51 : BitVec 32 := 1#32
  let v154 : BitVec 32 := Scalar.subi v111 c1_i32_51
  let c128_i32_52 : BitVec 32 := 128#32
  let v155 : BitVec 32 := Scalar.muli v154 c128_i32_52
  v155
def k0_off2 (i : grid0.Coords) : Fin 2 → Nat :=
  let arg2 : BitVec 32 := BitVec.ofNat 32 (i 2).val
  let c2_i32_30 : BitVec 32 := 2#32
  let v111 : BitVec 32 := Scalar.muli arg2 c2_i32_30
  let c1_i32_51 : BitVec 32 := 1#32
  let v154 : BitVec 32 := Scalar.subi v111 c1_i32_51
  let c128_i32_52 : BitVec 32 := 128#32
  let v155 : BitVec 32 := Scalar.muli v154 c128_i32_52
  let v156 : BitVec 32 := v155
  let v157 : Index := Scalar.indexCast v156
  let c0_53 : Index := 0#32
  ![v157.toNat, 0]
def k0_cond2 (i : grid0.Coords) : BitVec 1 :=
  let arg2 : BitVec 32 := BitVec.ofNat 32 (i 2).val
  let c2_i32_30 : BitVec 32 := 2#32
  let v111 : BitVec 32 := Scalar.muli arg2 c2_i32_30
  let c4_i32 : BitVec 32 := 4#32
  let v112 : BitVec 32 := Scalar.remsi v111 c4_i32
  let c2_i32_31 : BitVec 32 := 2#32
  let v116 : BitVec 1 := Scalar.cmpi .eq v112 c2_i32_31
  let v117 : BitVec 32 := Scalar.extui v116
  let c0_i32_32 : BitVec 32 := 0#32
  let v118 : BitVec 1 := Scalar.cmpi .ne v117 c0_i32_32
  v118

def k0_mult3 (i : grid0.Coords) : BitVec 32 :=
  let arg2 : BitVec 32 := BitVec.ofNat 32 (i 2).val
  let c2_i32_30 : BitVec 32 := 2#32
  let v111 : BitVec 32 := Scalar.muli arg2 c2_i32_30
  let c2_i32_51 : BitVec 32 := 2#32
  let v154 : BitVec 32 := Scalar.subi v111 c2_i32_51
  let c128_i32_52 : BitVec 32 := 128#32
  let v155 : BitVec 32 := Scalar.muli v154 c128_i32_52
  v155
def k0_off3 (i : grid0.Coords) : Fin 2 → Nat :=
  let arg2 : BitVec 32 := BitVec.ofNat 32 (i 2).val
  let c2_i32_30 : BitVec 32 := 2#32
  let v111 : BitVec 32 := Scalar.muli arg2 c2_i32_30
  let c2_i32_51 : BitVec 32 := 2#32
  let v154 : BitVec 32 := Scalar.subi v111 c2_i32_51
  let c128_i32_52 : BitVec 32 := 128#32
  let v155 : BitVec 32 := Scalar.muli v154 c128_i32_52
  let v156 : BitVec 32 := v155
  let v157 : Index := Scalar.indexCast v156
  let c0_53 : Index := 0#32
  ![v157.toNat, 0]
def k0_cond3 (i : grid0.Coords) : BitVec 1 :=
  let arg2 : BitVec 32 := BitVec.ofNat 32 (i 2).val
  let c2_i32_30 : BitVec 32 := 2#32
  let v111 : BitVec 32 := Scalar.muli arg2 c2_i32_30
  let c4_i32 : BitVec 32 := 4#32
  let v112 : BitVec 32 := Scalar.remsi v111 c4_i32
  let c3_i32 : BitVec 32 := 3#32
  let v119 : BitVec 1 := Scalar.cmpi .eq v112 c3_i32
  let v120 : BitVec 32 := Scalar.extui v119
  let c0_i32_33 : BitVec 32 := 0#32
  let v121 : BitVec 1 := Scalar.cmpi .ne v120 c0_i32_33
  v121

def k0_mult4 (i : grid0.Coords) : BitVec 32 :=
  let arg2 : BitVec 32 := BitVec.ofNat 32 (i 2).val
  let c2_i32_30 : BitVec 32 := 2#32
  let v111 : BitVec 32 := Scalar.muli arg2 c2_i32_30
  let c3_i32_51 : BitVec 32 := 3#32
  let v154 : BitVec 32 := Scalar.subi v111 c3_i32_51
  let c128_i32_52 : BitVec 32 := 128#32
  let v155 : BitVec 32 := Scalar.muli v154 c128_i32_52
  v155
def k0_off4 (i : grid0.Coords) : Fin 2 → Nat :=
  let arg2 : BitVec 32 := BitVec.ofNat 32 (i 2).val
  let c2_i32_30 : BitVec 32 := 2#32
  let v111 : BitVec 32 := Scalar.muli arg2 c2_i32_30
  let c3_i32_51 : BitVec 32 := 3#32
  let v154 : BitVec 32 := Scalar.subi v111 c3_i32_51
  let c128_i32_52 : BitVec 32 := 128#32
  let v155 : BitVec 32 := Scalar.muli v154 c128_i32_52
  let v156 : BitVec 32 := v155
  let v157 : Index := Scalar.indexCast v156
  let c0_53 : Index := 0#32
  ![v157.toNat, 0]
@[reducible] def k0_t1_loop (i : grid0.Coords) : Scf.Loop 32 :=
  let c0_i32_42 : BitVec 32 := 0#32
  let arg2 : BitVec 32 := BitVec.ofNat 32 (i 2).val
  let c2_i32_30 : BitVec 32 := 2#32
  let v111 : BitVec 32 := Scalar.muli arg2 c2_i32_30
  let c0_i32_35 : BitVec 32 := 0#32
  let v123 : BitVec 1 := Scalar.cmpi .sgt v111 c0_i32_35
  let v124 : BitVec 32 := Scalar.extui v123
  let c0_i32_36 : BitVec 32 := 0#32
  let v125 : BitVec 1 := Scalar.cmpi .slt v111 c0_i32_36
  let v126 : BitVec 32 := Scalar.extui v125
  let v127 : BitVec 32 := Scalar.subi v124 v126
  let c4_i32_34 : BitVec 32 := 4#32
  let c0_i32_37 : BitVec 32 := 0#32
  let v128 : BitVec 1 := Scalar.cmpi .sgt c4_i32_34 c0_i32_37
  let v129 : BitVec 32 := Scalar.extui v128
  let c0_i32_38 : BitVec 32 := 0#32
  let v130 : BitVec 1 := Scalar.cmpi .slt c4_i32_34 c0_i32_38
  let v131 : BitVec 32 := Scalar.extui v130
  let v132 : BitVec 32 := Scalar.subi v129 v131
  let v133 : BitVec 1 := Scalar.cmpi .ne v127 v132
  let v134 : BitVec 32 := Scalar.remsi v111 c4_i32_34
  let c0_i32_39 : BitVec 32 := 0#32
  let v135 : BitVec 1 := Scalar.cmpi .ne v134 c0_i32_39
  let v136 : BitVec 1 := Scalar.andi v133 v135
  let v122 : BitVec 32 := Scalar.divsi v111 c4_i32_34
  let c1_i32_40 : BitVec 32 := 1#32
  let v137 : BitVec 32 := Scalar.subi v122 c1_i32_40
  let v138 : BitVec 32 := Scalar.select v136 v137 v122
  let v139 : BitVec 32 := Scalar.subi v138 c0_i32_42
  let c1_i32_43 : BitVec 32 := 1#32
  let v141 : BitVec 32 := Scalar.divsi v139 c1_i32_43
  let v142 : BitVec 32 := Scalar.muli v141 c1_i32_43
  let v143 : BitVec 32 := Scalar.addi c0_i32_42 v142
  let c1_i32_44 : BitVec 32 := 1#32
  ⟨c0_i32_42, v143, c1_i32_44⟩
def k0_mult5 (i : grid0.Coords) (k0_t1 : Fin (k0_t1_loop i).trips) : BitVec 32 :=
  let arg2 : BitVec 32 := BitVec.ofNat 32 (i 2).val
  let c2_i32_30 : BitVec 32 := 2#32
  let v111 : BitVec 32 := Scalar.muli arg2 c2_i32_30
  let c4_i32 : BitVec 32 := 4#32
  let v112 : BitVec 32 := Scalar.remsi v111 c4_i32
  let v154 : BitVec 32 := Scalar.subi v111 v112
  let c4_i32_52 : BitVec 32 := 4#32
  let c0_i32_42 : BitVec 32 := 0#32
  let c1_i32_44 : BitVec 32 := 1#32
  let arg9 : BitVec 32 := Scf.iv c0_i32_42 c1_i32_44 k0_t1
  let c1_i32_51 : BitVec 32 := 1#32
  let v155 : BitVec 32 := Scalar.addi arg9 c1_i32_51
  let v156 : BitVec 32 := Scalar.muli c4_i32_52 v155
  let v157 : BitVec 32 := Scalar.subi v154 v156
  let c128_i32_53 : BitVec 32 := 128#32
  let v158 : BitVec 32 := Scalar.muli v157 c128_i32_53
  v158
def k0_off5 (i : grid0.Coords) (k0_t1 : Fin (k0_t1_loop i).trips) : Fin 2 → Nat :=
  let arg2 : BitVec 32 := BitVec.ofNat 32 (i 2).val
  let c2_i32_30 : BitVec 32 := 2#32
  let v111 : BitVec 32 := Scalar.muli arg2 c2_i32_30
  let c4_i32 : BitVec 32 := 4#32
  let v112 : BitVec 32 := Scalar.remsi v111 c4_i32
  let v154 : BitVec 32 := Scalar.subi v111 v112
  let c4_i32_52 : BitVec 32 := 4#32
  let c0_i32_42 : BitVec 32 := 0#32
  let c1_i32_44 : BitVec 32 := 1#32
  let arg9 : BitVec 32 := Scf.iv c0_i32_42 c1_i32_44 k0_t1
  let c1_i32_51 : BitVec 32 := 1#32
  let v155 : BitVec 32 := Scalar.addi arg9 c1_i32_51
  let v156 : BitVec 32 := Scalar.muli c4_i32_52 v155
  let v157 : BitVec 32 := Scalar.subi v154 v156
  let c128_i32_53 : BitVec 32 := 128#32
  let v158 : BitVec 32 := Scalar.muli v157 c128_i32_53
  let v159 : BitVec 32 := v158
  let v160 : Index := Scalar.indexCast v159
  let c0_54 : Index := 0#32
  ![v160.toNat, 0]
@[reducible] def k0_t2_loop (i : grid0.Coords) : Scf.Loop 32 :=
  let c0_i32_42 : BitVec 32 := 0#32
  let arg2 : BitVec 32 := BitVec.ofNat 32 (i 2).val
  let c2_i32_30 : BitVec 32 := 2#32
  let v111 : BitVec 32 := Scalar.muli arg2 c2_i32_30
  let c0_i32_35 : BitVec 32 := 0#32
  let v123 : BitVec 1 := Scalar.cmpi .sgt v111 c0_i32_35
  let v124 : BitVec 32 := Scalar.extui v123
  let c0_i32_36 : BitVec 32 := 0#32
  let v125 : BitVec 1 := Scalar.cmpi .slt v111 c0_i32_36
  let v126 : BitVec 32 := Scalar.extui v125
  let v127 : BitVec 32 := Scalar.subi v124 v126
  let c4_i32_34 : BitVec 32 := 4#32
  let c0_i32_37 : BitVec 32 := 0#32
  let v128 : BitVec 1 := Scalar.cmpi .sgt c4_i32_34 c0_i32_37
  let v129 : BitVec 32 := Scalar.extui v128
  let c0_i32_38 : BitVec 32 := 0#32
  let v130 : BitVec 1 := Scalar.cmpi .slt c4_i32_34 c0_i32_38
  let v131 : BitVec 32 := Scalar.extui v130
  let v132 : BitVec 32 := Scalar.subi v129 v131
  let v133 : BitVec 1 := Scalar.cmpi .ne v127 v132
  let v134 : BitVec 32 := Scalar.remsi v111 c4_i32_34
  let c0_i32_39 : BitVec 32 := 0#32
  let v135 : BitVec 1 := Scalar.cmpi .ne v134 c0_i32_39
  let v136 : BitVec 1 := Scalar.andi v133 v135
  let v122 : BitVec 32 := Scalar.divsi v111 c4_i32_34
  let c1_i32_40 : BitVec 32 := 1#32
  let v137 : BitVec 32 := Scalar.subi v122 c1_i32_40
  let v138 : BitVec 32 := Scalar.select v136 v137 v122
  let v139 : BitVec 32 := Scalar.subi v138 c0_i32_42
  let c1_i32_43 : BitVec 32 := 1#32
  let v141 : BitVec 32 := Scalar.divsi v139 c1_i32_43
  let v142 : BitVec 32 := Scalar.muli v141 c1_i32_43
  let v143 : BitVec 32 := Scalar.addi c0_i32_42 v142
  let v140 : BitVec 32 := Scalar.addi c0_i32_42 v139
  let c1_i32_45 : BitVec 32 := 1#32
  ⟨v143, v140, c1_i32_45⟩
def k0_mult6 (i : grid0.Coords) (k0_t2 : Fin (k0_t2_loop i).trips) : BitVec 32 :=
  let arg2 : BitVec 32 := BitVec.ofNat 32 (i 2).val
  let c2_i32_30 : BitVec 32 := 2#32
  let v111 : BitVec 32 := Scalar.muli arg2 c2_i32_30
  let c4_i32 : BitVec 32 := 4#32
  let v112 : BitVec 32 := Scalar.remsi v111 c4_i32
  let v154 : BitVec 32 := Scalar.subi v111 v112
  let c4_i32_52 : BitVec 32 := 4#32
  let c0_i32_42 : BitVec 32 := 0#32
  let c0_i32_35 : BitVec 32 := 0#32
  let v123 : BitVec 1 := Scalar.cmpi .sgt v111 c0_i32_35
  let v124 : BitVec 32 := Scalar.extui v123
  let c0_i32_36 : BitVec 32 := 0#32
  let v125 : BitVec 1 := Scalar.cmpi .slt v111 c0_i32_36
  let v126 : BitVec 32 := Scalar.extui v125
  let v127 : BitVec 32 := Scalar.subi v124 v126
  let c4_i32_34 : BitVec 32 := 4#32
  let c0_i32_37 : BitVec 32 := 0#32
  let v128 : BitVec 1 := Scalar.cmpi .sgt c4_i32_34 c0_i32_37
  let v129 : BitVec 32 := Scalar.extui v128
  let c0_i32_38 : BitVec 32 := 0#32
  let v130 : BitVec 1 := Scalar.cmpi .slt c4_i32_34 c0_i32_38
  let v131 : BitVec 32 := Scalar.extui v130
  let v132 : BitVec 32 := Scalar.subi v129 v131
  let v133 : BitVec 1 := Scalar.cmpi .ne v127 v132
  let v134 : BitVec 32 := Scalar.remsi v111 c4_i32_34
  let c0_i32_39 : BitVec 32 := 0#32
  let v135 : BitVec 1 := Scalar.cmpi .ne v134 c0_i32_39
  let v136 : BitVec 1 := Scalar.andi v133 v135
  let v122 : BitVec 32 := Scalar.divsi v111 c4_i32_34
  let c1_i32_40 : BitVec 32 := 1#32
  let v137 : BitVec 32 := Scalar.subi v122 c1_i32_40
  let v138 : BitVec 32 := Scalar.select v136 v137 v122
  let v139 : BitVec 32 := Scalar.subi v138 c0_i32_42
  let c1_i32_43 : BitVec 32 := 1#32
  let v141 : BitVec 32 := Scalar.divsi v139 c1_i32_43
  let v142 : BitVec 32 := Scalar.muli v141 c1_i32_43
  let v143 : BitVec 32 := Scalar.addi c0_i32_42 v142
  let c1_i32_45 : BitVec 32 := 1#32
  let arg9 : BitVec 32 := Scf.iv v143 c1_i32_45 k0_t2
  let c1_i32_51 : BitVec 32 := 1#32
  let v155 : BitVec 32 := Scalar.addi arg9 c1_i32_51
  let v156 : BitVec 32 := Scalar.muli c4_i32_52 v155
  let v157 : BitVec 32 := Scalar.subi v154 v156
  let c128_i32_53 : BitVec 32 := 128#32
  let v158 : BitVec 32 := Scalar.muli v157 c128_i32_53
  v158
def k0_off6 (i : grid0.Coords) (k0_t2 : Fin (k0_t2_loop i).trips) : Fin 2 → Nat :=
  let arg2 : BitVec 32 := BitVec.ofNat 32 (i 2).val
  let c2_i32_30 : BitVec 32 := 2#32
  let v111 : BitVec 32 := Scalar.muli arg2 c2_i32_30
  let c4_i32 : BitVec 32 := 4#32
  let v112 : BitVec 32 := Scalar.remsi v111 c4_i32
  let v154 : BitVec 32 := Scalar.subi v111 v112
  let c4_i32_52 : BitVec 32 := 4#32
  let c0_i32_42 : BitVec 32 := 0#32
  let c0_i32_35 : BitVec 32 := 0#32
  let v123 : BitVec 1 := Scalar.cmpi .sgt v111 c0_i32_35
  let v124 : BitVec 32 := Scalar.extui v123
  let c0_i32_36 : BitVec 32 := 0#32
  let v125 : BitVec 1 := Scalar.cmpi .slt v111 c0_i32_36
  let v126 : BitVec 32 := Scalar.extui v125
  let v127 : BitVec 32 := Scalar.subi v124 v126
  let c4_i32_34 : BitVec 32 := 4#32
  let c0_i32_37 : BitVec 32 := 0#32
  let v128 : BitVec 1 := Scalar.cmpi .sgt c4_i32_34 c0_i32_37
  let v129 : BitVec 32 := Scalar.extui v128
  let c0_i32_38 : BitVec 32 := 0#32
  let v130 : BitVec 1 := Scalar.cmpi .slt c4_i32_34 c0_i32_38
  let v131 : BitVec 32 := Scalar.extui v130
  let v132 : BitVec 32 := Scalar.subi v129 v131
  let v133 : BitVec 1 := Scalar.cmpi .ne v127 v132
  let v134 : BitVec 32 := Scalar.remsi v111 c4_i32_34
  let c0_i32_39 : BitVec 32 := 0#32
  let v135 : BitVec 1 := Scalar.cmpi .ne v134 c0_i32_39
  let v136 : BitVec 1 := Scalar.andi v133 v135
  let v122 : BitVec 32 := Scalar.divsi v111 c4_i32_34
  let c1_i32_40 : BitVec 32 := 1#32
  let v137 : BitVec 32 := Scalar.subi v122 c1_i32_40
  let v138 : BitVec 32 := Scalar.select v136 v137 v122
  let v139 : BitVec 32 := Scalar.subi v138 c0_i32_42
  let c1_i32_43 : BitVec 32 := 1#32
  let v141 : BitVec 32 := Scalar.divsi v139 c1_i32_43
  let v142 : BitVec 32 := Scalar.muli v141 c1_i32_43
  let v143 : BitVec 32 := Scalar.addi c0_i32_42 v142
  let c1_i32_45 : BitVec 32 := 1#32
  let arg9 : BitVec 32 := Scf.iv v143 c1_i32_45 k0_t2
  let c1_i32_51 : BitVec 32 := 1#32
  let v155 : BitVec 32 := Scalar.addi arg9 c1_i32_51
  let v156 : BitVec 32 := Scalar.muli c4_i32_52 v155
  let v157 : BitVec 32 := Scalar.subi v154 v156
  let c128_i32_53 : BitVec 32 := 128#32
  let v158 : BitVec 32 := Scalar.muli v157 c128_i32_53
  let v159 : BitVec 32 := v158
  let v160 : Index := Scalar.indexCast v159
  let c0_54 : Index := 0#32
  ![v160.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x2048x8x64 : Shape := ⟨4, ![8, 2048, 8, 64]⟩
abbrev S8x2048x2x8x64 : Shape := ⟨5, ![8, 2048, 2, 8, 64]⟩
abbrev S8x2048x1x8x64 : Shape := ⟨5, ![8, 2048, 1, 8, 64]⟩
abbrev S8x8x2048x2048 : Shape := ⟨4, ![8, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x64x2048 : Shape := ⟨4, ![8, 8, 64, 2048]⟩
abbrev S16384x512 : Shape := ⟨2, ![16384, 512]⟩

abbrev nBuf : Space → Nat
  | .hbm => 69
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x2x8x64, .f32⟩
  | .hbm, ⟨2, _⟩ => ⟨S8x2048x1x8x64, .f32⟩
  | .hbm, ⟨3, _⟩ => ⟨S8x2048x8x64, .f32⟩
  | .hbm, ⟨4, _⟩ => ⟨S8x2048x1x8x64, .f32⟩
  | .hbm, ⟨5, _⟩ => ⟨S8x2048x8x64, .f32⟩
  | .hbm, ⟨6, _⟩ => ⟨S8x8x2048x2048, .f32⟩
  | .hbm, ⟨7, _⟩ => ⟨S_, .f32⟩
  | .hbm, ⟨8, _⟩ => ⟨S8x8x2048x2048, .f32⟩
  | .hbm, ⟨9, _⟩ => ⟨S8x8x2048x2048, .f32⟩
  | .hbm, ⟨10, _⟩ => ⟨S2048, .i32⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S8x8x2048x2048, .f32⟩
  | .hbm, ⟨17, _⟩ => ⟨S8x8x2048x2048, .f32⟩
  | .hbm, ⟨18, _⟩ => ⟨S_, .f32⟩
  | .hbm, ⟨19, _⟩ => ⟨S8x8x2048x2048, .f32⟩
  | .hbm, ⟨20, _⟩ => ⟨S8x8x2048x2048, .f32⟩
  | .hbm, ⟨21, _⟩ => ⟨S8x8x2048x2048, .f32⟩
  | .hbm, ⟨22, _⟩ => ⟨S8x8x2048x2048, .f32⟩
  | .hbm, ⟨23, _⟩ => ⟨S8x8x2048x2048, .i1⟩
  | .hbm, ⟨24, _⟩ => ⟨S8x8x2048x2048, .f32⟩
  | .hbm, ⟨25, _⟩ => ⟨S8x8x2048x2048, .f32⟩
  | .hbm, ⟨26, _⟩ => ⟨S8x8x2048x2048, .f32⟩
  | .hbm, ⟨27, _⟩ => ⟨S8x8x2048x2048, .f32⟩
  | .hbm, ⟨28, _⟩ => ⟨S8x8x2048x2048, .f32⟩
  | .hbm, ⟨29, _⟩ => ⟨S8x8x2048x2048, .f32⟩
  | .hbm, ⟨30, _⟩ => ⟨S8x8x2048x2048, .f32⟩
  | .hbm, ⟨31, _⟩ => ⟨S8x8x2048x2048, .f32⟩
  | .hbm, ⟨32, _⟩ => ⟨S8x8x2048x2048, .f32⟩
  | .hbm, ⟨33, _⟩ => ⟨S_, .f32⟩
  | .hbm, ⟨34, _⟩ => ⟨S_, .f32⟩
  | .hbm, ⟨35, _⟩ => ⟨S8x8x2048x2048, .i1⟩
  | .hbm, ⟨36, _⟩ => ⟨S8x8x2048x2048, .f32⟩
  | .hbm, ⟨37, _⟩ => ⟨S8x8x2048x2048, .f32⟩
  | .hbm, ⟨38, _⟩ => ⟨S_, .f32⟩
  | .hbm, ⟨39, _⟩ => ⟨S_, .f32⟩
  | .hbm, ⟨40, _⟩ => ⟨S8x8x2048x2048, .f32⟩
  | .hbm, ⟨41, _⟩ => ⟨S8x8x2048x2048, .f32⟩
  | .hbm, ⟨42, _⟩ => ⟨S8x8x2048x2048, .f32⟩
  | .hbm, ⟨43, _⟩ => ⟨S_, .f32⟩
  | .hbm, ⟨44, _⟩ => ⟨S8x8x2048x2048, .f32⟩
  | .hbm, ⟨45, _⟩ => ⟨S8x8x2048x2048, .f32⟩
  | .hbm, ⟨46, _⟩ => ⟨S8x8x2048x2048, .f32⟩
  | .hbm, ⟨47, _⟩ => ⟨S8x8x2048x2048, .f32⟩
  | .hbm, ⟨48, _⟩ => ⟨S8x8x2048x2048, .i1⟩
  | .hbm, ⟨49, _⟩ => ⟨S8x8x2048x2048, .f32⟩
  | .hbm, ⟨50, _⟩ => ⟨S8x8x2048x2048, .f32⟩
  | .hbm, ⟨51, _⟩ => ⟨S8x8x2048x2048, .f32⟩
  | .hbm, ⟨52, _⟩ => ⟨S8x8x2048x2048, .f32⟩
  | .hbm, ⟨53, _⟩ => ⟨S8x8x2048x2048, .f32⟩
  | .hbm, ⟨54, _⟩ => ⟨S8x8x2048x2048, .f32⟩
  | .hbm, ⟨55, _⟩ => ⟨S8x8x2048x2048, .f32⟩
  | .hbm, ⟨56, _⟩ => ⟨S8x8x2048x2048, .f32⟩
  | .hbm, ⟨57, _⟩ => ⟨S8x8x2048x2048, .f32⟩
  | .hbm, ⟨58, _⟩ => ⟨S8x8x2048x2048, .f32⟩
  | .hbm, ⟨59, _⟩ => ⟨S8x8x2048x2048, .f32⟩
  | .hbm, ⟨60, _⟩ => ⟨S_, .f32⟩
  | .hbm, ⟨61, _⟩ => ⟨S_, .f32⟩
  | .hbm, ⟨62, _⟩ => ⟨S8x8x2048x2048, .i1⟩
  | .hbm, ⟨63, _⟩ => ⟨S8x8x2048x2048, .f32⟩
  | .hbm, ⟨64, _⟩ => ⟨S8x8x2048x2048, .f32⟩
  | .hbm, ⟨65, _⟩ => ⟨S8x8x64x2048, .f32⟩
  | .hbm, ⟨66, _⟩ => ⟨S8x2048x8x64, .f32⟩
  | .hbm, ⟨67, _⟩ => ⟨S16384x512, .f32⟩
  | .hbm, ⟨68, _⟩ => ⟨S16384x512, .bf16⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v14 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v15 : Ref sig .tc := ⟨.hbm, 37, rfl⟩
abbrev main_call2_cst : Ref sig .tc := ⟨.hbm, 38, rfl⟩
abbrev main_call2_v0 : Ref sig .tc := ⟨.hbm, 39, rfl⟩
abbrev main_v16 : Ref sig .tc := ⟨.hbm, 40, rfl⟩
abbrev main_v17 : Ref sig .tc := ⟨.hbm, 41, rfl⟩
abbrev main_call3_v0 : Ref sig .tc := ⟨.hbm, 42, rfl⟩
abbrev main_call3_call0_cst : Ref sig .tc := ⟨.hbm, 43, rfl⟩
abbrev main_call3_call0_v0 : Ref sig .tc := ⟨.hbm, 44, rfl⟩
abbrev main_call3_call0_v1 : Ref sig .tc := ⟨.hbm, 45, rfl⟩
abbrev main_call3_call0_v2 : Ref sig .tc := ⟨.hbm, 46, rfl⟩
abbrev main_call3_call0_v3 : Ref sig .tc := ⟨.hbm, 47, rfl⟩
abbrev main_call3_call0_v4 : Ref sig .tc := ⟨.hbm, 48, rfl⟩
abbrev main_call3_call0_v5 : Ref sig .tc := ⟨.hbm, 49, rfl⟩
abbrev main_call3_call0_v6 : Ref sig .tc := ⟨.hbm, 50, rfl⟩
abbrev main_call3_call0_v7 : Ref sig .tc := ⟨.hbm, 51, rfl⟩
abbrev main_call3_call0_v8 : Ref sig .tc := ⟨.hbm, 52, rfl⟩
abbrev main_call3_call0_v9 : Ref sig .tc := ⟨.hbm, 53, rfl⟩
abbrev main_call3_call0_v10 : Ref sig .tc := ⟨.hbm, 54, rfl⟩
abbrev main_call3_call0_v11 : Ref sig .tc := ⟨.hbm, 55, rfl⟩
abbrev main_call3_v1 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_1 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x6144 : Shape := ⟨2, ![8, 6144]⟩
abbrev S1x1024 : Shape := ⟨2, ![1, 1024]⟩
abbrev S1024 : Shape := ⟨1, ![1024]⟩
abbrev S1x1024x4096 : Shape := ⟨3, ![1, 1024, 4096]⟩
abbrev S1x4096x1024 : Shape := ⟨3, ![1, 4096, 1024]⟩
abbrev S8x1x6144 : Shape := ⟨3, ![8, 1, 6144]⟩
abbrev S16384x1024 : Shape := ⟨2, ![16384, 1024]⟩
abbrev S1024x4096 : Shape := ⟨2, ![1024, 4096]⟩
abbrev S4096x1024 : Shape := ⟨2, ![4096, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x4096 : Shape := ⟨2, ![256, 4096]⟩

abbrev nBuf : Space → Nat
  | .hbm => 16
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1x1024, .f32⟩
  | .hbm, ⟨3, _⟩ => ⟨S1024, .f32⟩
  | .hbm, ⟨4, _⟩ => ⟨S1x1024x4096, .f32⟩
  | .hbm, ⟨5, _⟩ => ⟨S1x4096x1024, .f32⟩
  | .hbm, ⟨6, _⟩ => ⟨S8x1x6144, .f32⟩
  | .hbm, ⟨7, _⟩ => ⟨S16384x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1024x4096, .f32⟩
  | .hbm, ⟨12, _⟩ => ⟨S1024x4096, .bf16⟩
  | .hbm, ⟨13, _⟩ => ⟨S4096x1024, .f32⟩
  | .hbm, ⟨14, _⟩ => ⟨S4096x1024, .bf16⟩
  | .hbm, ⟨15, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S256x1024, .f32⟩
  | .local _ .vmem, ⟨13, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x2048x1024 : Shape := ⟨3, ![8, 2048, 1024]⟩
abbrev S8x6144 : Shape := ⟨2, ![8, 6144]⟩
abbrev S1x1024 : Shape := ⟨2, ![1, 1024]⟩
abbrev S1024 : Shape := ⟨1, ![1024]⟩
abbrev S1x1024x4096 : Shape := ⟨3, ![1, 1024, 4096]⟩
abbrev S1x4096x1024 : Shape := ⟨3, ![1, 4096, 1024]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x4096 : Shape := ⟨2, ![1024, 4096]⟩
abbrev S8x2048x4096 : Shape := ⟨3, ![8, 2048, 4096]⟩
abbrev S4096x1024 : Shape := ⟨2, ![4096, 1024]⟩
abbrev S16384x1024 : Shape := ⟨2, ![16384, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1x1024, .f32⟩
  | .hbm, ⟨3, _⟩ => ⟨S1024, .f32⟩
  | .hbm, ⟨4, _⟩ => ⟨S1x1024x4096, .f32⟩
  | .hbm, ⟨5, _⟩ => ⟨S1x4096x1024, .f32⟩
  | .hbm, ⟨6, _⟩ => ⟨S8x1x6144, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S1x1x1024, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x1x1024, .f32⟩
  | .hbm, ⟨32, _⟩ => ⟨S8x1x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S1024x4096, .f32⟩
  | .hbm, ⟨38, _⟩ => ⟨S8x2048x4096, .f32⟩
  | .hbm, ⟨39, _⟩ => ⟨S_, .f32⟩
  | .hbm, ⟨40, _⟩ => ⟨S8x2048x4096, .f32⟩
  | .hbm, ⟨41, _⟩ => ⟨S8x2048x4096, .f32⟩
  | .hbm, ⟨42, _⟩ => ⟨S8x2048x4096, .f32⟩
  | .hbm, ⟨43, _⟩ => ⟨S4096x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S_, .f32⟩
  | .hbm, ⟨50, _⟩ => ⟨S8x2048, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S_, .f32⟩
  | .hbm, ⟨56, _⟩ => ⟨S8x2048x1, .f32⟩
  | .hbm, ⟨57, _⟩ => ⟨S8x2048x1, .f32⟩
  | .hbm, ⟨58, _⟩ => ⟨S8x2048x1, .f32⟩
  | .hbm, ⟨59, _⟩ => ⟨S8x2048x1024, .f32⟩
  | .hbm, ⟨60, _⟩ => ⟨S8x2048x1024, .f32⟩
  | .hbm, ⟨61, _⟩ => ⟨S1x1x1024, .f32⟩
  | .hbm, ⟨62, _⟩ => ⟨S8x2048x1024, .f32⟩
  | .hbm, ⟨63, _⟩ => ⟨S8x2048x1024, .f32⟩
  | .hbm, ⟨64, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x6144 : Shape := ⟨2, ![8, 6144]⟩
abbrev S1x1024 : Shape := ⟨2, ![1, 1024]⟩
abbrev S1x1024x4888 : Shape := ⟨3, ![1, 1024, 4888]⟩
abbrev S8x2048x8x64 : Shape := ⟨4, ![8, 2048, 8, 64]⟩
abbrev S8x2048x2x4x64 : Shape := ⟨5, ![8, 2048, 2, 4, 64]⟩
abbrev S1x512x1024 : Shape := ⟨3, ![1, 512, 1024]⟩
abbrev S1x1024x1024 : Shape := ⟨3, ![1, 1024, 1024]⟩
abbrev S8x1x6144 : Shape := ⟨3, ![8, 1, 6144]⟩
abbrev S16384x1024 : Shape := ⟨2, ![16384, 1024]⟩
abbrev S1024 : Shape := ⟨1, ![1024]⟩
abbrev S16384x512 : Shape := ⟨2, ![16384, 512]⟩
abbrev S1024x4888 : Shape := ⟨2, ![1024, 4888]⟩
abbrev S1024x2048 : Shape := ⟨2, ![1024, 2048]⟩
abbrev S512x1024 : Shape := ⟨2, ![512, 1024]⟩
abbrev S1024x1024 : Shape := ⟨2, ![1024, 1024]⟩
abbrev S256x1024 : Shape := ⟨2, ![256, 1024]⟩
abbrev S1x1x1024 : Shape := ⟨3, ![1, 1, 1024]⟩
abbrev S256x512 : Shape := ⟨2, ![256, 512]⟩
abbrev S256 : Shape := ⟨1, ![256]⟩
abbrev S256x1 : Shape := ⟨2, ![256, 1]⟩

abbrev nBuf : Space → Nat
  | .hbm => 27
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1x1024, .f32⟩
  | .hbm, ⟨3, _⟩ => ⟨S1x1024x4888, .f32⟩
  | .hbm, ⟨4, _⟩ => ⟨S8x2048x8x64, .f32⟩
  | .hbm, ⟨5, _⟩ => ⟨S8x2048x2x4x64, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S8x1x6144, .f32⟩
  | .hbm, ⟨10, _⟩ => ⟨S16384x1024, .f32⟩
  | .hbm, ⟨11, _⟩ => ⟨S1024, .f32⟩
  | .hbm, ⟨12, _⟩ => ⟨S1x1024, .f32⟩
  | .hbm, ⟨13, _⟩ => ⟨S8x2048x8x64, .bf16⟩
  | .hbm, ⟨14, _⟩ => ⟨S16384x512, .bf16⟩
  | .hbm, ⟨15, _⟩ => ⟨S8x2048x2x4x64, .bf16⟩
  | .hbm, ⟨16, _⟩ => ⟨S16384x512, .bf16⟩
  | .hbm, ⟨17, _⟩ => ⟨S1024x4888, .f32⟩
  | .hbm, ⟨18, _⟩ => ⟨S1024x2048, .f32⟩
  | .hbm, ⟨19, _⟩ => ⟨S1024x2048, .bf16⟩
  | .hbm, ⟨20, _⟩ => ⟨S512x1024, .f32⟩
  | .hbm, ⟨21, _⟩ => ⟨S512x1024, .bf16⟩
  | .hbm, ⟨22, _⟩ => ⟨S512x1024, .f32⟩
  | .hbm, ⟨23, _⟩ => ⟨S512x1024, .bf16⟩
  | .hbm, ⟨24, _⟩ => ⟨S1024x1024, .f32⟩
  | .hbm, ⟨25, _⟩ => ⟨S1024x1024, .bf16⟩
  | .hbm, ⟨26, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S1024x2048, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S256x1024, .f32⟩
  | .local _ .vmem, ⟨18, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8x2048x1024 : Shape := ⟨3, ![8, 2048, 1024]⟩
abbrev S8x6144 : Shape := ⟨2, ![8, 6144]⟩
abbrev S1x1024 : Shape := ⟨2, ![1, 1024]⟩
abbrev S1x1024x4888 : Shape := ⟨3, ![1, 1024, 4888]⟩
abbrev S8x2048x8x64 : Shape := ⟨4, ![8, 2048, 8, 64]⟩
abbrev S8x2048x2x4x64 : Shape := ⟨5, ![8, 2048, 2, 4, 64]⟩
abbrev S1x512x1024 : Shape := ⟨3, ![1, 512, 1024]⟩
abbrev S1x1024x1024 : Shape := ⟨3, ![1, 1024, 1024]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S1024x4888 : Shape := ⟨2, ![1024, 4888]⟩
abbrev S8x2048x4888 : Shape := ⟨3, ![8, 2048, 4888]⟩
abbrev S8x2048x512 : Shape := ⟨3, ![8, 2048, 512]⟩
abbrev S512x1024 : Shape := ⟨2, ![512, 1024]⟩
abbrev S1024x1024 : Shape := ⟨2, ![1024, 1024]⟩
abbrev S16384x1024 : Shape := ⟨2, ![16384, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1x1024, .f32⟩
  | .hbm, ⟨3, _⟩ => ⟨S1x1024x4888, .f32⟩
  | .hbm, ⟨4, _⟩ => ⟨S8x2048x8x64, .f32⟩
  | .hbm, ⟨5, _⟩ => ⟨S8x2048x2x4x64, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S8x1x6144, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x2048x1024, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x1024, .f32⟩
  | .hbm, ⟨28, _⟩ => ⟨S8x2048x1024, .f32⟩
  | .hbm, ⟨29, _⟩ => ⟨S1024, .f32⟩
  | .hbm, ⟨30, _⟩ => ⟨S1x1x1024, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x1x1024, .f32⟩
  | .hbm, ⟨35, _⟩ => ⟨S8x1x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S1024x4888, .f32⟩
  | .hbm, ⟨41, _⟩ => ⟨S8x2048x4888, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S_, .f32⟩
  | .hbm, ⟨46, _⟩ => ⟨S8x2048x1024, .f32⟩
  | .hbm, ⟨47, _⟩ => ⟨S8x2048x1024, .f32⟩
  | .hbm, ⟨48, _⟩ => ⟨S_, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | .hbm, ⟨54, _⟩ => ⟨S_, .f32⟩
  | .hbm, ⟨55, _⟩ => ⟨S8x2048x1024, .f32⟩
  | .hbm, ⟨56, _⟩ => ⟨S8x2048x1024, .f32⟩
  | .hbm, ⟨57, _⟩ => ⟨S_, .f32⟩
  | .hbm, ⟨58, _⟩ => ⟨S8x2048x1024, .f32⟩
  | .hbm, ⟨59, _⟩ => ⟨S8x2048x1024, .f32⟩
  | .hbm, ⟨60, _⟩ => ⟨S8x2048x512, .f32⟩
  | .hbm, ⟨61, _⟩ => ⟨S512x1024, .f32⟩
  | .hbm, ⟨62, _⟩ => ⟨S8x2048x1024, .f32⟩
  | .hbm, ⟨63, _⟩ => ⟨S8x2048x512, .f32⟩
  | .hbm, ⟨64, _⟩ => ⟨S512x1024, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S1024x1024, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Kernel4.lean ====
abbrev S8x1024 : Shape := ⟨2, ![8, 1024]⟩
abbrev S128x1024 : Shape := ⟨2, ![128, 1024]⟩
abbrev S1x1024x6144 : Shape := ⟨3, ![1, 1024, 6144]⟩
abbrev S1x6144 : Shape := ⟨2, ![1, 6144]⟩
abbrev S136x1024 : Shape := ⟨2, ![136, 1024]⟩
abbrev S1024x6144 : Shape := ⟨2, ![1024, 6144]⟩
abbrev S6144 : Shape := ⟨1, ![6144]⟩
abbrev S136x6144 : Shape := ⟨2, ![136, 6144]⟩
abbrev S1024x512 : Shape := ⟨2, ![1024, 512]⟩
abbrev S1x512 : Shape := ⟨2, ![1, 512]⟩
abbrev S136x512 : Shape := ⟨2, ![136, 512]⟩

abbrev nBuf : Space → Nat
  | .hbm => 9
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S1x1024x6144, .f32⟩
  | .hbm, ⟨3, _⟩ => ⟨S1x6144, .f32⟩
  | .hbm, ⟨4, _⟩ => ⟨S136x1024, .f32⟩
  | .hbm, ⟨5, _⟩ => ⟨S1024x6144, .f32⟩
  | .hbm, ⟨6, _⟩ => ⟨S6144, .f32⟩
  | .hbm, ⟨7, _⟩ => ⟨S1x6144, .f32⟩
  | .hbm, ⟨8, _⟩ => ⟨S136x6144, .f32⟩
  | .local _ .vmem, ⟨0, _⟩ => ⟨S136x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S136x512, .f32⟩
  | .local _ .vmem, ⟨6, _⟩ => ⟨S136x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x1024 : Shape := ⟨2, ![8, 1024]⟩
abbrev S128x1024 : Shape := ⟨2, ![128, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S8x6144 : Shape := ⟨2, ![8, 6144]⟩
abbrev S6144 : Shape := ⟨1, ![6144]⟩
abbrev S128x6144 : Shape := ⟨2, ![128, 6144]⟩
abbrev S136x6144 : Shape := ⟨2, ![136, 6144]⟩

abbrev nBuf : Space → Nat
  | .hbm => 35
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S1x1024x6144, .f32⟩
  | .hbm, ⟨3, _⟩ => ⟨S1x6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1024x6144, .f32⟩
  | .hbm, ⟨14, _⟩ => ⟨S8x6144, .f32⟩
  | .hbm, ⟨15, _⟩ => ⟨S6144, .f32⟩
  | .hbm, ⟨16, _⟩ => ⟨S1x6144, .f32⟩
  | .hbm, ⟨17, _⟩ => ⟨S8x6144, .f32⟩
  | .hbm, ⟨18, _⟩ => ⟨S8x6144, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S1024x6144, .f32⟩
  | .hbm, ⟨29, _⟩ => ⟨S128x6144, .f32⟩
  | .hbm, ⟨30, _⟩ => ⟨S6144, .f32⟩
  | .hbm, ⟨31, _⟩ => ⟨S1x6144, .f32⟩
  | .hbm, ⟨32, _⟩ => ⟨S128x6144, .f32⟩
  | .hbm, ⟨33, _⟩ => ⟨S128x6144, .f32⟩
  | .hbm, ⟨34, _⟩ => ⟨S136x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Kernel5.lean ====
abbrev S8x2048x1024 : Shape := ⟨3, ![8, 2048, 1024]⟩
abbrev S8x6144 : Shape := ⟨2, ![8, 6144]⟩
abbrev S1x1024 : Shape := ⟨2, ![1, 1024]⟩
abbrev S1x1024x4888 : Shape := ⟨3, ![1, 1024, 4888]⟩
abbrev S8x1x6144 : Shape := ⟨3, ![8, 1, 6144]⟩
abbrev S1024x4888 : Shape := ⟨2, ![1024, 4888]⟩
abbrev S1024x512 : Shape := ⟨2, ![1024, 512]⟩
abbrev S_ : Shape := ⟨0, ![]⟩
abbrev S1024x1024 : Shape := ⟨2, ![1024, 1024]⟩
abbrev S1024x256 : Shape := ⟨2, ![1024, 256]⟩
abbrev S1024x4x1x64 : Shape := ⟨4, ![1024, 4, 1, 64]⟩
abbrev S1024x4x1x2x64 : Shape := ⟨5, ![1024, 4, 1, 2, 64]⟩
abbrev S1024x4x2x64 : Shape := ⟨4, ![1024, 4, 2, 64]⟩
abbrev S1024x24 : Shape := ⟨2, ![1024, 24]⟩
abbrev S1024x8x3 : Shape := ⟨3, ![1024, 8, 3]⟩
abbrev S1024x3x8 : Shape := ⟨3, ![1024, 3, 8]⟩
abbrev S1024x3x8x1 : Shape := ⟨4, ![1024, 3, 8, 1]⟩
abbrev S1024x3x8x1x64 : Shape := ⟨5, ![1024, 3, 8, 1, 64]⟩
abbrev S1024x3x8x64 : Shape := ⟨4, ![1024, 3, 8, 64]⟩
abbrev S1024x1536 : Shape := ⟨2, ![1024, 1536]⟩
abbrev S1024x4864 : Shape := ⟨2, ![1024, 4864]⟩
abbrev S1024x768 : Shape := ⟨2, ![1024, 768]⟩
abbrev S1024x1792 : Shape := ⟨2, ![1024, 1792]⟩
abbrev S1792x1024 : Shape := ⟨2, ![1792, 1024]⟩
abbrev S16384x1024 : Shape := ⟨2, ![16384, 1024]⟩
abbrev S1024 : Shape := ⟨1, ![1024]⟩
abbrev S16384x512 : Shape := ⟨2, ![16384, 512]⟩
abbrev S16384x256 : Shape := ⟨2, ![16384, 256]⟩
abbrev S16384x1536 : Shape := ⟨2, ![16384, 1536]⟩
abbrev S8x1024x2048 : Shape := ⟨3, ![8, 1024, 2048]⟩
abbrev S8x256x2048 : Shape := ⟨3, ![8, 256, 2048]⟩
abbrev S256x1024 : Shape := ⟨2, ![256, 1024]⟩
abbrev S1x1x1024 : Shape := ⟨3, ![1, 1, 1024]⟩
abbrev S256x512 : Shape := ⟨2, ![256, 512]⟩
abbrev S256x256 : Shape := ⟨2, ![256, 256]⟩
abbrev S256x1536 : Shape := ⟨2, ![256, 1536]⟩
abbrev S1x1024x256 : Shape := ⟨3, ![1, 1024, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 54
  | .vmem => 31
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1x1024, .f32⟩
  | .hbm, ⟨3, _⟩ => ⟨S1x1024x4888, .f32⟩
  | .hbm, ⟨4, _⟩ => ⟨S8x1x6144, .f32⟩
  | .hbm, ⟨5, _⟩ => ⟨S1024x4888, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x1024, .f32⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S1024x256, .f32⟩
  | .hbm, ⟨16, _⟩ => ⟨S1024x256, .f32⟩
  | .hbm, ⟨17, _⟩ => ⟨S1024x4x1x64, .f32⟩
  | .hbm, ⟨18, _⟩ => ⟨S1024x4x1x2x64, .f32⟩
  | .hbm, ⟨19, _⟩ => ⟨S1024x4x2x64, .f32⟩
  | .hbm, ⟨20, _⟩ => ⟨S1024x512, .f32⟩
  | .hbm, ⟨21, _⟩ => ⟨S1024x256, .f32⟩
  | .hbm, ⟨22, _⟩ => ⟨S1024x4x1x64, .f32⟩
  | .hbm, ⟨23, _⟩ => ⟨S1024x4x1x2x64, .f32⟩
  | .hbm, ⟨24, _⟩ => ⟨S1024x4x2x64, .f32⟩
  | .hbm, ⟨25, _⟩ => ⟨S1024x512, .f32⟩
  | .hbm, ⟨26, _⟩ => ⟨S1024x24, .f32⟩
  | .hbm, ⟨27, _⟩ => ⟨S1024x8x3, .f32⟩
  | .hbm, ⟨28, _⟩ => ⟨S1024x3x8, .f32⟩
  | .hbm, ⟨29, _⟩ => ⟨S1024x3x8x1, .f32⟩
  | .hbm, ⟨30, _⟩ => ⟨S1024x3x8x1x64, .f32⟩
  | .hbm, ⟨31, _⟩ => ⟨S1024x3x8x64, .f32⟩
  | .hbm, ⟨32, _⟩ => ⟨S1024x1536, .f32⟩
  | .hbm, ⟨33, _⟩ => ⟨S1024x4864, .f32⟩
  | .hbm, ⟨34, _⟩ => ⟨S1024x4864, .bf16⟩
  | .hbm, ⟨35, _⟩ => ⟨S1024x1024, .f32⟩
  | .hbm, ⟨36, _⟩ => ⟨S1024x768, .f32⟩
  | .hbm, ⟨37, _⟩ => ⟨S1024x1792, .f32⟩
  | .hbm, ⟨38, _⟩ => ⟨S1792x1024, .f32⟩
  | .hbm, ⟨39, _⟩ => ⟨S1792x1024, .bf16⟩
  | .hbm, ⟨40, _⟩ => ⟨S16384x1024, .f32⟩
  | .hbm, ⟨41, _⟩ => ⟨S1024, .f32⟩
  | .hbm, ⟨42, _⟩ => ⟨S1x1024, .f32⟩
  | .hbm, ⟨43, _⟩ => ⟨S16384x512, .bf16⟩
  | .hbm, ⟨44, _⟩ => ⟨S16384x1024, .bf16⟩
  | .hbm, ⟨45, _⟩ => ⟨S16384x512, .bf16⟩
  | .hbm, ⟨46, _⟩ => ⟨S16384x256, .f32⟩
  | .hbm, ⟨47, _⟩ => ⟨S16384x512, .bf16⟩
  | .hbm, ⟨48, _⟩ => ⟨S16384x512, .bf16⟩
  | .hbm, ⟨49, _⟩ => ⟨S16384x1536, .bf16⟩
  | .hbm, ⟨50, _⟩ => ⟨S8x1024x2048, .f32⟩
  | .hbm, ⟨51, _⟩ => ⟨S8x256x2048, .f32⟩
  | .hbm, ⟨52, _⟩ => ⟨S8x256x2048, .f32⟩
  | .hbm, ⟨53, _⟩ => ⟨S8x256x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x4864, .bf16⟩
  | .local _ .vmem, ⟨8, _⟩ => ⟨S1792x1024, .bf16⟩
  | .local _ .vmem, ⟨9, _⟩ => ⟨S256x512, .bf16⟩
  | .local _ .vmem, ⟨10, _⟩ => ⟨S256x512, .bf16⟩
  | .local _ .vmem, ⟨11, _⟩ => ⟨S256x1024, .bf16⟩
  | .local _ .vmem, ⟨12, _⟩ => ⟨S256x1024, .bf16⟩
  | .local _ .vmem, ⟨13, _⟩ => ⟨S256x512, .bf16⟩
  | .local _ .vmem, ⟨14, _⟩ => ⟨S256x512, .bf16⟩
  | .local _ .vmem, ⟨15, _⟩ => ⟨S256x256, .f32⟩
  | .local _ .vmem, ⟨16, _⟩ => ⟨S256x256, .f32⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x1536, .bf16⟩
  | .local _ .vmem, ⟨22, _⟩ => ⟨S256x1536, .bf16⟩
  | .local _ .vmem, ⟨23, _⟩ => ⟨S1x1024x256, .f32⟩
  | .local _ .vmem, ⟨24, _⟩ => ⟨S1x1024x256, .f32⟩
  | .local _ .vmem, ⟨25, _⟩ => ⟨S1x256x256, .f32⟩
  | .local _ .vmem, ⟨26, _⟩ => ⟨S1x256x256, .f32⟩
  | .local _ .vmem, ⟨27, _⟩ => ⟨S1x256x256, .f32⟩
  | .local _ .vmem, ⟨28, _⟩ => ⟨S1x256x256, .f32⟩
  | .local _ .vmem, ⟨29, _⟩ => ⟨S1x256x256, .f32⟩
  | .local _ .vmem, ⟨30, _⟩ => ⟨S1x256x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37_0 : Ref sig .tc := ⟨.hbm, 43, rfl⟩
abbrev main_v37_1 : Ref sig .tc := ⟨.hbm, 44, rfl⟩
abbrev main_v37_2 : Ref sig .tc := ⟨.hbm, 45, rfl⟩
abbrev main_v37_3 : Ref sig .tc := ⟨.hbm, 46, rfl⟩
abbrev main_v37_4 : Ref sig .tc := ⟨.hbm, 47, rfl⟩
abbrev main_v37_5 : Ref sig .tc := ⟨.hbm, 48, rfl⟩
abbrev main_v37_6 : Ref sig .tc := ⟨.hbm, 49, rfl⟩
abbrev main_v37_7 : Ref sig .tc := ⟨.hbm, 50, rfl⟩
abbrev main_v37_8 : Ref sig .tc := ⟨.hbm, 51, rfl⟩
abbrev main_v37_9 : Ref sig .tc := ⟨.hbm, 52, rfl⟩
abbrev main_v37_10 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.remsi arg0 c8_i32_4
  let c0_i32_5 : BitVec 32 := 0#32
  let c0_i32_6 : BitVec 32 := 0#32
  ![v16.toNat, c0_i32_5.toNat, v17.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.remsi arg0 c8_i32_4
  let c0_i32_5 : BitVec 32 := 0#32
  let c0_i32_6 : BitVec 32 := 0#32
  ![v16.toNat, c0_i32_5.toNat, v17.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.remsi arg0 c8_i32_4
  let c0_i32_5 : BitVec 32 := 0#32
  let c0_i32_6 : BitVec 32 := 0#32
  ![v16.toNat, c0_i32_5.toNat, v17.toNat]

def cc0_transform_16 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.remsi arg0 c8_i32_4
  let c0_i32_5 : BitVec 32 := 0#32
  let c0_i32_6 : BitVec 32 := 0#32
  ![v16.toNat, c0_i32_5.toNat, v17.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4864 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1792x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S8x2048x1024 : Shape := ⟨3, ![8, 2048, 1024]⟩
abbrev S8x6144 : Shape := ⟨2, ![8, 6144]⟩
abbrev S1x1024 : Shape := ⟨2, ![1, 1024]⟩
abbrev S1x1024x4888 : Shape := ⟨3, ![1, 1024, 4888]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S1024x4888 : Shape := ⟨2, ![1024, 4888]⟩
abbrev S8x2048x4888 : Shape := ⟨3, ![8, 2048, 4888]⟩
abbrev S8x2048x2840 : Shape := ⟨3, ![8, 2048, 2840]⟩
abbrev S8x2048x512 : Shape := ⟨3, ![8, 2048, 512]⟩
abbrev S8x2048x256 : Shape := ⟨3, ![8, 2048, 256]⟩
abbrev S8x2048x24 : Shape := ⟨3, ![8, 2048, 24]⟩
abbrev S8x2048x8x3 : Shape := ⟨4, ![8, 2048, 8, 3]⟩
abbrev S8x2048x3x8 : Shape := ⟨4, ![8, 2048, 3, 8]⟩
abbrev S8x2048x3x8x1 : Shape := ⟨5, ![8, 2048, 3, 8, 1]⟩
abbrev S8x2048x3x8x64 : Shape := ⟨5, ![8, 2048, 3, 8, 64]⟩
abbrev S16384x1536 : Shape := ⟨2, ![16384, 1536]⟩
abbrev S16384x512 : Shape := ⟨2, ![16384, 512]⟩
abbrev S16384x1024 : Shape := ⟨2, ![16384, 1024]⟩
abbrev S16384x256 : Shape := ⟨2, ![16384, 256]⟩
abbrev S8x2048x4x1x64 : Shape := ⟨5, ![8, 2048, 4, 1, 64]⟩
abbrev S8x2048x4x2x64 : Shape := ⟨5, ![8, 2048, 4, 2, 64]⟩
abbrev S8x1024x2048 : Shape := ⟨3, ![8, 1024, 2048]⟩
abbrev S8x256x2048 : Shape := ⟨3, ![8, 256, 2048]⟩

abbrev nBuf : Space → Nat
  | .hbm => 84
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1x1024, .f32⟩
  | .hbm, ⟨3, _⟩ => ⟨S1x1024x4888, .f32⟩
  | .hbm, ⟨4, _⟩ => ⟨S8x1x6144, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S1024x4888, .f32⟩
  | .hbm, ⟨36, _⟩ => ⟨S8x2048x4888, .f32⟩
  | .hbm, ⟨37, _⟩ => ⟨S8x2048x2840, .f32⟩
  | .hbm, ⟨38, _⟩ => ⟨S8x2048x512, .f32⟩
  | .hbm, ⟨39, _⟩ => ⟨S8x2048x1024, .f32⟩
  | .hbm, ⟨40, _⟩ => ⟨S8x2048x512, .f32⟩
  | .hbm, ⟨41, _⟩ => ⟨S8x2048x256, .f32⟩
  | .hbm, ⟨42, _⟩ => ⟨S8x2048x256, .f32⟩
  | .hbm, ⟨43, _⟩ => ⟨S8x2048x256, .f32⟩
  | .hbm, ⟨44, _⟩ => ⟨S8x2048x24, .f32⟩
  | .hbm, ⟨45, _⟩ => ⟨S8x2048x8x3, .f32⟩
  | .hbm, ⟨46, _⟩ => ⟨S8x2048x8x3, .f32⟩
  | .hbm, ⟨47, _⟩ => ⟨S8x2048x8x3, .f32⟩
  | .hbm, ⟨48, _⟩ => ⟨S_, .f32⟩
  | .hbm, ⟨49, _⟩ => ⟨S8x2048x8x3, .f32⟩
  | .hbm, ⟨50, _⟩ => ⟨S8x2048x8x3, .f32⟩
  | .hbm, ⟨51, _⟩ => ⟨S_, .f32⟩
  | .hbm, ⟨52, _⟩ => ⟨S8x2048x8x3, .f32⟩
  | .hbm, ⟨53, _⟩ => ⟨S8x2048x8x3, .f32⟩
  | .hbm, ⟨54, _⟩ => ⟨S8x2048x3x8, .f32⟩
  | .hbm, ⟨55, _⟩ => ⟨S8x2048x3x8x1, .f32⟩
  | .hbm, ⟨56, _⟩ => ⟨S8x2048x3x8x64, .f32⟩
  | .hbm, ⟨57, _⟩ => ⟨S16384x1536, .f32⟩
  | .hbm, ⟨58, _⟩ => ⟨S_, .f32⟩
  | .hbm, ⟨59, _⟩ => ⟨S8x2048x512, .f32⟩
  | .hbm, ⟨60, _⟩ => ⟨S8x2048x512, .f32⟩
  | .hbm, ⟨61, _⟩ => ⟨S16384x512, .f32⟩
  | .hbm, ⟨62, _⟩ => ⟨S16384x512, .bf16⟩
  | .hbm, ⟨63, _⟩ => ⟨S16384x1024, .f32⟩
  | .hbm, ⟨64, _⟩ => ⟨S16384x1024, .bf16⟩
  | .hbm, ⟨65, _⟩ => ⟨S_, .f32⟩
  | .hbm, ⟨66, _⟩ => ⟨S8x2048x512, .f32⟩
  | .hbm, ⟨67, _⟩ => ⟨S8x2048x512, .f32⟩
  | .hbm, ⟨68, _⟩ => ⟨S16384x512, .f32⟩
  | .hbm, ⟨69, _⟩ => ⟨S16384x512, .bf16⟩
  | .hbm, ⟨70, _⟩ => ⟨S16384x256, .f32⟩
  | .hbm, ⟨71, _⟩ => ⟨S8x2048x4x1x64, .f32⟩
  | .hbm, ⟨72, _⟩ => ⟨S8x2048x4x2x64, .f32⟩
  | .hbm, ⟨73, _⟩ => ⟨S16384x512, .f32⟩
  | .hbm, ⟨74, _⟩ => ⟨S16384x512, .bf16⟩
  | .hbm, ⟨75, _⟩ => ⟨S8x2048x4x1x64, .f32⟩
  | .hbm, ⟨76, _⟩ => ⟨S8x2048x4x2x64, .f32⟩
  | .hbm, ⟨77, _⟩ => ⟨S16384x512, .f32⟩
  | .hbm, ⟨78, _⟩ => ⟨S16384x512, .bf16⟩
  | .hbm, ⟨79, _⟩ => ⟨S16384x1536, .bf16⟩
  | .hbm, ⟨80, _⟩ => ⟨S8x1024x2048, .f32⟩
  | .hbm, ⟨81, _⟩ => ⟨S8x256x2048, .f32⟩
  | .hbm, ⟨82, _⟩ => ⟨S8x256x2048, .f32⟩
  | .hbm, ⟨83, _⟩ => ⟨S8x256x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩

abbrev nD : Nat := 1
abbrev τ : Topo := Topo.v7x

variable {F : FTy → Type} [FloatOps F]
-- ==== Kernel7.lean ====
abbrev S128x4x1024 : Shape := ⟨3, ![128, 4, 1024]⟩
abbrev S128x6144 : Shape := ⟨2, ![128, 6144]⟩
abbrev S1x1024 : Shape := ⟨2, ![1, 1024]⟩
abbrev S1024 : Shape := ⟨1, ![1024]⟩
abbrev S1x1024x4096 : Shape := ⟨3, ![1, 1024, 4096]⟩
abbrev S1x4096x1024 : Shape := ⟨3, ![1, 4096, 1024]⟩
abbrev S128x4x6144 : Shape := ⟨3, ![128, 4, 6144]⟩
abbrev S512x6144 : Shape := ⟨2, ![512, 6144]⟩
abbrev S4x128x6144 : Shape := ⟨3, ![4, 128, 6144]⟩
abbrev S512x1024 : Shape := ⟨2, ![512, 1024]⟩
abbrev S1024x4096 : Shape := ⟨2, ![1024, 4096]⟩
abbrev S4096x1024 : Shape := ⟨2, ![4096, 1024]⟩
abbrev S128x1024 : Shape := ⟨2, ![128, 1024]⟩
abbrev S1x128x1024 : Shape := ⟨3, ![1, 128, 1024]⟩
abbrev S128 : Shape := ⟨1, ![128]⟩
abbrev S128x1 : Shape := ⟨2, ![128, 1]⟩
abbrev S128x4096 : Shape := ⟨2, ![128, 4096]⟩

abbrev nBuf : Space → Nat
  | .hbm => 18
  | .vmem => 14
  | .smem => 0
  | _ => 0

abbrev bufTy : (tb : Table) → Fin (tcTables nBuf tb) → BufTy
  | .hbm, ⟨0, _⟩ => ⟨S128x4x1024, .f32⟩
  | .hbm, ⟨1, _⟩ => ⟨S128x6144, .f32⟩
  | .hbm, ⟨2, _⟩ => ⟨S1x1024, .f32⟩
  | .hbm, ⟨3, _⟩ => ⟨S1024, .f32⟩
  | .hbm, ⟨4, _⟩ => ⟨S1x1024x4096, .f32⟩
  | .hbm, ⟨5, _⟩ => ⟨S1x4096x1024, .f32⟩
  | .hbm, ⟨6, _⟩ => ⟨S128x4x6144, .f32⟩
  | .hbm, ⟨7, _⟩ => ⟨S512x6144, .f32⟩
  | .hbm, ⟨8, _⟩ => ⟨S4x128x6144, .f32⟩
  | .hbm, ⟨9, _⟩ => ⟨S512x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1024x4096, .f32⟩
  | .hbm, ⟨14, _⟩ => ⟨S1024x4096, .bf16⟩
  | .hbm, ⟨15, _⟩ => ⟨S4096x1024, .f32⟩
  | .hbm, ⟨16, _⟩ => ⟨S4096x1024, .bf16⟩
  | .hbm, ⟨17, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S128x1024, .f32⟩
  | .local _ .vmem, ⟨13, _⟩ => ⟨S128x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_4 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S128x4x1024 : Shape := ⟨3, ![128, 4, 1024]⟩
abbrev S128x6144 : Shape := ⟨2, ![128, 6144]⟩
abbrev S1x1024 : Shape := ⟨2, ![1, 1024]⟩
abbrev S1024 : Shape := ⟨1, ![1024]⟩
abbrev S1x1024x4096 : Shape := ⟨3, ![1, 1024, 4096]⟩
abbrev S1x4096x1024 : Shape := ⟨3, ![1, 4096, 1024]⟩
abbrev S128x1x6144 : Shape := ⟨3, ![128, 1, 6144]⟩
abbrev S128x1x1024 : Shape := ⟨3, ![128, 1, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x4096 : Shape := ⟨2, ![1024, 4096]⟩
abbrev S128x4x4096 : Shape := ⟨3, ![128, 4, 4096]⟩
abbrev S4096x1024 : Shape := ⟨2, ![4096, 1024]⟩
abbrev S512x1024 : Shape := ⟨2, ![512, 1024]⟩

abbrev nBuf : Space → Nat
  | .hbm => 65
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x6144, .f32⟩
  | .hbm, ⟨2, _⟩ => ⟨S1x1024, .f32⟩
  | .hbm, ⟨3, _⟩ => ⟨S1024, .f32⟩
  | .hbm, ⟨4, _⟩ => ⟨S1x1024x4096, .f32⟩
  | .hbm, ⟨5, _⟩ => ⟨S1x4096x1024, .f32⟩
  | .hbm, ⟨6, _⟩ => ⟨S128x1x6144, .f32⟩
  | .hbm, ⟨7, _⟩ => ⟨S128x1x1024, .f32⟩
  | .hbm, ⟨8, _⟩ => ⟨S128x1x1024, .f32⟩
  | .hbm, ⟨9, _⟩ => ⟨S128x1x1024, .f32⟩
  | .hbm, ⟨10, _⟩ => ⟨S128x1x1024, .f32⟩
  | .hbm, ⟨11, _⟩ => ⟨S128x1x1024, .f32⟩
  | .hbm, ⟨12, _⟩ => ⟨S128x1x1024, .f32⟩
  | .hbm, ⟨13, _⟩ => ⟨S1024, .f32⟩
  | .hbm, ⟨14, _⟩ => ⟨S128x4x1024, .f32⟩
  | .hbm, ⟨15, _⟩ => ⟨S_, .f32⟩
  | .hbm, ⟨16, _⟩ => ⟨S128x4, .f32⟩
  | .hbm, ⟨17, _⟩ => ⟨S128x4x1, .f32⟩
  | .hbm, ⟨18, _⟩ => ⟨S_, .f32⟩
  | .hbm, ⟨19, _⟩ => ⟨S128x4x1, .f32⟩
  | .hbm, ⟨20, _⟩ => ⟨S128x4x1, .f32⟩
  | .hbm, ⟨21, _⟩ => ⟨S_, .f32⟩
  | .hbm, ⟨22, _⟩ => ⟨S128x4x1, .f32⟩
  | .hbm, ⟨23, _⟩ => ⟨S128x4x1, .f32⟩
  | .hbm, ⟨24, _⟩ => ⟨S128x4x1, .f32⟩
  | .hbm, ⟨25, _⟩ => ⟨S128x4x1024, .f32⟩
  | .hbm, ⟨26, _⟩ => ⟨S128x4x1024, .f32⟩
  | .hbm, ⟨27, _⟩ => ⟨S1x1x1024, .f32⟩
  | .hbm, ⟨28, _⟩ => ⟨S128x4x1024, .f32⟩
  | .hbm, ⟨29, _⟩ => ⟨S128x4x1024, .f32⟩
  | .hbm, ⟨30, _⟩ => ⟨S_, .f32⟩
  | .hbm, ⟨31, _⟩ => ⟨S128x1x1024, .f32⟩
  | .hbm, ⟨32, _⟩ => ⟨S128x1x1024, .f32⟩
  | .hbm, ⟨33, _⟩ => ⟨S128x4x1024, .f32⟩
  | .hbm, ⟨34, _⟩ => ⟨S128x4x1024, .f32⟩
  | .hbm, ⟨35, _⟩ => ⟨S128x4x1024, .f32⟩
  | .hbm, ⟨36, _⟩ => ⟨S128x4x1024, .f32⟩
  | .hbm, ⟨37, _⟩ => ⟨S1024x4096, .f32⟩
  | .hbm, ⟨38, _⟩ => ⟨S128x4x4096, .f32⟩
  | .hbm, ⟨39, _⟩ => ⟨S_, .f32⟩
  | .hbm, ⟨40, _⟩ => ⟨S128x4x4096, .f32⟩
  | .hbm, ⟨41, _⟩ => ⟨S128x4x4096, .f32⟩
  | .hbm, ⟨42, _⟩ => ⟨S128x4x4096, .f32⟩
  | .hbm, ⟨43, _⟩ => ⟨S4096x1024, .f32⟩
  | .hbm, ⟨44, _⟩ => ⟨S128x4x1024, .f32⟩
  | .hbm, ⟨45, _⟩ => ⟨S128x4x1024, .f32⟩
  | .hbm, ⟨46, _⟩ => ⟨S128x4x1024, .f32⟩
  | .hbm, ⟨47, _⟩ => ⟨S128x4x1024, .f32⟩
  | .hbm, ⟨48, _⟩ => ⟨S128x4x1024, .f32⟩
  | .hbm, ⟨49, _⟩ => ⟨S_, .f32⟩
  | .hbm, ⟨50, _⟩ => ⟨S128x4, .f32⟩
  | .hbm, ⟨51, _⟩ => ⟨S128x4x1, .f32⟩
  | .hbm, ⟨52, _⟩ => ⟨S_, .f32⟩
  | .hbm, ⟨53, _⟩ => ⟨S128x4x1, .f32⟩
  | .hbm, ⟨54, _⟩ => ⟨S128x4x1, .f32⟩
  | .hbm, ⟨55, _⟩ => ⟨S_, .f32⟩
  | .hbm, ⟨56, _⟩ => ⟨S128x4x1, .f32⟩
  | .hbm, ⟨57, _⟩ => ⟨S128x4x1, .f32⟩
  | .hbm, ⟨58, _⟩ => ⟨S128x4x1, .f32⟩
  | .hbm, ⟨59, _⟩ => ⟨S128x4x1024, .f32⟩
  | .hbm, ⟨60, _⟩ => ⟨S128x4x1024, .f32⟩
  | .hbm, ⟨61, _⟩ => ⟨S1x1x1024, .f32⟩
  | .hbm, ⟨62, _⟩ => ⟨S128x4x1024, .f32⟩
  | .hbm, ⟨63, _⟩ => ⟨S128x4x1024, .f32⟩
  | .hbm, ⟨64, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Kernel8.lean ====
abbrev S128x4x1024 : Shape := ⟨3, ![128, 4, 1024]⟩
abbrev S128x6144 : Shape := ⟨2, ![128, 6144]⟩
abbrev S1x1024 : Shape := ⟨2, ![1, 1024]⟩
abbrev S1x1024x4888 : Shape := ⟨3, ![1, 1024, 4888]⟩
abbrev S128x4x8x64 : Shape := ⟨4, ![128, 4, 8, 64]⟩
abbrev S128x4x2x4x64 : Shape := ⟨5, ![128, 4, 2, 4, 64]⟩
abbrev S1x512x1024 : Shape := ⟨3, ![1, 512, 1024]⟩
abbrev S1x1024x1024 : Shape := ⟨3, ![1, 1024, 1024]⟩
abbrev S128x4x6144 : Shape := ⟨3, ![128, 4, 6144]⟩
abbrev S512x6144 : Shape := ⟨2, ![512, 6144]⟩
abbrev S4x128x6144 : Shape := ⟨3, ![4, 128, 6144]⟩
abbrev S512x1024 : Shape := ⟨2, ![512, 1024]⟩
abbrev S1024 : Shape := ⟨1, ![1024]⟩
abbrev S512x512 : Shape := ⟨2, ![512, 512]⟩
abbrev S1024x4888 : Shape := ⟨2, ![1024, 4888]⟩
abbrev S1024x2048 : Shape := ⟨2, ![1024, 2048]⟩
abbrev S1024x1024 : Shape := ⟨2, ![1024, 1024]⟩
abbrev S128x1024 : Shape := ⟨2, ![128, 1024]⟩
abbrev S1x128x1024 : Shape := ⟨3, ![1, 128, 1024]⟩
abbrev S128x512 : Shape := ⟨2, ![128, 512]⟩
abbrev S128 : Shape := ⟨1, ![128]⟩
abbrev S128x1 : Shape := ⟨2, ![128, 1]⟩

abbrev nBuf : Space → Nat
  | .hbm => 29
  | .vmem => 19
  | .smem => 0
  | _ => 0

abbrev bufTy : (tb : Table) → Fin (tcTables nBuf tb) → BufTy
  | .hbm, ⟨0, _⟩ => ⟨S128x4x1024, .f32⟩
  | .hbm, ⟨1, _⟩ => ⟨S128x6144, .f32⟩
  | .hbm, ⟨2, _⟩ => ⟨S1x1024, .f32⟩
  | .hbm, ⟨3, _⟩ => ⟨S1x1024x4888, .f32⟩
  | .hbm, ⟨4, _⟩ => ⟨S128x4x8x64, .f32⟩
  | .hbm, ⟨5, _⟩ => ⟨S128x4x2x4x64, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S128x4x6144, .f32⟩
  | .hbm, ⟨10, _⟩ => ⟨S512x6144, .f32⟩
  | .hbm, ⟨11, _⟩ => ⟨S4x128x6144, .f32⟩
  | .hbm, ⟨12, _⟩ => ⟨S512x1024, .f32⟩
  | .hbm, ⟨13, _⟩ => ⟨S1024, .f32⟩
  | .hbm, ⟨14, _⟩ => ⟨S1x1024, .f32⟩
  | .hbm, ⟨15, _⟩ => ⟨S128x4x8x64, .bf16⟩
  | .hbm, ⟨16, _⟩ => ⟨S512x512, .bf16⟩
  | .hbm, ⟨17, _⟩ => ⟨S128x4x2x4x64, .bf16⟩
  | .hbm, ⟨18, _⟩ => ⟨S512x512, .bf16⟩
  | .hbm, ⟨19, _⟩ => ⟨S1024x4888, .f32⟩
  | .hbm, ⟨20, _⟩ => ⟨S1024x2048, .f32⟩
  | .hbm, ⟨21, _⟩ => ⟨S1024x2048, .bf16⟩
  | .hbm, ⟨22, _⟩ => ⟨S512x1024, .f32⟩
  | .hbm, ⟨23, _⟩ => ⟨S512x1024, .bf16⟩
  | .hbm, ⟨24, _⟩ => ⟨S512x1024, .f32⟩
  | .hbm, ⟨25, _⟩ => ⟨S512x1024, .bf16⟩
  | .hbm, ⟨26, _⟩ => ⟨S1024x1024, .f32⟩
  | .hbm, ⟨27, _⟩ => ⟨S1024x1024, .bf16⟩
  | .hbm, ⟨28, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S1024x2048, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S128x1024, .f32⟩
  | .local _ .vmem, ⟨18, _⟩ => ⟨S128x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference8Ideal.lean ====
abbrev S128x4x1024 : Shape := ⟨3, ![128, 4, 1024]⟩
abbrev S128x6144 : Shape := ⟨2, ![128, 6144]⟩
abbrev S1x1024 : Shape := ⟨2, ![1, 1024]⟩
abbrev S1x1024x4888 : Shape := ⟨3, ![1, 1024, 4888]⟩
abbrev S128x4x8x64 : Shape := ⟨4, ![128, 4, 8, 64]⟩
abbrev S128x4x2x4x64 : Shape := ⟨5, ![128, 4, 2, 4, 64]⟩
abbrev S1x512x1024 : Shape := ⟨3, ![1, 512, 1024]⟩
abbrev S1x1024x1024 : Shape := ⟨3, ![1, 1024, 1024]⟩
abbrev S128x1x6144 : Shape := ⟨3, ![128, 1, 6144]⟩
abbrev S128x1x1024 : Shape := ⟨3, ![128, 1, 1024]⟩
abbrev S_ : Shape := ⟨0, ![]⟩
abbrev S128x4 : Shape := ⟨2, ![128, 4]⟩
abbrev S128x4x1 : Shape := ⟨3, ![128, 4, 1]⟩
abbrev S1024 : Shape := ⟨1, ![1024]⟩
abbrev S1x1x1024 : Shape := ⟨3, ![1, 1, 1024]⟩
abbrev S1024x4888 : Shape := ⟨2, ![1024, 4888]⟩
abbrev S128x4x4888 : Shape := ⟨3, ![128, 4, 4888]⟩
abbrev S128x4x512 : Shape := ⟨3, ![128, 4, 512]⟩
abbrev S512x1024 : Shape := ⟨2, ![512, 1024]⟩
abbrev S1024x1024 : Shape := ⟨2, ![1024, 1024]⟩

abbrev nBuf : Space → Nat
  | .hbm => 75
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x6144, .f32⟩
  | .hbm, ⟨2, _⟩ => ⟨S1x1024, .f32⟩
  | .hbm, ⟨3, _⟩ => ⟨S1x1024x4888, .f32⟩
  | .hbm, ⟨4, _⟩ => ⟨S128x4x8x64, .f32⟩
  | .hbm, ⟨5, _⟩ => ⟨S128x4x2x4x64, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S128x1x6144, .f32⟩
  | .hbm, ⟨10, _⟩ => ⟨S128x1x1024, .f32⟩
  | .hbm, ⟨11, _⟩ => ⟨S128x1x1024, .f32⟩
  | .hbm, ⟨12, _⟩ => ⟨S128x1x1024, .f32⟩
  | .hbm, ⟨13, _⟩ => ⟨S128x1x1024, .f32⟩
  | .hbm, ⟨14, _⟩ => ⟨S128x1x1024, .f32⟩
  | .hbm, ⟨15, _⟩ => ⟨S128x1x1024, .f32⟩
  | .hbm, ⟨16, _⟩ => ⟨S128x4x1024, .f32⟩
  | .hbm, ⟨17, _⟩ => ⟨S_, .f32⟩
  | .hbm, ⟨18, _⟩ => ⟨S128x4, .f32⟩
  | .hbm, ⟨19, _⟩ => ⟨S128x4x1, .f32⟩
  | .hbm, ⟨20, _⟩ => ⟨S_, .f32⟩
  | .hbm, ⟨21, _⟩ => ⟨S128x4x1, .f32⟩
  | .hbm, ⟨22, _⟩ => ⟨S128x4x1, .f32⟩
  | .hbm, ⟨23, _⟩ => ⟨S_, .f32⟩
  | .hbm, ⟨24, _⟩ => ⟨S128x4x1, .f32⟩
  | .hbm, ⟨25, _⟩ => ⟨S128x4x1, .f32⟩
  | .hbm, ⟨26, _⟩ => ⟨S128x4x1, .f32⟩
  | .hbm, ⟨27, _⟩ => ⟨S128x4x1024, .f32⟩
  | .hbm, ⟨28, _⟩ => ⟨S128x4x1024, .f32⟩
  | .hbm, ⟨29, _⟩ => ⟨S1024, .f32⟩
  | .hbm, ⟨30, _⟩ => ⟨S1x1x1024, .f32⟩
  | .hbm, ⟨31, _⟩ => ⟨S128x4x1024, .f32⟩
  | .hbm, ⟨32, _⟩ => ⟨S128x4x1024, .f32⟩
  | .hbm, ⟨33, _⟩ => ⟨S_, .f32⟩
  | .hbm, ⟨34, _⟩ => ⟨S128x1x1024, .f32⟩
  | .hbm, ⟨35, _⟩ => ⟨S128x1x1024, .f32⟩
  | .hbm, ⟨36, _⟩ => ⟨S128x4x1024, .f32⟩
  | .hbm, ⟨37, _⟩ => ⟨S128x4x1024, .f32⟩
  | .hbm, ⟨38, _⟩ => ⟨S128x4x1024, .f32⟩
  | .hbm, ⟨39, _⟩ => ⟨S128x4x1024, .f32⟩
  | .hbm, ⟨40, _⟩ => ⟨S1024x4888, .f32⟩
  | .hbm, ⟨41, _⟩ => ⟨S128x4x4888, .f32⟩
  | .hbm, ⟨42, _⟩ => ⟨S128x4x1024, .f32⟩
  | .hbm, ⟨43, _⟩ => ⟨S128x4x1024, .f32⟩
  | .hbm, ⟨44, _⟩ => ⟨S128x4x1024, .f32⟩
  | .hbm, ⟨45, _⟩ => ⟨S_, .f32⟩
  | .hbm, ⟨46, _⟩ => ⟨S128x4x1024, .f32⟩
  | .hbm, ⟨47, _⟩ => ⟨S128x4x1024, .f32⟩
  | .hbm, ⟨48, _⟩ => ⟨S_, .f32⟩
  | .hbm, ⟨49, _⟩ => ⟨S128x4x1024, .f32⟩
  | .hbm, ⟨50, _⟩ => ⟨S128x4x1024, .f32⟩
  | .hbm, ⟨51, _⟩ => ⟨S128x4x1024, .f32⟩
  | .hbm, ⟨52, _⟩ => ⟨S128x4x1024, .f32⟩
  | .hbm, ⟨53, _⟩ => ⟨S128x4x1024, .f32⟩
  | .hbm, ⟨54, _⟩ => ⟨S_, .f32⟩
  | .hbm, ⟨55, _⟩ => ⟨S128x4x1024, .f32⟩
  | .hbm, ⟨56, _⟩ => ⟨S128x4x1024, .f32⟩
  | .hbm, ⟨57, _⟩ => ⟨S_, .f32⟩
  | .hbm, ⟨58, _⟩ => ⟨S128x4x1024, .f32⟩
  | .hbm, ⟨59, _⟩ => ⟨S128x4x1024, .f32⟩
  | .hbm, ⟨60, _⟩ => ⟨S128x4x512, .f32⟩
  | .hbm, ⟨61, _⟩ => ⟨S512x1024, .f32⟩
  | .hbm, ⟨62, _⟩ => ⟨S128x4x1024, .f32⟩
  | .hbm, ⟨63, _⟩ => ⟨S128x4x512, .f32⟩
  | .hbm, ⟨64, _⟩ => ⟨S512x1024, .f32⟩
  | .hbm, ⟨65, _⟩ => ⟨S128x4x1024, .f32⟩
  | .hbm, ⟨66, _⟩ => ⟨S128x4x1024, .f32⟩
  | .hbm, ⟨67, _⟩ => ⟨S128x4x1024, .f32⟩
  | .hbm, ⟨68, _⟩ => ⟨S128x4x1024, .f32⟩
  | .hbm, ⟨69, _⟩ => ⟨S1024x1024, .f32⟩
  | .hbm, ⟨70, _⟩ => ⟨S128x4x1024, .f32⟩
  | .hbm, ⟨71, _⟩ => ⟨S128x4x1024, .f32⟩
  | .hbm, ⟨72, _⟩ => ⟨S128x4x1024, .f32⟩
  | .hbm, ⟨73, _⟩ => ⟨S128x4x1024, .f32⟩
  | .hbm, ⟨74, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Proof.SbMath.lean ====
/- Real-number facts behind one row of stick-breaking attention: the log of the stick that is left, its sums over
   ranges of keys, and the same expressions as the programs write them over extended reals. -/
module

public import Idealize.ShloMosaic.Lib.Pointwise
public import Idealize.ShloMosaic.Lib.Claim

@[expose] public section

noncomputable section

namespace Cert.Sb

open Idealize.ShloMosaic Finset

/-- The log of the logistic function, in its stable form. -/
def lsz (z : ℝ) : ℝ := min z 0 - Real.log (1 + Real.exp (-|z|))

theorem coe_sum {ι : Type} (s : Finset ι) (f : ι → ℝ) : ∑ x ∈ s, (f x : EReal) = ((∑ x ∈ s, f x : ℝ) : EReal) := by
  classical
  induction s using Finset.induction_on with
  | empty => simp
  | insert a s h ih => rw [sum_insert h, sum_insert h, ih, EReal.coe_add]

theorem absf_coe (z : ℝ) : max (z : EReal) (-(z : EReal)) = ((|z| : ℝ) : EReal) := by
  rw [← EReal.coe_neg]; exact (EReal.coe_strictMono.monotone.map_max).symm

theorem log_one_exp (z : ℝ) : Ideal.log (1 + Ideal.exp (z : EReal)) = ((Real.log (1 + Real.exp z) : ℝ) : EReal) := by
  rw [Ideal.exp_coe, ← EReal.coe_one, ← EReal.coe_add, Ideal.log_coe, if_neg]
  have := Real.exp_pos z
  linarith

/-- The stable form as the kernel writes it. -/
theorem lsz_coe (z : ℝ) : min (z : EReal) 0 - Ideal.log (1 + Ideal.exp (0 - max (z : EReal) (-(z : EReal)))) = ((lsz z : ℝ) : EReal) := by
  rw [absf_coe, zero_sub, ← EReal.coe_neg, log_one_exp, ← EReal.coe_zero, ← EReal.coe_strictMono.monotone.map_min, ← EReal.coe_sub]; rfl

/-- The log of one minus the logistic function. -/
theorem lsz_neg (z : ℝ) : lsz (-z) = lsz z - z := by
  have : min (-z) 0 = min z 0 - z := by
    rcases le_total z 0 with h | h
    · rw [min_eq_right (by linarith), min_eq_left h]; ring
    · rw [min_eq_left (by linarith), min_eq_right h]; ring
  rw [lsz, lsz, abs_neg, this]; ring

/-- What key `s` adds to the log of the stick left to earlier keys, for a row at position `q`. -/
def fm (z : ℕ → ℝ) (q s : ℕ) : ℝ := if s < q then lsz (z s) - z s else 0

/-- The weight of key `s`: its own share of what the keys after it leave. -/
def wt (z : ℕ → ℝ) (q s : ℕ) : ℝ := if s < q then Real.exp (lsz (z s) + ∑ u ∈ Ico (s + 1) 2048, fm z q u) else 0

/-- What the keys from `j` on add together. -/
def rest (z : ℕ → ℝ) (q j : ℕ) : ℝ := ∑ u ∈ Ico j 2048, fm z q u

theorem rest_split (z : ℕ → ℝ) (q j k : ℕ) (h : j ≤ k) (hk : k ≤ 2048) : rest z q j = ∑ u ∈ Ico j k, fm z q u + rest z q k :=
  (sum_Ico_consecutive _ h hk).symm

theorem rest_zero (z : ℕ → ℝ) (q j : ℕ) (h : q ≤ j) : rest z q j = 0 := by
  refine sum_eq_zero fun u hu => ?_
  rw [mem_Ico] at hu
  rw [fm, if_neg (by omega)]

theorem sum_Ico_fin (f : ℕ → ℝ) (b n : ℕ) : ∑ u ∈ Ico b (b + n), f u = ∑ x : Fin n, f (b + x.val) := by
  rw [sum_Ico_eq_sum_range, Nat.add_sub_cancel_left, Finset.sum_range]

theorem sum_Ico_tail (f : ℕ → ℝ) (b n t : ℕ) : ∑ u ∈ Ico (b + t + 1) (b + n), f u = ∑ x : Fin n, if t < x.val then f (b + x.val) else 0 := by
  rw [← Finset.sum_range (fun x => if t < x then f (b + x) else 0), ← sum_filter, sum_Ico_eq_sum_range]
  refine sum_bij' (fun x _ => x + t + 1) (fun x _ => x - (t + 1)) ?_ ?_ ?_ ?_ ?_ <;> simp only [mem_range, mem_filter] <;> intros <;> try omega
  congr 1; omega

end Cert.Sb

end

end
-- ==== Proof.SbTri.lean ====
/- The triangle matrix the kernel multiplies by, and what a multiplication by it sums: the left half gives the terms
   after a key inside its tile, the right half the whole tile. -/
module

public import proofs.«01_k».proof.Proof.Gen.KernelIdeal.Skeleton
public import proofs.«01_k».proof.Proof.SbMath
public import Idealize.ShloMosaic.Lib.Pipeline.ValueKit

@[expose] public section

set_option maxRecDepth 16384

noncomputable section

namespace Cert.KernelIdeal.Sb

open Cert.KernelIdeal Cert.KernelIdeal.Gen Idealize.ShloMosaic Idealize.ShloMosaic.TcCoe Idealize.SL.Sem Cert.Sb Finset

theorem tri_bits : ∀ r s : Fin 256, IntOp.ori (IntOp.cmpi .sge (BitVec.ofNat 32 s.val) 128#32) (IntOp.cmpi .sgt (IntOp.andi (BitVec.ofNat 32 r.val) 127#32) (BitVec.ofNat 32 s.val)) = if 128 ≤ s.val ∨ s.val < r.val % 128 then 1#1 else 0#1 := by decide +kernel

theorem tri_apply (r s : Fin 256) : k0_pay58 (F := Ideal) (ix2 r s) = if 128 ≤ s.val ∨ s.val < r.val % 128 then (1:EReal) else 0 := by
  pointwise [k0_pay58]
  rw [tri_bits]
  split <;> rfl

/-- What column `y` of the product with the triangle matrix sums, for the tile of keys from `b`. -/
def tileSum (f : ℕ → ℝ) (b y : ℕ) : ℝ := if y < 128 then ∑ u ∈ Ico (b + y + 1) (b + 128), f u else ∑ u ∈ Ico b (b + 128), f u

theorem tileSum_lo (f : ℕ → ℝ) (b y : ℕ) (h : y < 128) : tileSum f b y = ∑ u ∈ Ico (b + y + 1) (b + 128), f u := if_pos h
theorem tileSum_hi (f : ℕ → ℝ) (b y : ℕ) : tileSum f b (128 + y) = ∑ u ∈ Ico b (b + 128), f u := if_neg (by omega)

theorem tri_sum (f : ℕ → ℝ) (b : ℕ) (y : Fin 256) (h1 : ∀ x : Fin 128, x.val < 256) (h2 : ∀ x : Fin 128, 128 + x.val < 256) :
    ∑ x : Fin 128, (f (b + x.val) : EReal) * k0_pay58 (F := Ideal) (ix2 ⟨x.val, h1 x⟩ y)
      + ∑ x : Fin 128, ((f (b + x.val) : EReal) - (f (b + x.val) : EReal)) * k0_pay58 (F := Ideal) (ix2 ⟨128 + x.val, h2 x⟩ y)
      = (tileSum f b y.val : EReal) := by
  have e2 : ∀ x : Fin 128, ((f (b + x.val) : EReal) - (f (b + x.val) : EReal)) * k0_pay58 (F := Ideal) (ix2 ⟨128 + x.val, h2 x⟩ y) = 0 := by
    intro x
    rw [← EReal.coe_sub, sub_self, EReal.coe_zero, zero_mul]
  rw [Finset.sum_congr rfl (fun x _ => e2 x), Finset.sum_const_zero, add_zero, tileSum]
  split
  · next h =>
    rw [sum_Ico_tail, ← coe_sum]
    refine Finset.sum_congr rfl fun x _ => ?_
    have hx := x.isLt
    rw [tri_apply]
    by_cases c : y.val < x.val
    · rw [if_pos (Or.inr (show y.val < x.val % 128 by omega)), if_pos c, mul_one]
    · rw [if_neg (show ¬ (128 ≤ y.val ∨ y.val < x.val % 128) by omega), if_neg c, mul_zero, EReal.coe_zero]
  · next h =>
    rw [sum_Ico_fin, ← coe_sum]
    refine Finset.sum_congr rfl fun x _ => ?_
    rw [tri_apply, if_pos (Or.inl (by omega)), mul_one]

/-- The weighted values of the keys from `j` on. -/
def tot (z : ℕ → ℝ) (q : ℕ) (v : ℕ → ℝ) (j : ℕ) : ℝ := ∑ s ∈ Ico j 2048, wt z q s * v s

theorem tot_split (z : ℕ → ℝ) (q : ℕ) (v : ℕ → ℝ) (j k : ℕ) (h : j ≤ k) (hk : k ≤ 2048) :
    tot z q v j = ∑ u ∈ Ico j k, wt z q u * v u + tot z q v k := (sum_Ico_consecutive _ h hk).symm

theorem exp_wt (z : ℕ → ℝ) (q s : ℕ) (h : s < q) (x : EReal) (hx : x = ((lsz (z s) + rest z q (s + 1) : ℝ) : EReal)) :
    Ideal.exp x = (wt z q s : EReal) := by
  rw [hx, Ideal.exp_coe, wt, if_pos h]; rfl

end Cert.KernelIdeal.Sb

end

end
-- ==== Proof.SbFour.lean ====
/- One trip of the kernel's loop over the keys: four tiles of 128 keys, all of them before the row. -/
module

public import proofs.«01_k».proof.Proof.SbTri

@[expose] public section

set_option maxRecDepth 16384

noncomputable section

namespace Cert.KernelIdeal.Sb

open Cert.KernelIdeal Cert.KernelIdeal.Gen Idealize.ShloMosaic Idealize.ShloMosaic.TcCoe Idealize.SL.Sem Cert.Sb Finset

/-- What a row of the kernel's query block and four tiles of keys must satisfy: the scores are the numbers `z`. -/
def Scores4 (qs k : FVec Ideal S512x128 .bf16) (z : ℕ → ℝ) (b : ℕ) (r : Fin 512) : Prop :=
  ∀ s : Fin 512, ∑ x : Fin 128, qs (ix2 r x) * k (ix2 s x) = (z (b + s.val) : EReal)

section
variable {qs k : FVec Ideal S512x128 .bf16} {z : ℕ → ℝ} {b q : ℕ} {r : Fin 512}

theorem score4 (h : Scores4 qs k z b r) (s : Fin 512) : k0_pay44 (F := Ideal) qs k (ix2 r s) = (z (b + s.val) : EReal) := by
  pointwise [k0_pay44]
  exact h s

theorem lsz4 (h : Scores4 qs k z b r) (s : Fin 512) : k0_pay45 (F := Ideal) qs k (ix2 r s) = (lsz (z (b + s.val)) : EReal) := by
  pointwise [k0_pay45, k0_pay44]
  rw [h s]
  exact lsz_coe _

theorem diff4 (h : Scores4 qs k z b r) (hq : b + 512 ≤ q) (s : Fin 512) :
    k0_pay45 (F := Ideal) qs k (ix2 r s) - k0_pay44 (F := Ideal) qs k (ix2 r s) = (fm z q (b + s.val) : EReal) := by
  have := s.isLt
  rw [lsz4 h, score4 h, ← EReal.coe_sub, fm, if_pos (by omega)]

set_option maxHeartbeats 1600000 in
theorem tile4_0 (h : Scores4 qs k z b r) (hq : b + 512 ≤ q) (y : Fin 256) :
    k0_pay46 (F := Ideal) qs (k0_pay58 (F := Ideal)) k (ix2 ⟨r.val, by omega⟩ y) = (tileSum (fm z q) b y.val : EReal) := by
  pointwise [k0_pay46]
  simp only [diff4 h hq]
  exact tri_sum (fm z q) b y _ _

set_option maxHeartbeats 1600000 in
theorem tile4_1 (h : Scores4 qs k z b r) (hq : b + 512 ≤ q) (y : Fin 256) :
    k0_pay46 (F := Ideal) qs (k0_pay58 (F := Ideal)) k (ix2 ⟨512 + r.val, by omega⟩ y) = (tileSum (fm z q) (b + 128) y.val : EReal) := by
  pointwise [k0_pay46]
  simp only [diff4 h hq, ← Nat.add_assoc]
  exact tri_sum (fm z q) (b + 128) y _ _

set_option maxHeartbeats 1600000 in
theorem tile4_2 (h : Scores4 qs k z b r) (hq : b + 512 ≤ q) (y : Fin 256) :
    k0_pay46 (F := Ideal) qs (k0_pay58 (F := Ideal)) k (ix2 ⟨1024 + r.val, by omega⟩ y) = (tileSum (fm z q) (b + 256) y.val : EReal) := by
  pointwise [k0_pay46]
  have hr := r.isLt
  have e : 1024 + r.val - 512 - 512 = r.val := by omega
  simp (disch := omega) only [dif_neg, dif_pos, e, Fin.eta]
  simp only [diff4 h hq, ← Nat.add_assoc]
  exact tri_sum (fm z q) (b + 256) y _ _

set_option maxHeartbeats 1600000 in
theorem tile4_3 (h : Scores4 qs k z b r) (hq : b + 512 ≤ q) (y : Fin 256) :
    k0_pay46 (F := Ideal) qs (k0_pay58 (F := Ideal)) k (ix2 ⟨1536 + r.val, by omega⟩ y) = (tileSum (fm z q) (b + 384) y.val : EReal) := by
  pointwise [k0_pay46]
  have hr := r.isLt
  have e : 1536 + r.val - 512 - 512 - 512 = r.val := by omega
  simp (disch := omega) only [dif_neg, dif_pos, e, Fin.eta]
  simp only [diff4 h hq, ← Nat.add_assoc]
  exact tri_sum (fm z q) (b + 384) y _ _

variable {C : FVec Ideal S512x128 .f32}

theorem rest4 (b' n : ℕ) (h : b' + n ≤ 2048) : ∑ u ∈ Ico b' (b' + n), fm z q u + rest z q (b' + n) = rest z q b' :=
  (rest_split z q b' (b' + n) (by omega) h).symm

theorem restIn (b' x n : ℕ) (hx : x < n) (h : b' + n ≤ 2048) : ∑ u ∈ Ico (b' + x + 1) (b' + n), fm z q u + rest z q (b' + n) = rest z q (b' + x + 1) :=
  (rest_split z q (b' + x + 1) (b' + n) (by omega) h).symm

section
variable (h : Scores4 qs k z b r) (hq : b + 512 ≤ q) (h2 : b + 512 ≤ 2048) (hC : ∀ l : Fin 128, C (ix2 r l) = (rest z q (b + 512) : EReal))
include h hq h2 hC

theorem carry4_3 (l : Fin 128) : C (ix2 r l) + k0_pay49 (F := Ideal) qs (k0_pay58 (F := Ideal)) k (ix2 r l) = (rest z q (b + 384) : EReal) := by
  pointwise [k0_pay49, k0_pay47]
  rw [tile4_3 h hq, hC, tileSum_hi, ← EReal.coe_add, add_comm]
  exact congrArg _ (rest4 (z := z) (q := q) (b + 384) 128 (by omega))

theorem carry4_2 (l : Fin 128) : k0_pay3 (F := Ideal) (k0_pay46 (F := Ideal) qs (k0_pay58 (F := Ideal)) k) C (k0_pay49 (F := Ideal) qs (k0_pay58 (F := Ideal)) k) (ix2 r l) = (rest z q (b + 256) : EReal) := by
  pointwise [k0_pay3, k0_pay1, k0_pay2]
  rw [carry4_3 h hq h2 hC, tile4_2 h hq, tileSum_hi, ← EReal.coe_add, add_comm]
  exact congrArg _ (rest4 (z := z) (q := q) (b + 256) 128 (by omega))

theorem carry4_1 (l : Fin 128) : k0_pay5 (F := Ideal) (k0_pay46 (F := Ideal) qs (k0_pay58 (F := Ideal)) k) C (k0_pay49 (F := Ideal) qs (k0_pay58 (F := Ideal)) k) (ix2 r l) = (rest z q (b + 128) : EReal) := by
  have e := carry4_2 h hq h2 hC l
  pointwise [k0_pay5, k0_pay4]
  rw [e, tile4_1 h hq, tileSum_hi, ← EReal.coe_add, add_comm]
  exact congrArg _ (rest4 (z := z) (q := q) (b + 128) 128 (by omega))

theorem carry4 (l : Fin 128) : k0_pay7 (F := Ideal) (k0_pay46 (F := Ideal) qs (k0_pay58 (F := Ideal)) k) C (k0_pay49 (F := Ideal) qs (k0_pay58 (F := Ideal)) k) (ix2 r l) = (rest z q b : EReal) := by
  have e := carry4_1 h hq h2 hC l
  pointwise [k0_pay7, k0_pay6]
  rw [e, tile4_0 h hq, tileSum_hi, ← EReal.coe_add, add_comm]
  exact congrArg _ (rest4 (z := z) (q := q) b 128 (by omega))

theorem last4 (x : Fin 128) : k0_pay48 (F := Ideal) qs (k0_pay58 (F := Ideal)) k C (ix2 r x) = ((lsz (z (b + 384 + x.val)) + rest z q (b + 384 + x.val + 1) : ℝ) : EReal) := by
  have hx := x.isLt
  pointwise [k0_pay48, k0_pay47]
  rw [lsz4 h, tile4_3 h hq, hC, tileSum_lo _ _ _ hx, ← EReal.coe_add, ← EReal.coe_add, add_assoc]
  simp only [← Nat.add_assoc]
  exact congrArg _ (congrArg _ (restIn (z := z) (q := q) (b + 384) x.val 128 hx (by omega)))

set_option maxHeartbeats 1600000 in
/-- Four tiles add the weighted values of their keys. -/
theorem acc4 (v : ℕ → ℝ) (l : Fin 128) (a3 : FVec Ideal S512x128 .bf16) (acc : FVec Ideal S512x128 .f32)
    (hv : ∀ x : Fin 512, a3 (ix2 x l) = (v (b + x.val) : EReal)) (ha : acc (ix2 r l) = (tot z q v (b + 512) : EReal)) :
    k0_pay8 (F := Ideal) a3 (k0_pay45 (F := Ideal) qs k) (k0_pay46 (F := Ideal) qs (k0_pay58 (F := Ideal)) k) C (k0_pay48 (F := Ideal) qs (k0_pay58 (F := Ideal)) k C) (k0_pay49 (F := Ideal) qs (k0_pay58 (F := Ideal)) k) acc (ix2 r l) = (tot z q v b : EReal) := by
  pointwise [k0_pay8]
  rw [ha, tot_split z q v b (b + 512) (by omega) h2, sum_Ico_fin, add_comm, EReal.coe_add]
  refine congrArg (· + _) ?_
  rw [← coe_sum]
  refine Finset.sum_congr rfl fun x _ => ?_
  have hx := x.isLt
  rw [hv x, EReal.coe_mul]
  refine congrArg (· * _) ?_
  refine exp_wt z q (b + x.val) (by omega) _ ?_
  have key : ∀ (u : ℕ) (y : Fin 128), x.val = 128 * u + y.val → ((lsz (z (b + 128 * u + y.val)) + rest z q (b + 128 * u + y.val + 1) : ℝ) : EReal) = ((lsz (z (b + x.val)) + rest z q (b + x.val + 1) : ℝ) : EReal) := by
    intro u y e
    rw [e, ← Nat.add_assoc]
  have inn : ∀ (u : ℕ) (y : Fin 128), 128 * u + 128 ≤ 512 → (lsz (z (b + 128 * u + y.val)) : EReal) + (tileSum (fm z q) (b + 128 * u) y.val : EReal) + (rest z q (b + 128 * u + 128) : EReal) = ((lsz (z (b + 128 * u + y.val)) + rest z q (b + 128 * u + y.val + 1) : ℝ) : EReal) := by
    intro u y hu
    rw [tileSum_lo _ _ _ y.isLt, ← EReal.coe_add, ← EReal.coe_add, add_assoc]
    exact congrArg _ (congrArg _ (restIn (z := z) (q := q) (b + 128 * u) y.val 128 y.isLt (by omega)))
  split
  · next c =>
    refine Eq.trans ?_ (key 0 ⟨x.val, c⟩ (by simp))
    refine Eq.trans ?_ (inn 0 ⟨x.val, c⟩ (by omega))
    have e := carry4_1 h hq h2 hC ⟨x.val, c⟩
    rw [e, lsz4 h]
    pointwise [k0_pay6]
    rw [tile4_0 h hq]
  · split
    · next c0 c =>
      refine Eq.trans ?_ (key 1 ⟨x.val - 128, c⟩ (by simp; omega))
      refine Eq.trans ?_ (inn 1 ⟨x.val - 128, c⟩ (by omega))
      have e := carry4_2 h hq h2 hC ⟨x.val - 128, c⟩
      rw [e, lsz4 h]
      pointwise [k0_pay4]
      rw [tile4_1 h hq]
      simp only [← Nat.add_assoc, Nat.mul_one]
    · split
      · next c0 c1 c =>
        refine Eq.trans ?_ (key 2 ⟨x.val - 128 - 128, c⟩ (by simp; omega))
        refine Eq.trans ?_ (inn 2 ⟨x.val - 128 - 128, c⟩ (by omega))
        rw [lsz4 h]
        pointwise [k0_pay2, k0_pay1]
        rw [carry4_3 h hq h2 hC, tile4_2 h hq]
        simp only [← Nat.add_assoc, Nat.reduceMul]
      · next c0 c1 c2 =>
        refine Eq.trans ?_ (key 3 ⟨x.val - 128 - 128 - 128, by omega⟩ (by simp; omega))
        exact last4 h hq h2 hC ⟨x.val - 128 - 128 - 128, by omega⟩

end
end

end Cert.KernelIdeal.Sb

end

end
-- ==== Proof.SbTwo.lean ====
/- The two tiles of keys that a block of odd number takes before the loop: all of them before the row. -/
module

public import proofs.«01_k».proof.Proof.SbTri

@[expose] public section

set_option maxRecDepth 16384

noncomputable section

namespace Cert.KernelIdeal.Sb

open Cert.KernelIdeal Cert.KernelIdeal.Gen Idealize.ShloMosaic Idealize.ShloMosaic.TcCoe Idealize.SL.Sem Cert.Sb Finset

/-- What a row of the kernel's query block and two tiles of keys must satisfy: the scores are the numbers `z`. -/
def Scores2 (qs : FVec Ideal S512x128 .bf16) (k : FVec Ideal S256x128 .bf16) (z : ℕ → ℝ) (b : ℕ) (r : Fin 512) : Prop :=
  ∀ s : Fin 256, ∑ x : Fin 128, qs (ix2 r x) * k (ix2 s x) = (z (b + s.val) : EReal)

section
variable {qs : FVec Ideal S512x128 .bf16} {k : FVec Ideal S256x128 .bf16} {z : ℕ → ℝ} {b q : ℕ} {r : Fin 512}

theorem score2 (h : Scores2 qs k z b r) (s : Fin 256) : k0_pay24 (F := Ideal) qs k (ix2 r s) = (z (b + s.val) : EReal) := by
  pointwise [k0_pay24]
  exact h s

theorem lsz2 (h : Scores2 qs k z b r) (s : Fin 256) : k0_pay25 (F := Ideal) qs k (ix2 r s) = (lsz (z (b + s.val)) : EReal) := by
  pointwise [k0_pay25, k0_pay24]
  rw [h s]
  exact lsz_coe _

theorem diff2 (h : Scores2 qs k z b r) (hq : b + 256 ≤ q) (s : Fin 256) :
    k0_pay25 (F := Ideal) qs k (ix2 r s) - k0_pay24 (F := Ideal) qs k (ix2 r s) = (fm z q (b + s.val) : EReal) := by
  have := s.isLt
  rw [lsz2 h, score2 h, ← EReal.coe_sub, fm, if_pos (by omega)]

set_option maxHeartbeats 1600000 in
theorem tile2_0 (h : Scores2 qs k z b r) (hq : b + 256 ≤ q) (y : Fin 256) :
    k0_pay26 (F := Ideal) qs (k0_pay58 (F := Ideal)) k (ix2 ⟨r.val, by omega⟩ y) = (tileSum (fm z q) b y.val : EReal) := by
  pointwise [k0_pay26]
  simp only [diff2 h hq]
  exact tri_sum (fm z q) b y _ _

set_option maxHeartbeats 1600000 in
theorem tile2_1 (h : Scores2 qs k z b r) (hq : b + 256 ≤ q) (y : Fin 256) :
    k0_pay26 (F := Ideal) qs (k0_pay58 (F := Ideal)) k (ix2 ⟨512 + r.val, by omega⟩ y) = (tileSum (fm z q) (b + 128) y.val : EReal) := by
  pointwise [k0_pay26]
  simp only [diff2 h hq, ← Nat.add_assoc]
  exact tri_sum (fm z q) (b + 128) y _ _

variable {C : FVec Ideal S512x128 .f32}

section
variable (h : Scores2 qs k z b r) (hq : b + 256 ≤ q) (h2 : b + 256 ≤ 2048) (hC : ∀ l : Fin 128, C (ix2 r l) = (rest z q (b + 256) : EReal))
include h hq h2 hC

theorem carry2_1 (l : Fin 128) : k0_pay29 (F := Ideal) qs (k0_pay58 (F := Ideal)) k C (ix2 r l) = (rest z q (b + 128) : EReal) := by
  pointwise [k0_pay29, k0_pay27]
  rw [tile2_1 h hq, hC, tileSum_hi, ← EReal.coe_add, add_comm]
  exact congrArg _ (rest_split z q (b + 128) (b + 256) (by omega) (by omega)).symm

theorem carry2 (l : Fin 128) : k0_pay76 (F := Ideal) (k0_pay32 (F := Ideal) qs (k0_pay58 (F := Ideal)) k C) (ix2 r l) = (rest z q b : EReal) := by
  have e := carry2_1 h hq h2 hC l
  pointwise [k0_pay76, k0_pay32, k0_pay30]
  rw [e, tile2_0 h hq, tileSum_hi, ← EReal.coe_add, add_comm]
  exact congrArg _ (rest_split z q b (b + 128) (by omega) (by omega)).symm

theorem hi2 (x : Fin 128) : k0_pay28 (F := Ideal) qs (k0_pay58 (F := Ideal)) k C (ix2 r x) = ((lsz (z (b + 128 + x.val)) + rest z q (b + 128 + x.val + 1) : ℝ) : EReal) := by
  have hx := x.isLt
  pointwise [k0_pay28, k0_pay27]
  rw [lsz2 h, tile2_1 h hq, hC, tileSum_lo _ _ _ hx, ← EReal.coe_add, ← EReal.coe_add, add_assoc]
  simp only [← Nat.add_assoc]
  exact congrArg _ (congrArg _ (rest_split z q (b + 128 + x.val + 1) (b + 256) (by omega) (by omega)).symm)

theorem lo2 (x : Fin 128) : k0_pay31 (F := Ideal) qs (k0_pay58 (F := Ideal)) k C (ix2 r x) = ((lsz (z (b + x.val)) + rest z q (b + x.val + 1) : ℝ) : EReal) := by
  have hx := x.isLt
  have e := carry2_1 h hq h2 hC x
  pointwise [k0_pay31, k0_pay30]
  rw [e, lsz2 h, tile2_0 h hq, tileSum_lo _ _ _ hx, ← EReal.coe_add, ← EReal.coe_add, add_assoc]
  exact congrArg _ (congrArg _ (rest_split z q (b + x.val + 1) (b + 128) (by omega) (by omega)).symm)

/-- Two tiles add the weighted values of their keys. -/
theorem acc2 (v : ℕ → ℝ) (l : Fin 128) (a : FVec Ideal S256x128 .bf16) (acc : FVec Ideal S512x128 .f32)
    (hv : ∀ x : Fin 256, a (ix2 x l) = (v (b + x.val) : EReal)) (ha : acc (ix2 r l) = (tot z q v (b + 256) : EReal)) :
    k0_pay77 (F := Ideal) a (k0_pay28 (F := Ideal) qs (k0_pay58 (F := Ideal)) k C) (k0_pay31 (F := Ideal) qs (k0_pay58 (F := Ideal)) k C) acc (ix2 r l) = (tot z q v b : EReal) := by
  pointwise [k0_pay77]
  rw [ha, tot_split z q v b (b + 128) (by omega) (by omega), tot_split z q v (b + 128) (b + 256) (by omega) h2, add_comm, ← add_assoc, EReal.coe_add, EReal.coe_add]
  refine congrArg (· + _) ?_
  refine congrArg₂ (· + ·) ?_ ?_
  · rw [sum_Ico_fin, ← coe_sum]
    refine Finset.sum_congr rfl fun x _ => ?_
    have hx := x.isLt
    rw [hv, EReal.coe_mul]
    exact congrArg (· * _) (exp_wt z q _ (by omega) _ (lo2 h hq h2 hC x))
  · rw [show b + 256 = b + 128 + 128 from rfl, sum_Ico_fin, ← coe_sum]
    refine Finset.sum_congr rfl fun x _ => ?_
    have hx := x.isLt
    rw [hv, EReal.coe_mul, ← Nat.add_assoc]
    exact congrArg (· * _) (exp_wt z q _ (by omega) _ (hi2 h hq h2 hC x))

end
end

end Cert.KernelIdeal.Sb

end

end
-- ==== Proof.SbMask.lean ====
/- The keys of the row's own block of 256: those from the row on are masked away. -/
module

public import proofs.«01_k».proof.Proof.SbTri
public import Idealize.ShloMosaic.Lib.WordCmp

@[expose] public section

set_option maxRecDepth 16384

noncomputable section

namespace Cert.KernelIdeal.Sb

open Cert.KernelIdeal Cert.KernelIdeal.Gen Idealize.ShloMosaic Idealize.ShloMosaic.TcCoe Idealize.SL.Sem Cert.Sb Finset

/-- Scores of the row against the keys of its own block. -/
def ScoresD (qs : FVec Ideal S512x128 .bf16) (k : FVec Ideal S256x128 .bf16) (z : ℕ → ℝ) (b : ℕ) (r : Fin 512) : Prop :=
  ∀ s : Fin 256, ∑ x : Fin 128, qs (ix2 r x) * k (ix2 s x) = (z (b + s.val) : EReal)

theorem own_bits : ∀ (t : Fin 8) (r : Fin 512) , IntOp.addi (Scalar.muli (BitVec.ofNat 32 t.val) 256#32) (IntOp.remsi ArithUnit.vector (BitVec.ofNat 32 r.val) 256#32) = BitVec.ofNat 32 (256 * t.val + r.val % 256) := by decide +kernel

theorem key_bits : ∀ (t : Fin 8) (s : Fin 256) , IntOp.addi (Scalar.muli (Scalar.muli (BitVec.ofNat 32 t.val) 2#32) 128#32) (BitVec.ofNat 32 s.val) = BitVec.ofNat 32 (256 * t.val + s.val) := by decide +kernel

section
variable {i : grid0.Coords} {qs : FVec Ideal S512x128 .bf16} {k : FVec Ideal S256x128 .bf16} {z : ℕ → ℝ} {r : Fin 512}

theorem mask_apply (t : Fin 8) (hi : (i 2).val = t.val) (s : Fin 256) : k0_pay64 (BitVec.ofNat 32 (i 2).val) (k0_pay59 i) (ix2 r s) = if 256 * t.val + s.val < 256 * t.val + r.val % 256 then 1#1 else 0#1 := by
  pointwise [k0_pay64, k0_pay59]
  rw [hi]
  rw [own_bits t r, key_bits t s]
  have := t.isLt
  have := s.isLt
  rw [WordCmp.cmpi_slt_ofNat (by omega) (by omega)]
  by_cases c : 256 * t.val + s.val < 256 * t.val + r.val % 256
  · rw [if_pos c, decide_eq_true c]; rfl
  · rw [if_neg c, decide_eq_false c]; rfl

theorem scoreD {b : ℕ} (h : ScoresD qs k z b r) (s : Fin 256) : k0_pay65 (F := Ideal) qs k (ix2 r s) = (z (b + s.val) : EReal) := by
  pointwise [k0_pay65]
  exact h s

theorem lszD {b : ℕ} (h : ScoresD qs k z b r) (s : Fin 256) : k0_pay66 (F := Ideal) qs k (ix2 r s) = (lsz (z (b + s.val)) : EReal) := by
  pointwise [k0_pay66, k0_pay65]
  rw [h s]
  exact lsz_coe _

theorem select_if (c : Prop) [Decidable c] (x y : EReal) : Scalar.select (if c then 1#1 else 0#1) x y = if c then x else y := by
  by_cases h : c
  · rw [if_pos h, if_pos h]; rfl
  · rw [if_neg h, if_neg h]; rfl

theorem select_mul (m : BitVec 1) (x y : EReal) : Scalar.select m (x * y) 0 = Scalar.select m x 0 * y := by
  unfold Scalar.select
  split
  · rfl
  · rw [zero_mul]

section
variable {t : Fin 8} (hi : (i 2).val = t.val) (h : ScoresD qs k z (256 * t.val) r)
include hi h

theorem diffD (s : Fin 256) : Scalar.select (k0_pay64 (BitVec.ofNat 32 (i 2).val) (k0_pay59 i) (ix2 r s)) (k0_pay66 (F := Ideal) qs k (ix2 r s) - k0_pay65 (F := Ideal) qs k (ix2 r s)) (0 : EReal) = (fm z (256 * t.val + r.val % 256) (256 * t.val + s.val) : EReal) := by
  rw [mask_apply t hi, select_if, lszD h, scoreD h, ← EReal.coe_sub, fm]
  split <;> rfl

set_option maxHeartbeats 1600000 in
theorem tileD_0 (y : Fin 256) :
    k0_pay67 (F := Ideal) (BitVec.ofNat 32 (i 2).val) qs (k0_pay58 (F := Ideal)) (k0_pay59 i) k (ix2 ⟨r.val, by omega⟩ y) = (tileSum (fm z (256 * t.val + r.val % 256)) (256 * t.val) y.val : EReal) := by
  pointwise [k0_pay67]
  simp only [select_mul, diffD hi h]
  exact tri_sum (fm z (256 * t.val + r.val % 256)) (256 * t.val) y _ _

set_option maxHeartbeats 1600000 in
theorem tileD_1 (y : Fin 256) :
    k0_pay67 (F := Ideal) (BitVec.ofNat 32 (i 2).val) qs (k0_pay58 (F := Ideal)) (k0_pay59 i) k (ix2 ⟨512 + r.val, by omega⟩ y) = (tileSum (fm z (256 * t.val + r.val % 256)) (256 * t.val + 128) y.val : EReal) := by
  pointwise [k0_pay67]
  simp only [select_mul, diffD hi h, ← Nat.add_assoc]
  exact tri_sum (fm z (256 * t.val + r.val % 256)) (256 * t.val + 128) y _ _

variable {C : FVec Ideal S512x128 .f32} (hC : ∀ l : Fin 128, C (ix2 r l) = (rest z (256 * t.val + r.val % 256) (256 * t.val + 256) : EReal))
include hC

theorem carryD_1 (l : Fin 128) : k0_pay71 (F := Ideal) C (k0_pay68 (F := Ideal) (BitVec.ofNat 32 (i 2).val) qs (k0_pay58 (F := Ideal)) (k0_pay59 i) k) (ix2 r l) = (rest z (256 * t.val + r.val % 256) (256 * t.val + 128) : EReal) := by
  have := t.isLt
  pointwise [k0_pay71, k0_pay68]
  rw [tileD_1 hi h, hC, tileSum_hi, ← EReal.coe_add, add_comm]
  exact congrArg _ (rest_split z (256 * t.val + r.val % 256) (256 * t.val + 128) (256 * t.val + 256) (by omega) (by omega)).symm

theorem carryD (l : Fin 128) : k0_pay73 (F := Ideal) (k0_pay67 (F := Ideal) (BitVec.ofNat 32 (i 2).val) qs (k0_pay58 (F := Ideal)) (k0_pay59 i) k) C (k0_pay68 (F := Ideal) (BitVec.ofNat 32 (i 2).val) qs (k0_pay58 (F := Ideal)) (k0_pay59 i) k) (ix2 r l) = (rest z (256 * t.val + r.val % 256) (256 * t.val) : EReal) := by
  have := t.isLt
  have e := carryD_1 hi h hC l
  pointwise [k0_pay73, k0_pay72]
  rw [e, tileD_0 hi h, tileSum_hi, ← EReal.coe_add, add_comm]
  exact congrArg _ (rest_split z (256 * t.val + r.val % 256) (256 * t.val) (256 * t.val + 128) (by omega) (by omega)).symm

/-- The row's own block of keys adds the weighted values of the keys before the row. -/
theorem accD (v : ℕ → ℝ) (l : Fin 128) (a : FVec Ideal S256x128 .bf16) (acc : FVec Ideal S512x128 .f32)
    (hv : ∀ x : Fin 256, a (ix2 x l) = (v (256 * t.val + x.val) : EReal)) (ha : acc (ix2 r l) = (tot z (256 * t.val + r.val % 256) v (256 * t.val + 256) : EReal)) :
    k0_pay74 (F := Ideal) (k0_pay63 (F := Ideal) a) (k0_pay64 (BitVec.ofNat 32 (i 2).val) (k0_pay59 i)) (k0_pay66 (F := Ideal) qs k) (k0_pay67 (F := Ideal) (BitVec.ofNat 32 (i 2).val) qs (k0_pay58 (F := Ideal)) (k0_pay59 i) k) C (k0_pay68 (F := Ideal) (BitVec.ofNat 32 (i 2).val) qs (k0_pay58 (F := Ideal)) (k0_pay59 i) k)
      (k0_pay69 (F := Ideal) qs k) (k0_pay70 (F := Ideal) (BitVec.ofNat 32 (i 2).val) qs (k0_pay58 (F := Ideal)) (k0_pay59 i) k) acc (ix2 r l) = (tot z (256 * t.val + r.val % 256) v (256 * t.val) : EReal) := by
  have ht := t.isLt
  pointwise [k0_pay74, k0_pay63]
  have hw : ∀ (s : Fin 256) (x : EReal), x = ((lsz (z (256 * t.val + s.val)) + rest z (256 * t.val + r.val % 256) (256 * t.val + s.val + 1) : ℝ) : EReal) →
      Scalar.select (k0_pay64 (BitVec.ofNat 32 (i 2).val) (k0_pay59 i) (ix2 r s)) (Ideal.exp x * a (ix2 s l)) (0 : EReal) = ((wt z (256 * t.val + r.val % 256) (256 * t.val + s.val) * v (256 * t.val + s.val) : ℝ) : EReal) := by
    intro s x hx
    rw [mask_apply t hi, select_if, hv]
    by_cases c : 256 * t.val + s.val < 256 * t.val + r.val % 256
    · rw [if_pos c, exp_wt z _ _ c _ hx, EReal.coe_mul]
    · rw [if_neg c, wt, if_neg c, zero_mul, EReal.coe_zero]
  rw [ha, tot_split z _ v (256 * t.val) (256 * t.val + 128) (by omega) (by omega), tot_split z _ v (256 * t.val + 128) (256 * t.val + 256) (by omega) (by omega), add_comm, ← add_assoc, EReal.coe_add, EReal.coe_add]
  refine congrArg (· + _) ?_
  refine congrArg₂ (· + ·) ?_ ?_
  · rw [sum_Ico_fin, ← coe_sum]
    refine Finset.sum_congr rfl fun x _ => ?_
    have hx := x.isLt
    refine hw ⟨x.val, by omega⟩ _ ?_
    have e := carryD_1 hi h hC x
    rw [e, lszD h]
    pointwise [k0_pay72]
    rw [tileD_0 hi h, tileSum_lo _ _ _ hx, ← EReal.coe_add, ← EReal.coe_add, add_assoc]
    exact congrArg _ (congrArg _ (rest_split z _ (256 * t.val + x.val + 1) (256 * t.val + 128) (by omega) (by omega)).symm)
  · rw [show 256 * t.val + 256 = 256 * t.val + 128 + 128 from rfl, sum_Ico_fin, ← coe_sum]
    refine Finset.sum_congr rfl fun x _ => ?_
    have hx := x.isLt
    rw [Nat.add_assoc (256 * t.val) 128 x.val]
    refine hw ⟨128 + x.val, by omega⟩ _ ?_
    pointwise [k0_pay69, k0_pay70, k0_pay68]
    rw [lszD h, tileD_1 hi h, hC, tileSum_lo _ _ _ hx, ← EReal.coe_add, ← EReal.coe_add, add_assoc]
    simp only [← Nat.add_assoc]
    exact congrArg _ (congrArg _ (rest_split z _ (256 * t.val + 128 + x.val + 1) (256 * t.val + 256) (by omega) (by omega)).symm)

end
end

end Cert.KernelIdeal.Sb

end

end
-- ==== Proof.SbLoop.lean ====
/- The kernel's loop over the keys keeps, for every row, the weighted values and the logs of the keys taken so far. -/
module

public import proofs.«01_k».proof.Proof.SbFour
public import proofs.«01_k».proof.Proof.SbTwo
public import proofs.«01_k».proof.Proof.SbMask
public import proofs.«01_k».proof.Proof.Gen.KernelIdeal.Value
public import Idealize.ShloMosaic.Lib.VecWindow

@[expose] public section

set_option maxRecDepth 16384

noncomputable section

namespace Cert.KernelIdeal.Sb

open Cert.KernelIdeal Cert.KernelIdeal.Gen Idealize.ShloMosaic Idealize.ShloMosaic.TcCoe Idealize.SL.Sem Cert.Sb Finset

theorem off1_eq : ∀ i : grid0.Coords, k0_off1 i = ![256 * (i 2).val, 0] := by decide +kernel
theorem off3_eq : ∀ i : grid0.Coords, (i 2).val % 2 = 1 → k0_off3 i = ![256 * (i 2).val - 256, 0] := by decide +kernel
theorem off5_eq : ∀ (i : grid0.Coords) (k : Fin (k0_t1_loop i).trips), k0_off5 i k = ![256 * (i 2).val - 256 * ((i 2).val % 2) - 512 * (k.val + 1), 0] := by decide +kernel
theorem trips1_eq : ∀ i : grid0.Coords, 512 * (k0_t1_loop i).trips = 256 * (i 2).val - 256 * ((i 2).val % 2) := by decide +kernel
theorem trips2_eq : ∀ i : grid0.Coords, (k0_t2_loop i).trips = 0 := by decide +kernel

theorem ld4 (x : FVec Ideal S2048x128 .bf16) (off : Fin 2 → ℕ) (b : ℕ) (h : off = ![b, 0]) (inb : ∀ a, off a + S512x128.size a ≤ S2048x128.size a) (s : Fin 512) (l : Fin 128) (hb : b + s.val < 2048) :
    View.ld (Val := Elt Ideal) (e' := .bf16) x (Rect.unit (s := S2048x128) off S512x128.size inb) (ix2 s l) = x (ix2 ⟨b + s.val, hb⟩ l) := by
  subst h
  pointwise

theorem ld2 (x : FVec Ideal S2048x128 .bf16) (off : Fin 2 → ℕ) (b : ℕ) (h : off = ![b, 0]) (inb : ∀ a, off a + S256x128.size a ≤ S2048x128.size a) (s : Fin 256) (l : Fin 128) (hb : b + s.val < 2048) :
    View.ld (Val := Elt Ideal) (e' := .bf16) x (Rect.unit (s := S2048x128) off S256x128.size inb) (ix2 s l) = x (ix2 ⟨b + s.val, hb⟩ l) := by
  subst h
  pointwise

section
variable {c : Dev nD} {i : grid0.Coords}
  {arg3 : Memref sig .tc .vmem S256x128 .bf16} {harg3 : arg3.IsWhole} {arg4 : Memref sig .tc .vmem S2048x128 .bf16} {harg4 : arg4.IsWhole}
  {arg5 : Memref sig .tc .vmem S2048x128 .bf16} {harg5 : arg5.IsWhole} {arg6 : Memref sig .tc .vmem S256x128 .bf16} {harg6 : arg6.IsWhole}
  {arg7 : Memref sig .tc .vmem S512x128 .f32} {harg7 : arg7.IsWhole} {arg8 : Memref sig .tc .vmem S512x128 .f32} {harg8 : arg8.IsWhole}
  {qs : FVec Ideal S512x128 .bf16} {w1 w2 : BitVec 32} {x1 x2 : FVec Ideal S2048x128 .bf16}
  {G7 : BufTy.Contents (Elt Ideal) arg7.view.ty} {G8 : BufTy.Contents (Elt Ideal) arg8.view.ty}
  {z v : ℕ → ℝ} {q : ℕ} {r : Fin 512} {l : Fin 128}

/-- What the two scratch arrays hold of a row after the keys from `j` on. -/
def Upto (a7 a8 : FVec Ideal S512x128 .f32) (z v : ℕ → ℝ) (q j : ℕ) (r : Fin 512) (l : Fin 128) : Prop :=
  a7 (ix2 r l) = (tot z q v j : EReal) ∧ ∀ l' : Fin 128, a8 (ix2 r l') = (rest z q j : EReal)

/-- What one trip of the loop stores, named: the new values and the new logs. -/
theorem trip_pieces (k : Fin (k0_t1_loop i).trips) (X4 : BufTy.Contents (Elt Ideal) arg4.view.ty) (X5 : BufTy.Contents (Elt Ideal) arg5.view.ty) (f7 : BufTy.Contents (Elt Ideal) arg7.view.ty) (f8 : BufTy.Contents (Elt Ideal) arg8.view.ty) (L : FVec Ideal S256x256 .bf16) :
    tripL_k0_t1 (F := Ideal) Variants.none c none i arg3 harg3 arg4 harg4 arg5 harg5 arg6 harg6 arg7 harg7 arg8 harg8 qs L w1 w2 X4 X5 k f7 f8 =
      (let k4 : FVec Ideal S512x128 .bf16 := View.readAt (Elt Ideal) arg4.view (Rect.unit (s := S2048x128) (k0_off5 i k) S512x128.size (k0_off5_inb i k)).toLoadRect X4
       let v4 : FVec Ideal S512x128 .bf16 := View.readAt (Elt Ideal) arg5.view (Rect.unit (s := S2048x128) (k0_off5 i k) S512x128.size (k0_off5_inb i k)).toLoadRect X5
       let C : FVec Ideal S512x128 .f32 := View.readAt (Elt Ideal) arg8.view (Rect.unit (s := S512x128) ![0, 0] S512x128.size inb_S512x128_S512x128_0_0).toLoadRect f8
       let A : FVec Ideal S512x128 .f32 := View.readAt (Elt Ideal) arg7.view (Rect.unit (s := S512x128) ![0, 0] S512x128.size inb_S512x128_S512x128_0_0).toLoadRect f7
       ([⟨Rect.unit (s := S512x128) ![0, 0] S512x128.size inb_S512x128_S512x128_0_0, k0_pay8 (F := Ideal) (k0_pay43 (F := Ideal) v4) (k0_pay45 (F := Ideal) qs k4) (k0_pay46 (F := Ideal) qs L k4) C (k0_pay48 (F := Ideal) qs L k4 C) (k0_pay49 (F := Ideal) qs L k4) A⟩],
        [⟨Rect.unit (s := S512x128) ![0, 0] S512x128.size inb_S512x128_S512x128_0_0, k0_pay7 (F := Ideal) (k0_pay46 (F := Ideal) qs L k4) C (k0_pay49 (F := Ideal) qs L k4)⟩])) := by
  unfold tripL_k0_t1 trip_k0_t1
  dsimp only
  sl_unfold_run_names
  rfl

theorem read_piece {m : Memref sig .tc .vmem S512x128 .f32} (f : BufTy.Contents (Elt Ideal) m.view.ty) (w : FVec Ideal S512x128 .f32) (P : List (View.Piece (Elt Ideal) S512x128 .f32)) :
    m.view.read (Elt Ideal) (m.view.writes (Elt Ideal) f (⟨Rect.unit (s := S512x128) ![0, 0] S512x128.size inb_S512x128_S512x128_0_0, w⟩ :: P)) = w :=
  View.read_writes_full _ _ _ _ _

set_option maxHeartbeats 2000000 in
/-- The loop over the keys, last group first. -/
theorem loop_upto (hs : ∀ s : Fin 2048, ∑ x : Fin 128, qs (ix2 r x) * x1 (ix2 s x) = (z s.val : EReal)) (hv : ∀ s : Fin 2048, x2 (ix2 s l) = (v s.val : EReal))
    (hq : 256 * (i 2).val ≤ q)
    (h0 : Upto (arg7.view.read (Elt Ideal) G7) (arg8.view.read (Elt Ideal) G8) z v q (256 * (i 2).val - 256 * ((i 2).val % 2)) r l) :
    ∀ k, k ≤ (k0_t1_loop i).trips → Upto
      (arg7.view.read (Elt Ideal) (arg7.view.writes (Elt Ideal) G7 (pb_k0_t1 (F := Ideal) Variants.none c none i arg3 harg3 arg4 harg4 arg5 harg5 arg6 harg6 arg7 harg7 arg8 harg8 qs (k0_pay58 (F := Ideal)) w1 w2 (harg4.unread x1) (harg5.unread x2) G7 G8 k).1))
      (arg8.view.read (Elt Ideal) (arg8.view.writes (Elt Ideal) G8 (pb_k0_t1 (F := Ideal) Variants.none c none i arg3 harg3 arg4 harg4 arg5 harg5 arg6 harg6 arg7 harg7 arg8 harg8 qs (k0_pay58 (F := Ideal)) w1 w2 (harg4.unread x1) (harg5.unread x2) G7 G8 k).2))
      z v q (256 * (i 2).val - 256 * ((i 2).val % 2) - 512 * k) r l := by
  intro k
  induction k with
  | zero => intro _; exact h0
  | succ k ih =>
    intro hk
    have ht := trips1_eq i
    have h8 : (i 2).val < 8 := (i 2).isLt
    obtain ⟨i7, i8⟩ := ih (by omega)
    rw [pb_k0_t1_succ (F := Ideal) Variants.none c none i arg3 harg3 arg4 harg4 arg5 harg5 arg6 harg6 arg7 harg7 arg8 harg8 qs (k0_pay58 (F := Ideal)) w1 w2 (harg4.unread x1) (harg5.unread x2) G7 G8 ⟨k, hk⟩]
    generalize hL : pb_k0_t1 (F := Ideal) Variants.none c none i arg3 harg3 arg4 harg4 arg5 harg5 arg6 harg6 arg7 harg7 arg8 harg8 qs (k0_pay58 (F := Ideal)) w1 w2 (harg4.unread x1) (harg5.unread x2) G7 G8 k = L at i7 i8 ⊢
    rw [trip_pieces]
    dsimp only [List.cons_append, List.nil_append]
    have e5 := off5_eq i ⟨k, hk⟩
    have hsc : ∀ inb, Scores4 qs (View.readAt (Elt Ideal) arg4.view (Rect.unit (s := S2048x128) (k0_off5 i ⟨k, hk⟩) S512x128.size inb).toLoadRect (harg4.unread x1)) z (256 * (i 2).val - 256 * ((i 2).val % 2) - 512 * (k + 1)) r := by
      intro inb s
      have hsl := s.isLt
      rw [View.readAt_eq_ld, Memref.IsWhole.read_unread]
      rw [← hs ⟨256 * (i 2).val - 256 * ((i 2).val % 2) - 512 * (k + 1) + s.val, by omega⟩]
      exact Finset.sum_congr rfl fun x _ => congrArg (_ * ·) (ld4 x1 _ _ e5 inb s x (by omega))
    have hvc : ∀ inb (x : Fin 512), k0_pay43 (F := Ideal) (View.readAt (Elt Ideal) arg5.view (Rect.unit (s := S2048x128) (k0_off5 i ⟨k, hk⟩) S512x128.size inb).toLoadRect (harg5.unread x2)) (ix2 x l) = (v (256 * (i 2).val - 256 * ((i 2).val % 2) - 512 * (k + 1) + x.val) : EReal) := by
      intro inb x
      have hsl := x.isLt
      pointwise [k0_pay43]
      rw [View.readAt_eq_ld, Memref.IsWhole.read_unread]
      exact (ld4 x2 _ _ e5 inb x l (by omega)).trans (hv ⟨_, by omega⟩)
    have hj : 256 * (i 2).val - 256 * ((i 2).val % 2) - 512 * (k + 1) + 512 = 256 * (i 2).val - 256 * ((i 2).val % 2) - 512 * k := by omega
    rw [← hj] at i7 i8
    have hC : ∀ (inb : ∀ a, ![0, 0] a + S512x128.size a ≤ S512x128.size a) (l' : Fin 128), View.readAt (Elt Ideal) arg8.view (Rect.unit (s := S512x128) ![0, 0] S512x128.size inb).toLoadRect (arg8.view.writes (Elt Ideal) G8 L.2) (ix2 r l') = (rest z q (256 * (i 2).val - 256 * ((i 2).val % 2) - 512 * (k + 1) + 512) : EReal) := by
      intro inb l'
      rw [View.readAt_full]; exact i8 l'
    have hA : ∀ (inb : ∀ a, ![0, 0] a + S512x128.size a ≤ S512x128.size a), View.readAt (Elt Ideal) arg7.view (Rect.unit (s := S512x128) ![0, 0] S512x128.size inb).toLoadRect (arg7.view.writes (Elt Ideal) G7 L.1) (ix2 r l) = (tot z q v (256 * (i 2).val - 256 * ((i 2).val % 2) - 512 * (k + 1) + 512) : EReal) := by
      intro inb
      rw [View.readAt_full]; exact i7
    constructor
    · rw [read_piece]
      exact acc4 (hsc _) (by omega) (by omega) (hC _) v l _ _ (hvc _) (hA _)
    · intro l'
      rw [read_piece]
      exact carry4 (hsc _) (by omega) (by omega) (hC _) l'

end

end Cert.KernelIdeal.Sb

end

end
-- ==== Proof.SbOut.lean ====
/- What one point of the grid writes: the block's rows, each with the weighted values of all the keys before it. -/
module

public import proofs.«01_k».proof.Proof.SbLoop

@[expose] public section

set_option maxRecDepth 16384

noncomputable section

namespace Cert.KernelIdeal.Sb

open Cert.KernelIdeal Cert.KernelIdeal.Gen Idealize.ShloMosaic Idealize.ShloMosaic.TcCoe Idealize.SL.Sem Cert.Sb Finset

theorem lane_bit : ∀ s : Fin 128, IntOp.cmpi .slt (BitVec.ofNat 32 s.val) 64#32 = if s.val < 64 then 1#1 else 0#1 := by decide +kernel

/-- The block written back takes the first 64 lanes from the upper half of the rows and the others from the lower. -/
theorem back_apply (x : FVec Ideal S512x128 .f32) (r : Fin 256) (s : Fin 128) :
    k0_pay17 (F := Ideal) (iota Kind.tc S1x128 32 [1] iota_S1x128_d1_w32) x (ix2 r s) = if s.val < 64 then x (ix2 ⟨r.val, by omega⟩ s) else x (ix2 ⟨256 + r.val, by omega⟩ s) := by
  pointwise [k0_pay17]
  rw [lane_bit, select_if]

theorem zero_acc (r : Fin 512) (l : Fin 128) : k0_pay60 (F := Ideal) (ix2 r l) = 0 := by pointwise [k0_pay60]
theorem zero_carry (r : Fin 512) (l : Fin 128) : k0_pay62 (F := Ideal) (k0_pay61 (F := Ideal)) (ix2 r l) = 0 := by pointwise [k0_pay62, k0_pay61]

theorem tot_zero (z v : ℕ → ℝ) (q j : ℕ) (h : q ≤ j) : tot z q v j = 0 := by
  refine Finset.sum_eq_zero fun u hu => ?_
  rw [Finset.mem_Ico] at hu
  rw [wt, if_neg (by omega), zero_mul]

theorem upto_start (z v : ℕ → ℝ) (q j : ℕ) (h : q ≤ j) (r : Fin 512) (l : Fin 128) : Upto (k0_pay60 (F := Ideal)) (k0_pay62 (F := Ideal) (k0_pay61 (F := Ideal))) z v q j r l :=
  ⟨(zero_acc r l).trans (by rw [tot_zero z v q j h, EReal.coe_zero]), fun l' => (zero_carry r l').trans (by rw [rest_zero z q j h, EReal.coe_zero])⟩

section
variable {c : Dev nD} {i : grid0.Coords}
  {arg3 : Memref sig .tc .vmem S256x128 .bf16} {harg3 : arg3.IsWhole} {arg4 : Memref sig .tc .vmem S2048x128 .bf16} {harg4 : arg4.IsWhole}
  {arg5 : Memref sig .tc .vmem S2048x128 .bf16} {harg5 : arg5.IsWhole} {arg6 : Memref sig .tc .vmem S256x128 .bf16} {harg6 : arg6.IsWhole}
  {arg7 : Memref sig .tc .vmem S512x128 .f32} {harg7 : arg7.IsWhole} {arg8 : Memref sig .tc .vmem S512x128 .f32} {harg8 : arg8.IsWhole}
  {qs : FVec Ideal S512x128 .bf16} {w1 w2 w3 w4 w5 : BitVec 32} {x1 x2 : FVec Ideal S2048x128 .bf16}
  {z v : ℕ → ℝ} {r : Fin 512} {l : Fin 128}

/-- The row's own block, from the scratch arrays as they start. -/
theorem upto_own (hs : ∀ s : Fin 2048, ∑ x : Fin 128, qs (ix2 r x) * x1 (ix2 s x) = (z s.val : EReal)) (hv : ∀ s : Fin 2048, x2 (ix2 s l) = (v s.val : EReal))
    (inb : ∀ a, k0_off1 i a + S256x128.size a ≤ S2048x128.size a) (inb' : ∀ a, k0_off1 i a + S256x128.size a ≤ S2048x128.size a) :
    let kD : FVec Ideal S256x128 .bf16 := View.ld (Val := Elt Ideal) (e' := .bf16) x1 (Rect.unit (s := S2048x128) (k0_off1 i) S256x128.size inb)
    let vD : FVec Ideal S256x128 .bf16 := View.ld (Val := Elt Ideal) (e' := .bf16) x2 (Rect.unit (s := S2048x128) (k0_off1 i) S256x128.size inb')
    Upto (k0_pay74 (F := Ideal) (k0_pay63 (F := Ideal) vD) (k0_pay64 (BitVec.ofNat 32 (i 2).val) (k0_pay59 i)) (k0_pay66 (F := Ideal) qs kD) (k0_pay67 (F := Ideal) (BitVec.ofNat 32 (i 2).val) qs (k0_pay58 (F := Ideal)) (k0_pay59 i) kD) (k0_pay62 (F := Ideal) (k0_pay61 (F := Ideal))) (k0_pay68 (F := Ideal) (BitVec.ofNat 32 (i 2).val) qs (k0_pay58 (F := Ideal)) (k0_pay59 i) kD)
        (k0_pay69 (F := Ideal) qs kD) (k0_pay70 (F := Ideal) (BitVec.ofNat 32 (i 2).val) qs (k0_pay58 (F := Ideal)) (k0_pay59 i) kD) (k0_pay60 (F := Ideal)))
      (k0_pay73 (F := Ideal) (k0_pay67 (F := Ideal) (BitVec.ofNat 32 (i 2).val) qs (k0_pay58 (F := Ideal)) (k0_pay59 i) kD) (k0_pay62 (F := Ideal) (k0_pay61 (F := Ideal))) (k0_pay68 (F := Ideal) (BitVec.ofNat 32 (i 2).val) qs (k0_pay58 (F := Ideal)) (k0_pay59 i) kD))
      z v (256 * (i 2).val + r.val % 256) (256 * (i 2).val) r l := by
  intro kD vD
  have h8 : (i 2).val < 8 := (i 2).isLt
  have e := off1_eq i
  have hsc : ScoresD qs kD z (256 * (⟨(i 2).val, h8⟩ : Fin 8).val) r := by
    intro s
    have hsl := s.isLt
    rw [← hs ⟨256 * (i 2).val + s.val, by omega⟩]
    exact Finset.sum_congr rfl fun x _ => congrArg (_ * ·) (ld2 x1 _ _ e inb s x (by omega))
  obtain ⟨a, b⟩ := upto_start z v (256 * (i 2).val + r.val % 256) (256 * (i 2).val + 256) (by omega) r l
  constructor
  · exact accD (t := ⟨(i 2).val, h8⟩) rfl hsc b v l vD _ (fun x => (ld2 x2 _ _ e inb' x l (by omega)).trans (hv ⟨_, by omega⟩)) a
  · intro l'
    exact carryD (t := ⟨(i 2).val, h8⟩) rfl hsc b l'

/-- The two tiles before the row's own block, for a block of odd number. -/
theorem upto_two (hs : ∀ s : Fin 2048, ∑ x : Fin 128, qs (ix2 r x) * x1 (ix2 s x) = (z s.val : EReal)) (hv : ∀ s : Fin 2048, x2 (ix2 s l) = (v s.val : EReal))
    (hodd : (i 2).val % 2 = 1) (inb : ∀ a, k0_off3 i a + S256x128.size a ≤ S2048x128.size a) (inb' : ∀ a, k0_off3 i a + S256x128.size a ≤ S2048x128.size a) (A C : FVec Ideal S512x128 .f32)
    (h : Upto A C z v (256 * (i 2).val + r.val % 256) (256 * (i 2).val) r l) :
    let k2 : FVec Ideal S256x128 .bf16 := View.ld (Val := Elt Ideal) (e' := .bf16) x1 (Rect.unit (s := S2048x128) (k0_off3 i) S256x128.size inb)
    let v2 : FVec Ideal S256x128 .bf16 := View.ld (Val := Elt Ideal) (e' := .bf16) x2 (Rect.unit (s := S2048x128) (k0_off3 i) S256x128.size inb')
    Upto (k0_pay77 (F := Ideal) (k0_pay23 (F := Ideal) v2) (k0_pay28 (F := Ideal) qs (k0_pay58 (F := Ideal)) k2 C) (k0_pay31 (F := Ideal) qs (k0_pay58 (F := Ideal)) k2 C) A)
      (k0_pay76 (F := Ideal) (k0_pay32 (F := Ideal) qs (k0_pay58 (F := Ideal)) k2 C))
      z v (256 * (i 2).val + r.val % 256) (256 * (i 2).val - 256) r l := by
  intro k2 v2
  have h8 : (i 2).val < 8 := (i 2).isLt
  have e := off3_eq i hodd
  have hsc : Scores2 qs k2 z (256 * (i 2).val - 256) r := by
    intro s
    have hsl := s.isLt
    rw [← hs ⟨256 * (i 2).val - 256 + s.val, by omega⟩]
    exact Finset.sum_congr rfl fun x _ => congrArg (_ * ·) (ld2 x1 _ _ e inb s x (by omega))
  obtain ⟨a, b⟩ := h
  have hj : 256 * (i 2).val = 256 * (i 2).val - 256 + 256 := by omega
  have a' : A (ix2 r l) = (tot z (256 * (i 2).val + r.val % 256) v (256 * (i 2).val - 256 + 256) : EReal) := by rw [← hj]; exact a
  have b' : ∀ l' : Fin 128, C (ix2 r l') = (rest z (256 * (i 2).val + r.val % 256) (256 * (i 2).val - 256 + 256) : EReal) := by rw [← hj]; exact b
  constructor
  · refine acc2 hsc (by omega) (by omega) b' v l _ _ (fun x => ?_) a'
    pointwise [k0_pay23]
    exact (ld2 x2 _ _ e inb' x l (by omega)).trans (hv ⟨_, by omega⟩)
  · intro l'
    exact carry2 hsc (by omega) (by omega) b' l'

/-- After both loops the scratch array holds the row's whole result. -/
theorem done_read (hs : ∀ s : Fin 2048, ∑ x : Fin 128, qs (ix2 r x) * x1 (ix2 s x) = (z s.val : EReal)) (hv : ∀ s : Fin 2048, x2 (ix2 s l) = (v s.val : EReal))
    (n1 n2 : ℕ) (hn1 : n1 = (k0_t1_loop i).trips) (hn2 : n2 = 0) (A C : FVec Ideal S512x128 .f32) (P7 P8 : List (View.Piece (Elt Ideal) S512x128 .f32))
    (X4 : BufTy.Contents (Elt Ideal) arg4.view.ty) (X5 : BufTy.Contents (Elt Ideal) arg5.view.ty) (G7 : BufTy.Contents (Elt Ideal) arg7.view.ty) (G8 : BufTy.Contents (Elt Ideal) arg8.view.ty)
    (h : Upto A C z v (256 * (i 2).val + r.val % 256) (256 * (i 2).val - 256 * ((i 2).val % 2)) r l) :
    arg7.view.readCov (Val := Elt Ideal)
      ((pb_k0_t2 (F := Ideal) Variants.none c none i arg3 harg3 arg4 harg4 arg5 harg5 arg6 harg6 arg7 harg7 arg8 harg8 qs (k0_pay58 (F := Ideal)) w3 w4 w5 X4 X5 G7 G8 n2).1 ++
        ((pb_k0_t1 (F := Ideal) Variants.none c none i arg3 harg3 arg4 harg4 arg5 harg5 arg6 harg6 arg7 harg7 arg8 harg8 qs (k0_pay58 (F := Ideal)) w1 w2 (harg4.unread x1) (harg5.unread x2)
          (arg7.view.writes (Elt Ideal) arg7.view.junk (⟨Rect.unit (s := S512x128) ![0, 0] S512x128.size inb_S512x128_S512x128_0_0, A⟩ :: P7))
          (arg8.view.writes (Elt Ideal) arg8.view.junk (⟨Rect.unit (s := S512x128) ![0, 0] S512x128.size inb_S512x128_S512x128_0_0, C⟩ :: P8)) n1).1
          ++ (⟨Rect.unit (s := S512x128) ![0, 0] S512x128.size inb_S512x128_S512x128_0_0, A⟩ :: P7)))
      (Rect.unit (s := S512x128) ![0, 0] S512x128.size inb_S512x128_S512x128_0_0).toLoadRect (ix2 r l) = (tot z (256 * (i 2).val + r.val % 256) v 0 : EReal) := by
  subst hn1 hn2
  have e := (loop_upto (c := c) (harg3 := harg3) (harg4 := harg4) (harg5 := harg5) (arg6 := arg6) (harg6 := harg6) (arg7 := arg7) (harg7 := harg7) (arg8 := arg8) (harg8 := harg8) (w1 := w1) (w2 := w2)
    (G7 := arg7.view.writes (Elt Ideal) arg7.view.junk (⟨Rect.unit (s := S512x128) ![0, 0] S512x128.size inb_S512x128_S512x128_0_0, A⟩ :: P7))
    (G8 := arg8.view.writes (Elt Ideal) arg8.view.junk (⟨Rect.unit (s := S512x128) ![0, 0] S512x128.size inb_S512x128_S512x128_0_0, C⟩ :: P8))
    hs hv (q := 256 * (i 2).val + r.val % 256) (by omega) (by rw [read_piece, read_piece]; exact h) (k0_t1_loop i).trips le_rfl).1
  rw [trips1_eq, Nat.sub_self, ← View.writes_append] at e
  rw [show (pb_k0_t2 (F := Ideal) Variants.none c none i arg3 harg3 arg4 harg4 arg5 harg5 arg6 harg6 arg7 harg7 arg8 harg8 qs (k0_pay58 (F := Ideal)) w3 w4 w5 X4 X5 G7 G8 0).1 = [] from rfl, List.nil_append]
  exact (congrFun (View.readAt_full _ _ _) _).trans e

end

/-- What a point of block number of parity 0 writes. -/
theorem out_A (c : Dev nD) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole)
    (arg7 : Memref sig .tc .vmem S512x128 .f32) (harg7 : arg7.IsWhole) (arg8 : Memref sig .tc .vmem S512x128 .f32) (harg8 : arg8.IsWhole) (hc0 : ¬cond0_0 i) (hc1 : ¬cond0_1 i) (hc2 : ¬cond0_2 i) (x0 : FVec Ideal S256x128 .bf16) (x1 x2 : FVec Ideal S2048x128 .bf16)
    (z v : ℕ → ℕ → ℝ) (hs : ∀ (r : Fin 512) (s : Fin 2048), ∑ x : Fin 128, k0_pay57 (F := Ideal) x0 (ix2 r x) * x1 (ix2 s x) = (z r.val s.val : EReal)) (hv : ∀ (s : Fin 2048) (l : Fin 128), x2 (ix2 s l) = (v l.val s.val : EReal))
    (r : Fin 256) (l : Fin 128) (hpar : (i 2).val % 2 = 0) :
    out0_A_3 (F := Ideal) c i arg3 harg3 arg4 harg4 arg5 harg5 arg6 harg6 arg7 harg7 arg8 harg8 hc0 hc1 hc2 x0 x1 x2 (ix2 r l) = if l.val < 64 then (tot (z r.val) (256 * (i 2).val + r.val) (v l.val) 0 : EReal) else (tot (z (256 + r.val)) (256 * (i 2).val + r.val) (v l.val) 0 : EReal) := by
  have hr := r.isLt
  frame_out
  rw [back_apply]
  split
  · have e : (⟨r.val, by omega⟩ : Fin 512).val % 256 = r.val := Nat.mod_eq_of_lt hr
    refine (done_read (c := c) (i := i) (harg3 := harg3) (harg4 := harg4) (harg5 := harg5) (harg6 := harg6) (harg7 := harg7) (harg8 := harg8) (hs ⟨r.val, by omega⟩) (fun s => hv s l) _ _ rfl (trips2_eq i) _ _ _ _ _ _ _ _ ?_).trans (by rw [e])
    exact by
      rw [hpar, Nat.mul_zero, Nat.sub_zero]
      exact upto_own (hs _) (fun s => hv s l) _ _
  · have e : (⟨256 + r.val, by omega⟩ : Fin 512).val % 256 = r.val := by show (256 + r.val) % 256 = r.val; omega
    refine (done_read (c := c) (i := i) (harg3 := harg3) (harg4 := harg4) (harg5 := harg5) (harg6 := harg6) (harg7 := harg7) (harg8 := harg8) (hs ⟨256 + r.val, by omega⟩) (fun s => hv s l) _ _ rfl (trips2_eq i) _ _ _ _ _ _ _ _ ?_).trans (by rw [e])
    exact by
      rw [hpar, Nat.mul_zero, Nat.sub_zero]
      exact upto_own (hs _) (fun s => hv s l) _ _

/-- What a point of block number of parity 1 writes. -/
theorem out_B (c : Dev nD) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole)
    (arg7 : Memref sig .tc .vmem S512x128 .f32) (harg7 : arg7.IsWhole) (arg8 : Memref sig .tc .vmem S512x128 .f32) (harg8 : arg8.IsWhole) (hc0 : ¬cond0_0 i) (hc1 : cond0_1 i) (hc2 : ¬cond0_2 i) (x0 : FVec Ideal S256x128 .bf16) (x1 x2 : FVec Ideal S2048x128 .bf16)
    (z v : ℕ → ℕ → ℝ) (hs : ∀ (r : Fin 512) (s : Fin 2048), ∑ x : Fin 128, k0_pay57 (F := Ideal) x0 (ix2 r x) * x1 (ix2 s x) = (z r.val s.val : EReal)) (hv : ∀ (s : Fin 2048) (l : Fin 128), x2 (ix2 s l) = (v l.val s.val : EReal))
    (r : Fin 256) (l : Fin 128) (hpar : (i 2).val % 2 = 1) :
    out0_B_3 (F := Ideal) c i arg3 harg3 arg4 harg4 arg5 harg5 arg6 harg6 arg7 harg7 arg8 harg8 hc0 hc1 hc2 x0 x1 x2 (ix2 r l) = if l.val < 64 then (tot (z r.val) (256 * (i 2).val + r.val) (v l.val) 0 : EReal) else (tot (z (256 + r.val)) (256 * (i 2).val + r.val) (v l.val) 0 : EReal) := by
  have hr := r.isLt
  frame_out
  rw [back_apply]
  split
  · have e : (⟨r.val, by omega⟩ : Fin 512).val % 256 = r.val := Nat.mod_eq_of_lt hr
    refine (done_read (c := c) (i := i) (harg3 := harg3) (harg4 := harg4) (harg5 := harg5) (harg6 := harg6) (harg7 := harg7) (harg8 := harg8) (hs ⟨r.val, by omega⟩) (fun s => hv s l) _ _ rfl (trips2_eq i) _ _ _ _ _ _ _ _ ?_).trans (by rw [e])
    exact by
      rw [hpar, Nat.mul_one]
      exact upto_two (hs _) (fun s => hv s l) hpar _ _ _ _ (upto_own (hs _) (fun s => hv s l) _ _)
  · have e : (⟨256 + r.val, by omega⟩ : Fin 512).val % 256 = r.val := by show (256 + r.val) % 256 = r.val; omega
    refine (done_read (c := c) (i := i) (harg3 := harg3) (harg4 := harg4) (harg5 := harg5) (harg6 := harg6) (harg7 := harg7) (harg8 := harg8) (hs ⟨256 + r.val, by omega⟩) (fun s => hv s l) _ _ rfl (trips2_eq i) _ _ _ _ _ _ _ _ ?_).trans (by rw [e])
    exact by
      rw [hpar, Nat.mul_one]
      exact upto_two (hs _) (fun s => hv s l) hpar _ _ _ _ (upto_own (hs _) (fun s => hv s l) _ _)

end Cert.KernelIdeal.Sb

end

end
-- ==== Proof.SbSpec.lean ====
/- The numbers the attention is about: the scores and values of finite arguments as real numbers, and the result of one query. -/
module

public import proofs.«01_k».proof.Proof.SbTri
public import proofs.«01_k».proof.Proof.Gen.KernelIdeal.Value

@[expose] public section

set_option maxRecDepth 16384

noncomputable section

namespace Cert.KernelIdeal.Sb

open Cert.KernelIdeal Cert.KernelIdeal.Gen Idealize.ShloMosaic Idealize.ShloMosaic.TcCoe Idealize.SL.Sem Cert.Sb Finset

/-- The score of key `s` against query `t` of head `h` in sequence `n`. -/
def sc (x0 : FVec Ideal S8x2048x8x64 .f32) (x1 : FVec Ideal S8x2048x2x8x64 .f32) (n h : Fin 8) (t : Fin 2048) (s : ℕ) : ℝ :=
  if hs : s < 2048 then (∑ d : Fin 64, (x0 (ix4 n t h d)).toReal * (x1 (ix5 n ⟨s, hs⟩ 0 h d)).toReal) * (1 / 8) else 0

/-- Coordinate `d` of value `s`. -/
def vl (x1 : FVec Ideal S8x2048x2x8x64 .f32) (n h : Fin 8) (d : Fin 64) (s : ℕ) : ℝ :=
  if hs : s < 2048 then (x1 (ix5 n ⟨s, hs⟩ 1 h d)).toReal else 0

/-- Coordinate `d` of what query `t` of head `h` in sequence `n` gets. -/
def att (x0 : FVec Ideal S8x2048x8x64 .f32) (x1 : FVec Ideal S8x2048x2x8x64 .f32) (n h : Fin 8) (t : Fin 2048) (d : Fin 64) : ℝ :=
  tot (sc x0 x1 n h t) t.val (vl x1 n h d) 0

/-- The whole result: a row per query, the heads side by side. -/
def attn (x0 : FVec Ideal S8x2048x8x64 .f32) (x1 : FVec Ideal S8x2048x2x8x64 .f32) : FVec Ideal S16384x512 .bf16 := fun i =>
  (att x0 x1 ⟨(i 0).val / 2048, by have := (i 0).isLt; simp at this; omega⟩ ⟨(i 1).val / 64, by have := (i 1).isLt; simp at this; omega⟩
    ⟨(i 0).val % 2048, by omega⟩ ⟨(i 1).val % 64, by omega⟩ : EReal)

/-- The arguments are real numbers. -/
def Reals (x0 : FVec Ideal S8x2048x8x64 .f32) (x1 : FVec Ideal S8x2048x2x8x64 .f32) : Prop :=
  (∀ i, x0 i = ((x0 i).toReal : EReal)) ∧ ∀ i, x1 i = ((x1 i).toReal : EReal)

theorem attn_at (x0 : FVec Ideal S8x2048x8x64 .f32) (x1 : FVec Ideal S8x2048x2x8x64 .f32) (i : S16384x512.Idx) (n h : Fin 8) (t : Fin 2048) (d : Fin 64) (h0 : (i 0).val = n.val * 2048 + t.val) (h1 : (i 1).val = h.val * 64 + d.val) :
    attn x0 x1 i = (att x0 x1 n h t d : EReal) := by
  unfold attn
  have e1 : (i 0).val / 2048 = n.val := by omega
  have e2 : (i 0).val % 2048 = t.val := by omega
  have e3 : (i 1).val / 64 = h.val := by omega
  have e4 : (i 1).val % 64 = d.val := by omega
  simp only [e1, e2, e3, e4]

theorem eighth : Ideal.ofBits .f32 1040187392#32 = (((1 : ℝ) / 8 : ℝ) : EReal) := by
  simp [Ideal.ofBits, Ideal.ieee, -EReal.coe_mul]; norm_num

end Cert.KernelIdeal.Sb
end
end
-- ==== Proof.SbArr.lean ====
/- The whole array the attention writes: every block of it, put together. -/
module

public import proofs.«01_k».proof.Proof.SbOut
public import proofs.«01_k».proof.Proof.SbSpec

@[expose] public section

set_option maxRecDepth 16384

noncomputable section

namespace Cert.KernelIdeal.Sb

open Cert.KernelIdeal Cert.KernelIdeal.Gen Idealize.ShloMosaic Idealize.ShloMosaic.TcCoe Idealize.SL.Sem Cert.Sb Finset

theorem idx : ∀ t : Fin cfg0.N, win0_0.index t = ![(grid0.coords t 0).val * 8 + (grid0.coords t 2).val, (grid0.coords t 1).val] ∧ win0_1.index t = ![(grid0.coords t 0).val, (grid0.coords t 1).val] ∧ win0_2.index t = ![(grid0.coords t 0).val, 4 + (grid0.coords t 1).val] ∧ win0_3.index t = ![(grid0.coords t 0).val * 8 + (grid0.coords t 2).val, (grid0.coords t 1).val] := (by decide +kernel : ∀ t : Fin grid0.N, _)

theorem place : ∀ t : Fin cfg0.N, (grid0.coords t 0).val < 8 ∧ (grid0.coords t 1).val < 4 ∧ (grid0.coords t 2).val < 8 ∧ t.val % 2 = (grid0.coords t 2).val % 2 := (by decide +kernel : ∀ t : Fin grid0.N, _)

variable (m : (ℓ : Loc nD τ sig) → Buf (Elt Ideal) ℓ)

/-- The queries the launch reads. -/
def argq (c : Dev nD) : FVec Ideal S8x2048x8x64 .f32 := m ((c : Thread nD τ).loc main_arg0)
/-- The keys and values the launch reads. -/
def argkv (c : Dev nD) : FVec Ideal S8x2048x2x8x64 .f32 := m ((c : Thread nD τ).loc main_arg1)

theorem rows_q (c : Dev nD) (R : Fin 16384) (C : Fin 512) (n h : Fin 8) (t : Fin 2048) (d : Fin 64) (hr : R.val = n.val * 2048 + t.val) (hc : C.val = h.val * 64 + d.val) :
    V m c main_v3 (ix2 R C) = argq m c (ix4 n t h d) * Ideal.ofBits .f32 1040187392#32 := by
  entry_read
  pointwise
  have e : (⟨R.val / 2048, by omega⟩ : Fin 8) = n ∧ (⟨R.val % 2048, by omega⟩ : Fin 2048) = t ∧ (⟨C.val / 64, by omega⟩ : Fin 8) = h ∧ (⟨C.val % 64, by omega⟩ : Fin 64) = d := by
    refine ⟨Fin.ext ?_, Fin.ext ?_, Fin.ext ?_, Fin.ext ?_⟩ <;> dsimp only <;> omega
  rw [e.1, e.2.1, e.2.2.1, e.2.2.2]; rfl

theorem rows_kv (c : Dev nD) (R : Fin 16384) (C : Fin 1024) (n h : Fin 8) (s : Fin 2048) (b : Fin 2) (d : Fin 64) (hr : R.val = n.val * 2048 + s.val) (hc : C.val = b.val * 512 + h.val * 64 + d.val) :
    V m c main_v5 (ix2 R C) = argkv m c (ix5 n s b h d) := by
  entry_read
  pointwise
  have e : (⟨R.val / 2048, by omega⟩ : Fin 8) = n ∧ (⟨R.val % 2048, by omega⟩ : Fin 2048) = s ∧ (⟨C.val / 512, by omega⟩ : Fin 2) = b ∧ (⟨C.val / 64 % 8, by omega⟩ : Fin 8) = h ∧ (⟨C.val % 64, by omega⟩ : Fin 64) = d := by
    refine ⟨Fin.ext ?_, Fin.ext ?_, Fin.ext ?_, Fin.ext ?_, Fin.ext ?_⟩ <;> dsimp only <;> omega
  rw [e.1, e.2.1, e.2.2.1, e.2.2.2.1, e.2.2.2.2]; rfl

theorem blk_q (c : Dev nD) (t : Fin cfg0.N) (r : Fin 256) (x : Fin 128) (n h : Fin 8) (q : Fin 2048) (d : Fin 64) (hn : n.val = (grid0.coords t 0).val) (hq : q.val = 256 * (grid0.coords t 2).val + r.val) (hh : h.val * 64 + d.val = 128 * (grid0.coords t 1).val + x.val) :
    (show FVec Ideal S256x128 .bf16 from iblk m c 0 t) (ix2 r x) = argq m c (ix4 n q h d) * Ideal.ofBits .f32 1040187392#32 := by
  obtain ⟨p0, p1, p2, _⟩ := place t
  refine Eq.trans ?_ (rows_q m c ⟨n.val * 2048 + q.val, by omega⟩ ⟨h.val * 64 + d.val, by omega⟩ n h q d rfl rfl)
  blk_simp [iblk]
  blk_ext [idx t]
  all_goals omega

theorem blk_k (c : Dev nD) (t : Fin cfg0.N) (s : Fin 2048) (x : Fin 128) (n h : Fin 8) (d : Fin 64) (hn : n.val = (grid0.coords t 0).val) (hh : h.val * 64 + d.val = 128 * (grid0.coords t 1).val + x.val) :
    (show FVec Ideal S2048x128 .bf16 from iblk m c 1 t) (ix2 s x) = argkv m c (ix5 n s 0 h d) := by
  obtain ⟨p0, p1, p2, _⟩ := place t
  refine Eq.trans ?_ (rows_kv m c ⟨n.val * 2048 + s.val, by omega⟩ ⟨h.val * 64 + d.val, by omega⟩ n h s 0 d rfl (by simp))
  blk_simp [iblk]
  blk_ext [idx t]
  all_goals omega

theorem blk_v (c : Dev nD) (t : Fin cfg0.N) (s : Fin 2048) (x : Fin 128) (n h : Fin 8) (d : Fin 64) (hn : n.val = (grid0.coords t 0).val) (hh : h.val * 64 + d.val = 128 * (grid0.coords t 1).val + x.val) :
    (show FVec Ideal S2048x128 .bf16 from iblk m c 2 t) (ix2 s x) = argkv m c (ix5 n s 1 h d) := by
  obtain ⟨p0, p1, p2, _⟩ := place t
  refine Eq.trans ?_ (rows_kv m c ⟨n.val * 2048 + s.val, by omega⟩ ⟨512 + (h.val * 64 + d.val), by omega⟩ n h s 1 d rfl (by simp; omega))
  blk_simp [iblk]
  blk_ext [idx t]
  all_goals omega

theorem lane_ge : ∀ s : Fin 128, IntOp.cmpi .sge (BitVec.ofNat 32 s.val) 64#32 = if s.val < 64 then 0#1 else 1#1 := by decide +kernel

/-- The product over 128 lanes is the product over the head's 64: the others are zero. -/
theorem score_abs (b0 : FVec Ideal S256x128 .bf16) (b1 : FVec Ideal S2048x128 .bf16) (Q K : ℕ → ℕ → ℝ) (h0 : ∀ (r : Fin 256) (x : Fin 128), b0 (ix2 r x) = (Q r.val x.val : EReal)) (h1 : ∀ (s : Fin 2048) (x : Fin 128), b1 (ix2 s x) = (K s.val x.val : EReal)) (r : Fin 512) (s : Fin 2048) :
    ∑ x : Fin 128, k0_pay57 (F := Ideal) b0 (ix2 r x) * b1 (ix2 s x) = ((∑ d : Fin 64, Q (r.val % 256) (64 * (r.val / 256) + d.val) * K s.val (64 * (r.val / 256) + d.val) : ℝ) : EReal) := by
  have hp : ∀ x : Fin 128, k0_pay57 (F := Ideal) b0 (ix2 r x) = ((if x.val / 64 = r.val / 256 then Q (r.val % 256) x.val else 0 : ℝ) : EReal) := by
    intro x
    pointwise [k0_pay57]
    rw [lane_bit, lane_ge]
    by_cases hr : r.val < 256
    · rw [dif_pos hr, h0]
      dsimp only
      rw [show r.val / 256 = 0 by omega, show r.val % 256 = r.val by omega]
      by_cases hx : x.val < 64
      · rw [if_pos hx, if_pos (by omega)]; rfl
      · rw [if_neg hx, if_neg (by omega)]; rfl
    · rw [dif_neg hr, h0]
      dsimp only
      rw [show r.val / 256 = 1 by omega, show r.val % 256 = r.val - 256 by omega]
      by_cases hx : x.val < 64
      · rw [if_pos hx, if_neg (by omega)]; rfl
      · rw [if_neg hx, if_pos (by omega)]; rfl
  rw [Finset.sum_congr rfl fun x _ => by rw [hp x, h1 s x, ← EReal.coe_mul], coe_sum]
  congr 1
  have e := Fin.sum_univ_add (a := 64) (b := 64) (fun x : Fin 128 => (if x.val / 64 = r.val / 256 then Q (r.val % 256) x.val else 0) * K s.val x.val)
  refine e.trans ?_
  simp only [Fin.val_castAdd, Fin.val_natAdd]
  by_cases hr : r.val < 256
  · rw [show r.val / 256 = 0 by omega, Finset.sum_eq_zero (s := Finset.univ) (f := fun i : Fin 64 => (if (64 + i.val) / 64 = 0 then Q (r.val % 256) (64 + i.val) else 0) * K s.val (64 + i.val)) (fun i _ => by rw [if_neg (by omega), zero_mul]), add_zero]
    refine Finset.sum_congr rfl fun i _ => ?_
    rw [if_pos (by omega)]; simp
  · rw [show r.val / 256 = 1 by omega, Finset.sum_eq_zero (s := Finset.univ) (f := fun i : Fin 64 => (if i.val / 64 = 1 then Q (r.val % 256) i.val else 0) * K s.val i.val) (fun i _ => by rw [if_neg (by omega), zero_mul]), zero_add]
    refine Finset.sum_congr rfl fun i _ => ?_
    rw [if_pos (by omega)]

/-- The head a lane of the point's block belongs to. -/
def hd (j : ℕ) : Fin 8 := ⟨j % 8, by omega⟩

/-- The scores of the point's rows, and the values of its lanes, numbered as in the point's blocks. -/
def zz (x0 : FVec Ideal S8x2048x8x64 .f32) (x1 : FVec Ideal S8x2048x2x8x64 .f32) (a b e r : ℕ) : ℕ → ℝ := sc x0 x1 (hd a) (hd (2 * b + r / 256)) ⟨(256 * e + r % 256) % 2048, by omega⟩
def vv (x1 : FVec Ideal S8x2048x2x8x64 .f32) (a b l : ℕ) : ℕ → ℝ := vl x1 (hd a) (hd (2 * b + l / 64)) ⟨l % 64, by omega⟩

theorem scores_at (c : Dev nD) (hr : Reals (argq m c) (argkv m c)) (t : Fin cfg0.N) (r : Fin 512) (s : Fin 2048) :
    ∑ x : Fin 128, k0_pay57 (F := Ideal) (iblk m c 0 t) (ix2 r x) * (show FVec Ideal S2048x128 .bf16 from iblk m c 1 t) (ix2 s x) =
      (zz (argq m c) (argkv m c) (grid0.coords t 0).val (grid0.coords t 1).val (grid0.coords t 2).val r.val s.val : EReal) := by
  obtain ⟨p0, p1, p2, _⟩ := place t
  refine (score_abs (iblk m c 0 t) (iblk m c 1 t)
    (fun r x => (argq m c (ix4 (hd (grid0.coords t 0).val) ⟨(256 * (grid0.coords t 2).val + r) % 2048, by omega⟩ (hd (2 * (grid0.coords t 1).val + x / 64)) ⟨x % 64, by omega⟩)).toReal * (1 / 8))
    (fun s x => (argkv m c (ix5 (hd (grid0.coords t 0).val) ⟨s % 2048, by omega⟩ 0 (hd (2 * (grid0.coords t 1).val + x / 64)) ⟨x % 64, by omega⟩)).toReal) ?_ ?_ r s).trans ?_
  · intro r x
    rw [EReal.coe_mul, ← hr.1, ← eighth]
    refine blk_q m c t r x _ _ _ _ ?_ ?_ ?_ <;> simp only [hd] <;> omega
  · intro s x
    rw [← hr.2]
    rw [show (⟨s.val % 2048, by omega⟩ : Fin 2048) = s from Fin.ext (by dsimp only; omega)]
    refine blk_k m c t s x _ _ _ ?_ ?_ <;> simp only [hd] <;> omega
  · congr 1
    rw [zz, sc, dif_pos s.isLt, Finset.sum_mul]
    refine Finset.sum_congr rfl fun d _ => ?_
    have e1 : (64 * (r.val / 256) + d.val) / 64 = r.val / 256 := by omega
    have e2 : (64 * (r.val / 256) + d.val) % 64 = d.val := by omega
    simp only [e1, e2, Nat.mod_eq_of_lt s.isLt]
    ring

theorem values_at (c : Dev nD) (hr : Reals (argq m c) (argkv m c)) (t : Fin cfg0.N) (s : Fin 2048) (l : Fin 128) :
    (show FVec Ideal S2048x128 .bf16 from iblk m c 2 t) (ix2 s l) = (vv (argkv m c) (grid0.coords t 0).val (grid0.coords t 1).val l.val s.val : EReal) := by
  obtain ⟨p0, p1, p2, _⟩ := place t
  rw [vv, vl, dif_pos s.isLt, ← hr.2]
  refine blk_v m c t s l _ _ _ ?_ ?_ <;> simp only [hd] <;> omega

theorem halves (x0 : FVec Ideal S8x2048x8x64 .f32) (x1 : FVec Ideal S8x2048x2x8x64 .f32) (a b e : ℕ) (he : e < 8) (r : Fin 256) (l : Fin 128) :
    (if l.val < 64 then (tot (zz x0 x1 a b e r.val) (256 * e + r.val) (vv x1 a b l.val) 0 : EReal) else (tot (zz x0 x1 a b e (256 + r.val)) (256 * e + r.val) (vv x1 a b l.val) 0 : EReal)) =
      (att x0 x1 (hd a) (hd (2 * b + l.val / 64)) ⟨(256 * e + r.val) % 2048, by omega⟩ ⟨l.val % 64, by omega⟩ : EReal) := by
  have eq : (256 * e + r.val) % 2048 = 256 * e + r.val := by omega
  have e1 : r.val % 256 = r.val := by omega
  have e2 : (256 + r.val) % 256 = r.val := by omega
  have e3 : r.val / 256 = 0 := by omega
  have e4 : (256 + r.val) / 256 = 1 := by omega
  unfold att zz vv
  by_cases hl : l.val < 64
  · have e5 : l.val / 64 = 0 := by omega
    rw [if_pos hl]
    simp only [e1, e3, e5, eq]
  · have e5 : l.val / 64 = 1 := by omega
    rw [if_neg hl]
    simp only [e2, e4, e5, eq]

/-- One point of the grid writes the attention's result at its own rows and lanes. -/
theorem point_at (c : Dev nD) (hr : Reals (argq m c) (argkv m c)) (t : Fin cfg0.N) (r : Fin 256) (l : Fin 128) :
    (show FVec Ideal S256x128 .bf16 from outsAt0 m c t.val t.isLt) (ix2 r l) = (att (argq m c) (argkv m c) (hd (grid0.coords t 0).val) (hd (2 * (grid0.coords t 1).val + l.val / 64)) ⟨(256 * (grid0.coords t 2).val + r.val) % 2048, by omega⟩ ⟨l.val % 64, by omega⟩ : EReal) := by
  obtain ⟨p0, p1, p2, hp⟩ := place t
  refine Eq.trans ?_ (halves (argq m c) (argkv m c) (grid0.coords t 0).val (grid0.coords t 1).val (grid0.coords t 2).val p2 r l)
  by_cases h1 : t.val % 2 = 1
  · rw [outsAt0_B m c t h1]
    exact out_B c (grid0.coords t) _ _ _ _ _ _ _ _ _ _ _ _ _ _ _ (iblk m c 0 t) (iblk m c 1 t) (iblk m c 2 t)
      (zz (argq m c) (argkv m c) (grid0.coords t 0).val (grid0.coords t 1).val (grid0.coords t 2).val) (vv (argkv m c) (grid0.coords t 0).val (grid0.coords t 1).val) (scores_at m c hr t) (values_at m c hr t) r l (hp ▸ h1)
  · rw [outsAt0_A m c t h1]
    exact out_A c (grid0.coords t) _ _ _ _ _ _ _ _ _ _ _ _ _ _ _ (iblk m c 0 t) (iblk m c 1 t) (iblk m c 2 t)
      (zz (argq m c) (argkv m c) (grid0.coords t 0).val (grid0.coords t 1).val (grid0.coords t 2).val) (vv (argkv m c) (grid0.coords t 0).val (grid0.coords t 1).val) (scores_at m c hr t) (values_at m c hr t) r l (by omega)

/-- The array the launch leaves is the attention's result. -/
theorem final (c : Dev nD) (hr : Reals (argq m c) (argkv m c)) : (dats m 0 c).arrAt 3 (cfgs 0).N = attn (argq m c) (argkv m c) := by
  refine (dats m 0 c).arrAt_eq_of_covers 3 _ (by decide +kernel) fun t _ y => ?_
  obtain ⟨p0, p1, p2, hp⟩ := place t
  blk_simp
  rw [after0_3]
  idx_vars y
  refine (point_at m c hr t _ _).trans (attn_at _ _ _ _ _ _ _ ?_ ?_).symm
  · blk_simp [idx t]
    simp only [hd]
    omega
  · blk_simp [idx t]
    simp only [hd]
    omega

end Cert.KernelIdeal.Sb
end
end
-- ==== Proof.SbRef.lean ====
/- What the written-out attention computes at each index, on finite arguments: the same real numbers. -/
module

public import proofs.«01_k».proof.Proof.SbSpec
public import proofs.«01_k».proof.Proof.Gen.ReferenceIdeal.Read
public import Idealize.ShloMosaic.Lib.WordCmp

@[expose] public section

set_option maxRecDepth 16384

noncomputable section

namespace Cert.ReferenceIdeal.Sb

open Cert.ReferenceIdeal Idealize.ShloMosaic Idealize.ShloMosaic.TcCoe Idealize.SL.Sem Cert.Sb Finset Cert.KernelIdeal.Sb

theorem foldl_sum {N : ℕ} (g : Fin N → EReal) (v : EReal) : (List.finRange N).foldl (fun r n => r + g n) v = v + ∑ n, g n := by
  have : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [this, Fin.sum_univ_def]

/-- The positions of a window along the last axis. -/
def lastAxis : (⟨4, ![1, 1, 1, 2048]⟩ : Shape).Idx ≃ Fin 2048 where
  toFun w := w 3
  invFun k := ix4 (0 : Fin 1) (0 : Fin 1) (0 : Fin 1) k
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv k := rfl

/-- A running sum from the far end: each entry is the sum of the entries from it on. -/
theorem suffix_sum (x : FVec Ideal S8x8x2048x2048 .f32) (n h : Fin 8) (t s : Fin 2048) (f : ℕ → ℝ) (hf : ∀ u : Fin 2048, x (ix4 n h t u) = (f u.val : EReal)) (w : S8x8x2048x2048.ReduceWindows ![1, 1, 1, 2048] ![1, 1, 1, 1] ![0, 0, 0, 0] ![0, 0, 0, 2047] S8x8x2048x2048) :
    Ideal.hostReduceWindowAdd ![1, 1, 1, 2048] ![1, 1, 1, 1] ![0, 0, 0, 0] ![0, 0, 0, 2047] w x 0 (ix4 n h t s) = ((∑ u ∈ Ico s.val 2048, f u : ℝ) : EReal) := by
  unfold Ideal.hostReduceWindowAdd Host.reduceWindow
  refine (foldl_sum _ _).trans ?_
  rw [zero_add]
  let G : Fin 2048 → EReal := fun k => ((if s.val + k.val < 2048 then f (s.val + k.val) else 0 : ℝ) : EReal)
  refine (Finset.sum_congr rfl (g := fun k => G (lastAxis ((⟨4, ![1, 1, 1, 2048]⟩ : Shape).rowMajor.symm k))) fun k _ => ?_).trans ?_
  · have b0 : ((⟨4, ![1, 1, 1, 2048]⟩ : Shape).rowMajor.symm k 0).val < 1 := ((⟨4, ![1, 1, 1, 2048]⟩ : Shape).rowMajor.symm k 0).isLt
    have b1 : ((⟨4, ![1, 1, 1, 2048]⟩ : Shape).rowMajor.symm k 1).val < 1 := ((⟨4, ![1, 1, 1, 2048]⟩ : Shape).rowMajor.symm k 1).isLt
    have b2 : ((⟨4, ![1, 1, 1, 2048]⟩ : Shape).rowMajor.symm k 2).val < 1 := ((⟨4, ![1, 1, 1, 2048]⟩ : Shape).rowMajor.symm k 2).isLt
    have b3 : ((⟨4, ![1, 1, 1, 2048]⟩ : Shape).rowMajor.symm k 3).val = (lastAxis ((⟨4, ![1, 1, 1, 2048]⟩ : Shape).rowMajor.symm k)).val := rfl
    generalize lastAxis ((⟨4, ![1, 1, 1, 2048]⟩ : Shape).rowMajor.symm k) = p at b3 ⊢
    dsimp only [G]
    by_cases hk : s.val + p.val < 2048
    · rw [if_pos hk, dif_pos (fun a => by
        match a with
        | ⟨0, _⟩ => exact ⟨Nat.zero_le _, by show n.val * 1 + ((⟨4, ![1, 1, 1, 2048]⟩ : Shape).rowMajor.symm k 0).val - 0 < 8; omega⟩
        | ⟨1, _⟩ => exact ⟨Nat.zero_le _, by show h.val * 1 + ((⟨4, ![1, 1, 1, 2048]⟩ : Shape).rowMajor.symm k 1).val - 0 < 8; omega⟩
        | ⟨2, _⟩ => exact ⟨Nat.zero_le _, by show t.val * 1 + ((⟨4, ![1, 1, 1, 2048]⟩ : Shape).rowMajor.symm k 2).val - 0 < 2048; omega⟩
        | ⟨3, _⟩ => exact ⟨Nat.zero_le _, by show s.val * 1 + ((⟨4, ![1, 1, 1, 2048]⟩ : Shape).rowMajor.symm k 3).val - 0 < 2048; omega⟩)]
      refine Eq.trans ?_ (hf ⟨s.val + p.val, hk⟩)
      refine congrArg x (funext fun a => Fin.ext ?_)
      match a with
      | ⟨0, _⟩ => show n.val * 1 + ((⟨4, ![1, 1, 1, 2048]⟩ : Shape).rowMajor.symm k 0).val - 0 = n.val; omega
      | ⟨1, _⟩ => show h.val * 1 + ((⟨4, ![1, 1, 1, 2048]⟩ : Shape).rowMajor.symm k 1).val - 0 = h.val; omega
      | ⟨2, _⟩ => show t.val * 1 + ((⟨4, ![1, 1, 1, 2048]⟩ : Shape).rowMajor.symm k 2).val - 0 = t.val; omega
      | ⟨3, _⟩ => show s.val * 1 + ((⟨4, ![1, 1, 1, 2048]⟩ : Shape).rowMajor.symm k 3).val - 0 = s.val + p.val; omega
    · rw [if_neg hk, dif_neg (fun hin => hk (by
        have h3 : s.val * 1 + ((⟨4, ![1, 1, 1, 2048]⟩ : Shape).rowMajor.symm k 3).val - 0 < 2048 := (hin 3).2
        omega))]
      rfl
  refine (Equiv.sum_comp ((⟨4, ![1, 1, 1, 2048]⟩ : Shape).rowMajor.symm.trans lastAxis) G).trans ?_
  dsimp only [G]
  rw [coe_sum]
  congr 1
  refine (sum_Ico_fin (fun u => if u < 2048 then f u else 0) s.val 2048).symm.trans ?_
  rw [← Finset.sum_filter]
  refine Finset.sum_congr (Finset.ext fun u => ?_) fun _ _ => rfl
  rw [Finset.mem_filter, Finset.mem_Ico, Finset.mem_Ico]
  omega

open Cert.ReferenceIdeal.Read

variable (x0 : FVec Ideal S8x2048x8x64 .f32) (x1 : FVec Ideal S8x2048x2x8x64 .f32)

theorem score_apply (hr : Reals x0 x1) (n h : Fin 8) (t s : Fin 2048) : val_main_v6 (F := Ideal) x0 x1 (ix4 n h t s) = (sc x0 x1 n h t s.val : EReal) := by
  rw [val_main_v6_apply, val_main_v5_apply, val_main_v4_apply, sc, dif_pos s.isLt, EReal.coe_mul, ← eighth, ← coe_sum]
  refine congrArg₂ (· * ·) (Finset.sum_congr rfl fun d _ => ?_) rfl
  rw [EReal.coe_mul, ← hr.1, ← hr.2]
  refine congrArg₂ (· * ·) (congrArg x0 ?_) ?_
  · blk_ext
  · pointwise [val_main_v1, val_main_v0]

theorem value_apply (hr : Reals x0 x1) (n h : Fin 8) (d : Fin 64) (s : Fin 2048) : val_main_v3 (F := Ideal) x1 (ix4 n s h d) = (vl x1 n h d s.val : EReal) := by
  rw [vl, dif_pos s.isLt, ← hr.2]
  pointwise [val_main_v3, val_main_v2]

/-- The logarithm of the logistic function, as it is written out. -/
theorem log_logistic (y : ℝ) (w : Ideal .f32) :
    FloatOps.hostNegf (Scalar.select (FloatOps.cmpf .une (FloatOps.subf (F := Ideal) (φ := .f32) (y : EReal) (FloatOps.ofBits .f32 0x00000000#32)) (FloatOps.subf (F := Ideal) (φ := .f32) (y : EReal) (FloatOps.ofBits .f32 0x00000000#32))) w
      (FloatOps.addf (FloatOps.maximumf (F := Ideal) (φ := .f32) (y : EReal) (FloatOps.ofBits .f32 0x00000000#32))
        (FloatOps.hostUnary .log1p (FloatOps.hostUnary .exp (FloatOps.hostNegf (FloatOps.hostAbsf (FloatOps.subf (F := Ideal) (φ := .f32) (y : EReal) (FloatOps.ofBits .f32 0x00000000#32)))))))) = (lsz (-y) : EReal) := by
  have h0 : FloatOps.ofBits (F := Ideal) .f32 0x00000000#32 = (0 : EReal) := Ideal.ofBits_zero_f32
  have h1 : FloatOps.subf (F := Ideal) (φ := .f32) (y : EReal) (0 : EReal) = (y : EReal) := sub_zero _
  have h2 : FloatOps.cmpf (F := Ideal) (φ := .f32) .une (y : EReal) (y : EReal) = 0#1 := by
    show Ideal.cmp _ _ _ = _
    simp [Ideal.cmp]
  rw [h0, h1, h2]
  show -(max (y : EReal) 0 + Ideal.log (1 + Ideal.exp (-(max (y : EReal) (-(y : EReal)))))) = _
  rw [absf_coe, ← EReal.coe_neg, log_one_exp, show max (y : EReal) 0 = ((max y 0 : ℝ) : EReal) from (EReal.coe_strictMono.monotone.map_max (a := y) (b := 0)).symm, ← EReal.coe_add, ← EReal.coe_neg]
  congr 1
  unfold lsz
  rw [abs_neg, neg_add, ← sub_eq_add_neg, ← min_neg_neg, neg_zero]

theorem v14_apply (i : S8x8x2048x2048.Idx) (z : ℝ) (hz : val_main_v6 (F := Ideal) x0 x1 i = (z : EReal)) : val_main_v14 (F := Ideal) x0 x1 i = (lsz (-z) : EReal) := by
  simp only [val_main_v14_apply, val_main_call0_v1_apply, val_main_call0_call0_v4_apply, val_main_call0_call0_v3_apply, val_main_call0_call0_v11_apply, val_main_call0_call0_v1_apply, val_main_call0_call0_v10_apply, val_main_call0_call0_v9_apply, val_main_call0_call0_v8_apply, val_main_call0_call0_v7_apply, val_main_call0_call0_v2_apply, val_main_call0_call0_v0_apply, val_main_call0_call0_cst_apply, val_main_call0_v0_apply, val_main_v13_apply, hz]
  rw [show FloatOps.hostNegf (F := Ideal) (φ := .f32) (FloatOps.hostNegf (F := Ideal) (φ := .f32) (z : EReal)) = (z : EReal) from neg_neg _]
  exact log_logistic z _

theorem v18_apply (i : S8x8x2048x2048.Idx) (z : ℝ) (hz : val_main_v6 (F := Ideal) x0 x1 i = (z : EReal)) : val_main_v18 (F := Ideal) x0 x1 i = (lsz z : EReal) := by
  simp only [val_main_v18_apply, val_main_call3_v1_apply, val_main_call3_call0_v4_apply, val_main_call3_call0_v3_apply, val_main_call3_call0_v11_apply, val_main_call3_call0_v1_apply, val_main_call3_call0_v10_apply, val_main_call3_call0_v9_apply, val_main_call3_call0_v8_apply, val_main_call3_call0_v7_apply, val_main_call3_call0_v2_apply, val_main_call3_call0_v0_apply, val_main_call3_call0_cst_apply, val_main_call3_v0_apply, hz]
  rw [show FloatOps.hostNegf (F := Ideal) (φ := .f32) (z : EReal) = ((-z : ℝ) : EReal) from (EReal.coe_neg z).symm]
  refine (log_logistic (-z) _).trans ?_
  rw [neg_neg]

theorem before (t s : Fin 2048) : val_main_v12 (F := Ideal) (ix2 t s) = if s.val < t.val then 1#1 else 0#1 := by
  pointwise [val_main_v12, val_main_v10, val_main_v11, val_main_v8, val_main_v9, val_main_v7]
  rw [WordCmp.cmpi_slt_ofNat (by omega) (by omega)]
  by_cases hs : s.val < t.val
  · rw [if_pos hs, decide_eq_true hs]; rfl
  · rw [if_neg hs, decide_eq_false hs]; rfl

variable {x0 x1} in
theorem v15_apply (hr : Reals x0 x1) (n h : Fin 8) (t s : Fin 2048) : val_main_v15 (F := Ideal) x0 x1 (ix4 n h t s) = (fm (sc x0 x1 n h t) t.val s.val : EReal) := by
  rw [val_main_v15_apply, v14_apply x0 x1 _ _ (score_apply x0 x1 hr n h t s), val_main_call1_v1_apply, show idx_main_call1_v1 (ix4 n h t s) = ix2 t s by blk_ext, before, fm, lsz_neg]
  by_cases hs : s.val < t.val
  · rw [if_pos hs, if_pos hs]; rfl
  · rw [if_neg hs, if_neg hs]
    exact Ideal.ofBits_zero_f32

variable {x0 x1} in
theorem v17_apply (hr : Reals x0 x1) (n h : Fin 8) (t s : Fin 2048) : val_main_v17 (F := Ideal) x0 x1 (ix4 n h t s) = ((∑ u ∈ Ico (s.val + 1) 2048, fm (sc x0 x1 n h t) t.val u : ℝ) : EReal) := by
  rw [val_main_v17_apply, v15_apply hr]
  have e : val_main_v16 (F := Ideal) x0 x1 (ix4 n h t s) = ((∑ u ∈ Ico s.val 2048, fm (sc x0 x1 n h t) t.val u : ℝ) : EReal) := by
    have h0 : val_main_call2_v0 (F := Ideal) = fun _ => (0 : EReal) := funext fun _ => Ideal.ofBits_zero_f32
    unfold val_main_v16 Host.reduceWindowAdd
    rw [h0]
    exact suffix_sum _ n h t s _ (fun u => v15_apply hr n h t u) _
  rw [e]
  refine (EReal.coe_sub _ _).symm.trans (congrArg _ ?_)
  rw [Finset.sum_eq_sum_Ico_succ_bot s.isLt]
  ring

variable {x0 x1} in
theorem v21_apply (hr : Reals x0 x1) (n h : Fin 8) (t s : Fin 2048) : val_main_v21 (F := Ideal) x0 x1 (ix4 n h t s) = (wt (sc x0 x1 n h t) t.val s.val : EReal) := by
  rw [val_main_v21_apply, val_main_v20_apply, val_main_v19_apply, v17_apply hr, v18_apply x0 x1 _ _ (score_apply x0 x1 hr n h t s)]
  rw [val_main_call4_v1_apply, show idx_main_call4_v1 (ix4 n h t s) = ix2 t s by blk_ext, before, wt]
  by_cases hs : s.val < t.val
  · rw [if_pos hs, if_pos hs]
    refine Eq.trans ?_ (Ideal.exp_coe _)
    rw [EReal.coe_add]
    rfl
  · rw [if_neg hs, if_neg hs]
    exact Ideal.ofBits_zero_f32

variable {x0 x1} in
theorem v22_apply (hr : Reals x0 x1) (n h : Fin 8) (d : Fin 64) (t : Fin 2048) : val_main_v22 (F := Ideal) x0 x1 (ix4 n h d t) = (att x0 x1 n h t d : EReal) := by
  rw [val_main_v22_apply]
  have e := sum_Ico_fin (fun s => wt (sc x0 x1 n h t) t.val s * vl x1 n h d s) 0 2048
  unfold att tot
  refine Eq.trans ?_ (congrArg _ e.symm)
  rw [← coe_sum]
  refine Finset.sum_congr rfl fun s _ => ?_
  rw [show lidx_main_v22 (ix4 n h d t) s = ix4 n s h d by blk_ext, show ridx_main_v22 (ix4 n h d t) s = ix4 n h t s by blk_ext, v21_apply hr, value_apply x0 x1 hr, ← EReal.coe_mul]
  congr 1
  rw [zero_add, mul_comm]

/-- On finite arguments the written-out attention is the attention's result. -/
theorem result (hr : Reals x0 x1) : val_main_v25 (F := Ideal) x0 x1 = attn x0 x1 := by
  funext i
  have h0 : (i 0).val < 16384 := (i 0).isLt
  have h1 : (i 1).val < 512 := (i 1).isLt
  rw [val_main_v25_apply, val_main_v24_apply, val_main_v23_apply, attn_at x0 x1 i ⟨(i 0).val / 2048, by omega⟩ ⟨(i 1).val / 64, by omega⟩ ⟨(i 0).val % 2048, by omega⟩ ⟨(i 1).val % 64, by omega⟩ (by dsimp only; omega) (by dsimp only; omega), ← v22_apply hr]
  refine congrArg (val_main_v22 (F := Ideal) x0 x1) (funext fun a => Fin.ext ?_)
  match a with
  | ⟨0, _⟩ => show ((i 0).val * 512 + (i 1).val) / 1048576 = (i 0).val / 2048; omega
  | ⟨1, _⟩ => show ((i 0).val * 512 + (i 1).val) / 64 % 8 = (i 1).val / 64; omega
  | ⟨2, _⟩ => show ((i 0).val * 512 + (i 1).val) % 64 = (i 1).val % 64; omega
  | ⟨3, _⟩ => show ((i 0).val * 512 + (i 1).val) / 512 % 2048 = (i 0).val % 2048; omega

end Cert.ReferenceIdeal.Sb
end
end
-- ==== Proof.SbPre.lean ====
/- What the precondition says: every argument is a real number. -/
module

public import proofs.«01_k».proof.Proof.SbSpec
public import proofs.«01_k».proof.Proof.Gen.Pre_sb_finite
public import Idealize.ShloMosaic.Lib.ReduceAll
public import Idealize.ShloMosaic.Lib.Affine

@[expose] public section

set_option maxRecDepth 16384

noncomputable section

namespace Cert.KernelIdeal.Sb

open Cert.KernelIdeal Idealize.ShloMosaic Idealize.ShloMosaic.TcCoe Idealize.SL.Sem

theorem top_bits : Ideal.ofBits .f32 0x7F800000#32 = (⊤ : EReal) := by
  simp [Ideal.ofBits, Ideal.ieee]

/-- A number whose absolute value is below the greatest is a real number. -/
theorem real_of_lt (x : EReal) (h : FloatOps.cmpf (F := Ideal) (φ := .f32) .olt (FloatOps.hostAbsf (F := Ideal) (φ := .f32) x) (Ideal.ofBits .f32 0x7F800000#32) = 1#1) : x = (x.toReal : EReal) := by
  rw [top_bits] at h
  have h' : max x (-x) < ⊤ := by
    by_contra hn
    have : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hn]; rfl
    rw [this] at h
    exact absurd h (by decide)
  refine (EReal.coe_toReal ?_ ?_).symm
  · rintro rfl; simp at h'
  · rintro rfl; simp at h'

theorem reals_of_pre (x0 : FVec Ideal S8x2048x8x64 .f32) (x1 : FVec Ideal S8x2048x2x8x64 .f32) (h : Cert.Pre_sb_finite.fn (F := Ideal) x0 x1 = fun _ => 1#1) : Reals x0 x1 := by
  have h0 := congrFun h ValueIdx.ix0
  dsimp only [Cert.Pre_sb_finite.fn] at h0
  have hs : Subsingleton Cert.Pre_sb_finite.S_.Idx := ⟨fun a b => funext fun k => k.elim0⟩
  obtain ⟨ha, hb⟩ := IntOp.andi_eq_one.mp h0
  exact ⟨fun i => real_of_lt _ (Host.reduce_andi_all _ _ _ _ _ ha i), fun i => real_of_lt _ (Host.reduce_andi_all _ _ _ _ _ hb i)⟩

end Cert.KernelIdeal.Sb
end
end
-- ==== Proof.LyRow.lean ====
/- The layer's arithmetic on one row of activations: the norm, the modulation, the MLP and the merge of the mixers. -/
module

public import Idealize.ShloMosaic.Lib.Pointwise

@[expose] public section

noncomputable section

namespace Cert.Ly

open Idealize.ShloMosaic

/-- The row divided by the root of its mean square (and the small number under it). -/
def norm (x : Fin 1024 → EReal) (k : Fin 1024) : EReal :=
  x k * Ideal.rsqrt (Ideal.div (∑ j, x j * x j) (Ideal.ofBits .f32 1149239296#32) + Ideal.ofBits .f32 897988541#32)

/-- The normed row times its gain, modulated. -/
def hid (x g sc sh : Fin 1024 → EReal) (k : Fin 1024) : EReal := norm x k * g k * (1 + sc k) + sh k

/-- The MLP's hidden layer: the squared positive part of a product. -/
def act (h : Fin 1024 → EReal) (w : Fin 1024 → Fin 4096 → EReal) (f : Fin 4096) : EReal :=
  max (∑ d, h d * w d f) 0 * max (∑ d, h d * w d f) 0

/-- A gated residual: the row plus its gate times a product. -/
def res {n : ℕ} (x gt : Fin 1024 → EReal) (u : Fin n → EReal) (w : Fin n → Fin 1024 → EReal) (k : Fin 1024) : EReal :=
  x k + gt k * ∑ f, u f * w f k

/-- The MLP and the final norm of one row. -/
def mlp (x g sc sh gt gf : Fin 1024 → EReal) (wu : Fin 1024 → Fin 4096 → EReal) (wd : Fin 4096 → Fin 1024 → EReal) (k : Fin 1024) : EReal :=
  norm (res x gt (act (hid x g sc sh) wu) wd) k * gf k

/-- The two mixers' outputs, projected and gated. -/
def gated (h : Fin 1024 → EReal) (ws wn : Fin 1024 → Fin 1024 → EReal) (os on : Fin 512 → EReal) (bs bn : Fin 512 → Fin 1024 → EReal) (k : Fin 1024) : EReal :=
  Ideal.logistic (∑ d, h d * ws d k) * (∑ j, os j * bs j k) + Ideal.logistic (∑ d, h d * wn d k) * ∑ j, on j * bn j k

/-- The merge of the mixers with its gated residual, of one row. -/
def mix (x g sc sh gt : Fin 1024 → EReal) (ws wn : Fin 1024 → Fin 1024 → EReal) (os on : Fin 512 → EReal) (bs bn : Fin 512 → Fin 1024 → EReal) (wo : Fin 1024 → Fin 1024 → EReal) (k : Fin 1024) : EReal :=
  res x gt (gated (hid x g sc sh) ws wn os on bs bn) wo k

/-- The modulation of one row: the condition's silu under the weights, with the bias. -/
def ada (c : Fin 1024 → EReal) (w : Fin 1024 → Fin 6144 → EReal) (b : Fin 6144 → EReal) (k : Fin 6144) : EReal :=
  (∑ d, c d * Ideal.logistic (c d) * w d k) + b k

end Cert.Ly
end
end
-- ==== Proof.MlArr.lean ====
/- The MLP's launch: what a block of rows holds, and the whole array. -/
module

public import proofs.«01_k».proof.Proof.Gen.Kernel2Ideal.Value
public import proofs.«01_k».proof.Proof.LyRow
public import Idealize.ShloMosaic.Lib.Pipeline.ValueKit
public import Idealize.ShloMosaic.Lib.Claim

@[expose] public section

set_option maxRecDepth 16384

noncomputable section

namespace Cert.Kernel2Ideal.Ml

open Cert.Kernel2Ideal Cert.Kernel2Ideal.Gen Idealize.ShloMosaic Idealize.ShloMosaic.TcCoe Idealize.SL.Sem Cert.Ly

/-- The MLP's result: every row's, from the activations, the modulation, the gains and the weights. -/
def ml (X : FVec Ideal S8x2048x1024 .f32) (M : FVec Ideal S8x6144 .f32) (G : FVec Ideal S1x1024 .f32) (GF : FVec Ideal S1024 .f32)
    (WU : FVec Ideal S1x1024x4096 .f32) (WD : FVec Ideal S1x4096x1024 .f32) (n : Fin 8) (t : Fin 2048) (k : Fin 1024) : EReal :=
  mlp (fun k => X (ix3 n t k)) (fun k => G (ix2 0 k)) (fun k => M (ix2 n ⟨4096 + k.val, by omega⟩)) (fun k => M (ix2 n ⟨3072 + k.val, by omega⟩))
    (fun k => M (ix2 n ⟨5120 + k.val, by omega⟩)) (fun k => GF (ix1 k)) (fun d f => WU (ix3 0 d f)) (fun f k => WD (ix3 0 f k)) k

/-- The array of the rows' results. -/
def mlArr (X : FVec Ideal S8x2048x1024 .f32) (M : FVec Ideal S8x6144 .f32) (G : FVec Ideal S1x1024 .f32) (GF : FVec Ideal S1024 .f32)
    (WU : FVec Ideal S1x1024x4096 .f32) (WD : FVec Ideal S1x4096x1024 .f32) : FVec Ideal S16384x1024 .f32 :=
  fun i => ml X M G GF WU WD ⟨(i 0).val / 2048, by have h : (i 0).val < 16384 := (i 0).isLt; omega⟩ ⟨(i 0).val % 2048, by omega⟩ (i 1)

theorem mlArr_at (X : FVec Ideal S8x2048x1024 .f32) (M : FVec Ideal S8x6144 .f32) (G : FVec Ideal S1x1024 .f32) (GF : FVec Ideal S1024 .f32)
    (WU : FVec Ideal S1x1024x4096 .f32) (WD : FVec Ideal S1x4096x1024 .f32) (i : S16384x1024.Idx) (n : Fin 8) (t : Fin 2048) (k : Fin 1024) (h0 : (i 0).val = n.val * 2048 + t.val) (h1 : (i 1).val = k.val) :
    mlArr X M G GF WU WD i = ml X M G GF WU WD n t k := by
  unfold mlArr
  have e0 : (i 0).val / 2048 = n.val := by omega
  have e1 : (i 0).val % 2048 = t.val := by omega
  have e2 : i 1 = k := Fin.ext h1
  simp only [e0, e1, e2]

theorem idx : ∀ t : Fin cfg0.N, win0_0.index t = ![t.val, 0] ∧ win0_1.index t = ![0, 0] ∧ win0_2.index t = ![t.val / 8, 0, 4] ∧ win0_3.index t = ![t.val / 8, 0, 3] ∧ win0_4.index t = ![t.val / 8, 0, 5] ∧ win0_5.index t = ![0, 0] ∧ win0_6.index t = ![0, 0] ∧ win0_7.index t = ![0, 0] ∧ win0_8.index t = ![t.val, 0] ∧ t.val < 64 :=
  (by decide +kernel : ∀ t : Fin grid0.N, _)

/-- What the body stores, from the blocks it loads. -/
theorem body (x : FVec Ideal S256x1024 .f32) (g : FVec Ideal S1x1024 .f32) (sc sh gt : FVec Ideal S1x1x1024 .f32) (gf : FVec Ideal S1x1024 .f32) (wu : FVec Ideal S1024x4096 .bf16) (wd : FVec Ideal S4096x1024 .bf16) (r : Fin 256) (k : Fin 1024) :
    k0_pay1 (F := Ideal) (k0_pay2 x) (k0_pay3 gt) (k0_pay4 x g sc sh wu) wd gf (ix2 r k) =
      mlp (fun k => x (ix2 r k)) (fun k => g (ix2 0 k)) (fun k => sc (ix3 0 0 k)) (fun k => sh (ix3 0 0 k)) (fun k => gt (ix3 0 0 k)) (fun k => gf (ix2 0 k)) (fun d f => wu (ix2 d f)) (fun f k => wd (ix2 f k)) k := by
  have e4 : ∀ f : Fin 4096, k0_pay4 (F := Ideal) x g sc sh wu (ix2 r f) = act (hid (fun k => x (ix2 r k)) (fun k => g (ix2 0 k)) (fun k => sc (ix3 0 0 k)) (fun k => sh (ix3 0 0 k))) (fun d f => wu (ix2 d f)) f := by
    intro f
    pointwise [k0_pay4, k0_pay2]
    rfl
  generalize k0_pay4 (F := Ideal) x g sc sh wu = u at e4
  pointwise [k0_pay1, k0_pay2, k0_pay3]
  simp only [e4]
  rfl

variable (m : (ℓ : Loc nD τ sig) → Buf (Elt Ideal) ℓ)

/-- The activations, the modulation, the gains and the weights the launch reads. -/
def argx (c : Dev nD) : FVec Ideal S8x2048x1024 .f32 := m ((c : Thread nD τ).loc main_arg0)
def argm (c : Dev nD) : FVec Ideal S8x6144 .f32 := m ((c : Thread nD τ).loc main_arg1)
def argg (c : Dev nD) : FVec Ideal S1x1024 .f32 := m ((c : Thread nD τ).loc main_arg2)
def arggf (c : Dev nD) : FVec Ideal S1024 .f32 := m ((c : Thread nD τ).loc main_arg3)
def argwu (c : Dev nD) : FVec Ideal S1x1024x4096 .f32 := m ((c : Thread nD τ).loc main_arg4)
def argwd (c : Dev nD) : FVec Ideal S1x4096x1024 .f32 := m ((c : Thread nD τ).loc main_arg5)

theorem host_x (c : Dev nD) (R : Fin 16384) (k : Fin 1024) (n : Fin 8) (t : Fin 2048) (h : R.val = n.val * 2048 + t.val) : V m c main_v1 (ix2 R k) = argx m c (ix3 n t k) := by
  entry_read
  pointwise
  rw [show (⟨R.val / 2048, by omega⟩ : Fin 8) = n from Fin.ext (by dsimp only; omega), show (⟨R.val % 2048, by omega⟩ : Fin 2048) = t from Fin.ext (by dsimp only; omega)]; rfl
theorem host_m (c : Dev nD) (n : Fin 8) (k : Fin 6144) : V m c main_v0 (ix3 n 0 k) = argm m c (ix2 n k) := by
  entry_read; pointwise; rfl
theorem host_g (c : Dev nD) (k : Fin 1024) : V m c main_v3 (ix2 0 k) = argg m c (ix2 0 k) := by
  entry_read; pointwise; rfl
theorem host_gf (c : Dev nD) (k : Fin 1024) : V m c main_v4 (ix2 0 k) = arggf m c (ix1 k) := by
  entry_read; pointwise; rfl
theorem host_wu (c : Dev nD) (d : Fin 1024) (f : Fin 4096) : V m c main_v6 (ix2 d f) = argwu m c (ix3 0 d f) := by
  entry_read; pointwise; rfl
theorem host_wd (c : Dev nD) (f : Fin 4096) (k : Fin 1024) : V m c main_v8 (ix2 f k) = argwd m c (ix3 0 f k) := by
  entry_read; pointwise; rfl

theorem blk_x (c : Dev nD) (t : Fin cfg0.N) (r : Fin 256) (k : Fin 1024) (n : Fin 8) (q : Fin 2048) (h : n.val * 2048 + q.val = t.val * 256 + r.val) :
    (show FVec Ideal S256x1024 .f32 from iblk m c 0 t) (ix2 r k) = argx m c (ix3 n q k) := by
  have hi := (idx t).2.2.2.2.2.2.2.2.2
  refine Eq.trans ?_ (host_x m c ⟨n.val * 2048 + q.val, by omega⟩ k n q rfl)
  blk_simp [iblk]
  blk_ext [idx t]
  all_goals omega
theorem blk_g (c : Dev nD) (t : Fin cfg0.N) (k : Fin 1024) : (show FVec Ideal S1x1024 .f32 from iblk m c 1 t) (ix2 0 k) = argg m c (ix2 0 k) := by
  refine Eq.trans ?_ (host_g m c k)
  blk_simp [iblk]
  blk_ext [idx t]
theorem blk_sc (c : Dev nD) (t : Fin cfg0.N) (k : Fin 1024) (n : Fin 8) (h : n.val = t.val / 8) : (show FVec Ideal S1x1x1024 .f32 from iblk m c 2 t) (ix3 0 0 k) = argm m c (ix2 n ⟨4096 + k.val, by omega⟩) := by
  refine Eq.trans ?_ (host_m m c n _)
  blk_simp [iblk]
  blk_ext [idx t]
theorem blk_sh (c : Dev nD) (t : Fin cfg0.N) (k : Fin 1024) (n : Fin 8) (h : n.val = t.val / 8) : (show FVec Ideal S1x1x1024 .f32 from iblk m c 3 t) (ix3 0 0 k) = argm m c (ix2 n ⟨3072 + k.val, by omega⟩) := by
  refine Eq.trans ?_ (host_m m c n _)
  blk_simp [iblk]
  blk_ext [idx t]
theorem blk_gt (c : Dev nD) (t : Fin cfg0.N) (k : Fin 1024) (n : Fin 8) (h : n.val = t.val / 8) : (show FVec Ideal S1x1x1024 .f32 from iblk m c 4 t) (ix3 0 0 k) = argm m c (ix2 n ⟨5120 + k.val, by omega⟩) := by
  refine Eq.trans ?_ (host_m m c n _)
  blk_simp [iblk]
  blk_ext [idx t]
theorem blk_gf (c : Dev nD) (t : Fin cfg0.N) (k : Fin 1024) : (show FVec Ideal S1x1024 .f32 from iblk m c 5 t) (ix2 0 k) = arggf m c (ix1 k) := by
  refine Eq.trans ?_ (host_gf m c k)
  blk_simp [iblk]
  blk_ext [idx t]
theorem blk_wu (c : Dev nD) (t : Fin cfg0.N) (d : Fin 1024) (f : Fin 4096) : (show FVec Ideal S1024x4096 .bf16 from iblk m c 6 t) (ix2 d f) = argwu m c (ix3 0 d f) := by
  refine Eq.trans ?_ (host_wu m c d f)
  blk_simp [iblk]
  blk_ext [idx t]
theorem blk_wd (c : Dev nD) (t : Fin cfg0.N) (f : Fin 4096) (k : Fin 1024) : (show FVec Ideal S4096x1024 .bf16 from iblk m c 7 t) (ix2 f k) = argwd m c (ix3 0 f k) := by
  refine Eq.trans ?_ (host_wd m c f k)
  blk_simp [iblk]
  blk_ext [idx t]

/-- What the body stores at a row and column of its block. -/
theorem point_at (c : Dev nD) (t : Fin cfg0.N) (r : Fin 256) (k : Fin 1024) (n : Fin 8) (q : Fin 2048) (h : n.val * 2048 + q.val = t.val * 256 + r.val) :
    k0_pay1 (F := Ideal) (k0_pay2 (iblk m c 0 t)) (k0_pay3 (iblk m c 4 t)) (k0_pay4 (iblk m c 0 t) (iblk m c 1 t) (iblk m c 2 t) (iblk m c 3 t) (iblk m c 6 t)) (iblk m c 7 t) (iblk m c 5 t) (ix2 r k)
      = ml (argx m c) (argm m c) (argg m c) (arggf m c) (argwu m c) (argwd m c) n q k := by
  have hn : n.val = t.val / 8 := by omega
  refine (body (iblk m c 0 t) (iblk m c 1 t) (iblk m c 2 t) (iblk m c 3 t) (iblk m c 4 t) (iblk m c 5 t) (iblk m c 6 t) (iblk m c 7 t) r k).trans ?_
  unfold ml
  congr 1
  · funext k; exact blk_x m c t r k n q h
  · funext k; exact blk_g m c t k
  · funext k; exact blk_sc m c t k n hn
  · funext k; exact blk_sh m c t k n hn
  · funext k; exact blk_gt m c t k n hn
  · funext k; exact blk_gf m c t k
  · funext d f; exact blk_wu m c t d f
  · funext f k; exact blk_wd m c t f k

/-- The array the launch leaves. -/
theorem final (c : Dev nD) : (dats m 0 c).arrAt 8 (cfgs 0).N = mlArr (argx m c) (argm m c) (argg m c) (arggf m c) (argwu m c) (argwd m c) := by
  refine (dats m 0 c).arrAt_eq_of_covers 8 _ (by decide +kernel) fun t _ y => ?_
  blk_simp
  rw [after0_8]
  frame_out
  idx_vars y
  have hi := (idx t).2.2.2.2.2.2.2.2.2
  refine (point_at m c t y0 y1 ⟨(t.val * 256 + y0.val) / 2048, by omega⟩ ⟨(t.val * 256 + y0.val) % 2048, by omega⟩ (by dsimp only; omega)).trans (mlArr_at _ _ _ _ _ _ _ _ _ _ ?_ ?_).symm
  · blk_simp [idx t]
    dsimp only
    omega
  · blk_simp [idx t]

end Cert.Kernel2Ideal.Ml
end
end
-- ==== Proof.MlRef.lean ====
/- The written-out MLP: what each of its stages holds at a row. -/
module

public import proofs.«01_k».proof.Proof.Gen.Reference2Ideal.Read
public import proofs.«01_k».proof.Proof.MlArr

@[expose] public section

set_option maxRecDepth 16384

noncomputable section

namespace Cert.Reference2Ideal.Ml

open Cert.Reference2Ideal Cert.Reference2Ideal.Gen Cert.Reference2Ideal.Read Idealize.ShloMosaic Idealize.ShloMosaic.TcCoe Idealize.SL.Sem Cert.Ly

variable (x0 : FVec Ideal S8x2048x1024 .f32) (x1 : FVec Ideal S8x6144 .f32) (x2 : FVec Ideal S1x1024 .f32) (x3 : FVec Ideal S1024 .f32) (x4 : FVec Ideal S1x1024x4096 .f32) (x5 : FVec Ideal S1x4096x1024 .f32)

/-- The normed and modulated activations. -/
theorem hidden (n : Fin 8) (t : Fin 2048) (k : Fin 1024) : val_main_v26 (F := Ideal) x0 x1 x2 (ix3 n t k) =
    hid (fun k => x0 (ix3 n t k)) (fun k => x2 (ix2 0 k)) (fun k => x1 (ix2 n ⟨4096 + k.val, by omega⟩)) (fun k => x1 (ix2 n ⟨3072 + k.val, by omega⟩)) k := by
  pointwise [val_main_v26, val_main_v25, val_main_v24, val_main_v23, val_main_v22, val_main_v21, val_main_cst_2, val_main_v20, val_main_v19, val_main_v18, val_main_v17, val_main_v16, val_main_v15, val_main_v14, val_main_v13, val_main_cst_1, val_main_v12, val_main_v11, val_main_cst_0, val_main_v10, val_main_v9, val_main_cst, val_main_v8, val_main_v7, val_main_v5, val_main_v4, val_main_v0]
  rfl

theorem active (n : Fin 8) (t : Fin 2048) (f : Fin 4096) : val_main_v30 (F := Ideal) x0 x1 x2 x4 (ix3 n t f) =
    act (fun k => val_main_v26 (F := Ideal) x0 x1 x2 (ix3 n t k)) (fun d f => x4 (ix3 0 d f)) f := by
  unfold val_main_v30 val_main_v29 val_main_v28
  generalize val_main_v26 (F := Ideal) x0 x1 x2 = y
  pointwise [val_main_v27, val_main_call0_v0, val_main_call0_cst]
  rfl

/-- The gated residual of the MLP. -/
theorem residual (n : Fin 8) (t : Fin 2048) (k : Fin 1024) : val_main_v35 (F := Ideal) x0 x1 x2 x4 x5 (ix3 n t k) =
    res (fun k => x0 (ix3 n t k)) (fun k => x1 (ix2 n ⟨5120 + k.val, by omega⟩)) (fun f => val_main_v30 (F := Ideal) x0 x1 x2 x4 (ix3 n t f)) (fun f k => x5 (ix3 0 f k)) k := by
  unfold val_main_v35 val_main_v34 val_main_v32
  generalize val_main_v30 (F := Ideal) x0 x1 x2 x4 = y
  pointwise [val_main_v33, val_main_v31, val_main_v6, val_main_v0]
  rfl

/-- The final norm. -/
theorem normed (n : Fin 8) (t : Fin 2048) (k : Fin 1024) : val_main_v48 (F := Ideal) x0 x1 x2 x3 x4 x5 (ix3 n t k) =
    norm (fun k => val_main_v35 (F := Ideal) x0 x1 x2 x4 x5 (ix3 n t k)) k * x3 (ix1 k) := by
  unfold val_main_v48 val_main_v45 val_main_v44 val_main_v43 val_main_v42 val_main_v40 val_main_v38 val_main_v37 val_main_v36
  generalize val_main_v35 (F := Ideal) x0 x1 x2 x4 x5 = y
  pointwise [val_main_v47, val_main_v46, val_main_v41, val_main_cst_5, val_main_v39, val_main_cst_4, val_main_cst_3]
  rfl

/-- The written-out MLP is the array of the rows' results. -/
theorem result : val_main_v49 (F := Ideal) x0 x1 x2 x3 x4 x5 = Cert.Kernel2Ideal.Ml.mlArr x0 x1 x2 x3 x4 x5 := by
  funext i
  have h0 : (i 0).val < 16384 := (i 0).isLt
  have h1 : (i 1).val < 1024 := (i 1).isLt
  rw [val_main_v49_apply, Cert.Kernel2Ideal.Ml.mlArr_at x0 x1 x2 x3 x4 x5 i ⟨(i 0).val / 2048, by omega⟩ ⟨(i 0).val % 2048, by omega⟩ ⟨(i 1).val, h1⟩ (by dsimp only; omega) rfl]
  rw [show idx_main_v49 i = ix3 (⟨(i 0).val / 2048, by omega⟩ : Fin 8) (⟨(i 0).val % 2048, by omega⟩ : Fin 2048) (⟨(i 1).val, h1⟩ : Fin 1024) from funext fun a => Fin.ext (match a with
    | ⟨0, _⟩ => by show ((i 0).val * 1024 + (i 1).val) / 2097152 = (i 0).val / 2048; omega
    | ⟨1, _⟩ => by show ((i 0).val * 1024 + (i 1).val) / 1024 % 2048 = (i 0).val % 2048; omega
    | ⟨2, _⟩ => by show ((i 0).val * 1024 + (i 1).val) % 1024 = (i 1).val; omega)]
  rw [normed]
  simp only [residual, active, hidden]
  rfl

end Cert.Reference2Ideal.Ml
end
end
-- ==== Proof.MxArr.lean ====
/- The merge's launch: what a block of rows holds, and the whole array. -/
module

public import proofs.«01_k».proof.Proof.Gen.Kernel3Ideal.Value
public import proofs.«01_k».proof.Proof.LyRow
public import Idealize.ShloMosaic.Lib.Pipeline.ValueKit
public import Idealize.ShloMosaic.Lib.Claim

@[expose] public section

set_option maxRecDepth 16384

noncomputable section

namespace Cert.Kernel3Ideal.Mx

open Cert.Kernel3Ideal Cert.Kernel3Ideal.Gen Idealize.ShloMosaic Idealize.ShloMosaic.TcCoe Idealize.SL.Sem Cert.Ly

/-- The merge's result at a row and column: from the activations, the modulation, the gain, the input weights, the two
    mixers' outputs and the three projections. -/
def mx (X : FVec Ideal S8x2048x1024 .f32) (M : FVec Ideal S8x6144 .f32) (G : FVec Ideal S1x1024 .f32) (W : FVec Ideal S1x1024x4888 .f32)
    (OS : FVec Ideal S8x2048x8x64 .f32) (ON : FVec Ideal S8x2048x2x4x64 .f32) (BS BN : FVec Ideal S1x512x1024 .f32) (WO : FVec Ideal S1x1024x1024 .f32) (n : Fin 8) (t : Fin 2048) (k : Fin 1024) : EReal :=
  mix (fun k => X (ix3 n t k)) (fun k => G (ix2 0 k)) (fun k => M (ix2 n ⟨1024 + k.val, by omega⟩)) (fun k => M (ix2 n ⟨k.val, by omega⟩)) (fun k => M (ix2 n ⟨2048 + k.val, by omega⟩))
    (fun d k => W (ix3 0 d ⟨2840 + k.val, by omega⟩)) (fun d k => W (ix3 0 d ⟨3864 + k.val, by omega⟩))
    (fun j => OS (ix4 n t ⟨j.val / 64, by omega⟩ ⟨j.val % 64, by omega⟩)) (fun j => ON (ix5 n t ⟨j.val / 256, by omega⟩ ⟨j.val / 64 % 4, by omega⟩ ⟨j.val % 64, by omega⟩))
    (fun j k => BS (ix3 0 j k)) (fun j k => BN (ix3 0 j k)) (fun d k => WO (ix3 0 d k)) k

/-- The array of the rows' results. -/
def mxArr (X : FVec Ideal S8x2048x1024 .f32) (M : FVec Ideal S8x6144 .f32) (G : FVec Ideal S1x1024 .f32) (W : FVec Ideal S1x1024x4888 .f32)
    (OS : FVec Ideal S8x2048x8x64 .f32) (ON : FVec Ideal S8x2048x2x4x64 .f32) (BS BN : FVec Ideal S1x512x1024 .f32) (WO : FVec Ideal S1x1024x1024 .f32) : FVec Ideal S16384x1024 .f32 :=
  fun i => mx X M G W OS ON BS BN WO ⟨(i 0).val / 2048, by have h : (i 0).val < 16384 := (i 0).isLt; omega⟩ ⟨(i 0).val % 2048, by omega⟩ (i 1)

theorem mxArr_at (X : FVec Ideal S8x2048x1024 .f32) (M : FVec Ideal S8x6144 .f32) (G : FVec Ideal S1x1024 .f32) (W : FVec Ideal S1x1024x4888 .f32)
    (OS : FVec Ideal S8x2048x8x64 .f32) (ON : FVec Ideal S8x2048x2x4x64 .f32) (BS BN : FVec Ideal S1x512x1024 .f32) (WO : FVec Ideal S1x1024x1024 .f32) (i : S16384x1024.Idx) (n : Fin 8) (t : Fin 2048) (k : Fin 1024) (h0 : (i 0).val = n.val * 2048 + t.val) (h1 : (i 1).val = k.val) :
    mxArr X M G W OS ON BS BN WO i = mx X M G W OS ON BS BN WO n t k := by
  unfold mxArr
  have e0 : (i 0).val / 2048 = n.val := by omega
  have e1 : (i 0).val % 2048 = t.val := by omega
  have e2 : i 1 = k := Fin.ext h1
  simp only [e0, e1, e2]

theorem idx : ∀ t : Fin cfg0.N, win0_0.index t = ![t.val, 0] ∧ win0_1.index t = ![0, 0] ∧ win0_2.index t = ![t.val / 8, 0, 1] ∧ win0_3.index t = ![t.val / 8, 0, 0] ∧ win0_4.index t = ![t.val / 8, 0, 2] ∧ win0_5.index t = ![t.val, 0] ∧ win0_6.index t = ![t.val, 0] ∧ win0_7.index t = ![0, 0] ∧ win0_8.index t = ![0, 0] ∧ win0_9.index t = ![0, 0] ∧ win0_10.index t = ![0, 0] ∧ win0_11.index t = ![t.val, 0] :=
  (by decide +kernel : ∀ t : Fin grid0.N, _)

theorem below (t : Fin cfg0.N) : t.val < 64 := t.isLt

/-- What the body stores, from the blocks it loads. -/
theorem body (x : FVec Ideal S256x1024 .f32) (g : FVec Ideal S1x1024 .f32) (sc sh gt : FVec Ideal S1x1x1024 .f32) (os on : FVec Ideal S256x512 .bf16) (ws wn : FVec Ideal S1024x1024 .bf16) (bs bn : FVec Ideal S512x1024 .bf16) (wo : FVec Ideal S1024x1024 .bf16) (r : Fin 256) (k : Fin 1024) :
    k0_pay1 (F := Ideal) (k0_pay2 x) (k0_pay4 x g sc sh ws) (k0_pay5 x g sc sh wn) (k0_pay6 os) bs on bn gt wo (ix2 r k) =
      mix (fun k => x (ix2 r k)) (fun k => g (ix2 0 k)) (fun k => sc (ix3 0 0 k)) (fun k => sh (ix3 0 0 k)) (fun k => gt (ix3 0 0 k)) (fun d k => ws (ix2 d k)) (fun d k => wn (ix2 d k))
        (fun j => os (ix2 r j)) (fun j => on (ix2 r j)) (fun j k => bs (ix2 j k)) (fun j k => bn (ix2 j k)) (fun d k => wo (ix2 d k)) k := by
  have e3 : ∀ d : Fin 1024, k0_pay3 (F := Ideal) x g sc sh (ix2 r d) = hid (fun k => x (ix2 r k)) (fun k => g (ix2 0 k)) (fun k => sc (ix3 0 0 k)) (fun k => sh (ix3 0 0 k)) d := by
    intro d
    pointwise [k0_pay3, k0_pay2]
    rfl
  unfold k0_pay4 k0_pay5
  generalize k0_pay3 (F := Ideal) x g sc sh = h at e3
  pointwise [k0_pay1, k0_pay2, k0_pay6]
  simp only [e3]
  rfl

variable (m : (ℓ : Loc nD τ sig) → Buf (Elt Ideal) ℓ)

/-- The arrays the launch reads. -/
def argx (c : Dev nD) : FVec Ideal S8x2048x1024 .f32 := m ((c : Thread nD τ).loc main_arg0)
def argm (c : Dev nD) : FVec Ideal S8x6144 .f32 := m ((c : Thread nD τ).loc main_arg1)
def argg (c : Dev nD) : FVec Ideal S1x1024 .f32 := m ((c : Thread nD τ).loc main_arg2)
def argw (c : Dev nD) : FVec Ideal S1x1024x4888 .f32 := m ((c : Thread nD τ).loc main_arg3)
def argos (c : Dev nD) : FVec Ideal S8x2048x8x64 .f32 := m ((c : Thread nD τ).loc main_arg4)
def argon (c : Dev nD) : FVec Ideal S8x2048x2x4x64 .f32 := m ((c : Thread nD τ).loc main_arg5)
def argbs (c : Dev nD) : FVec Ideal S1x512x1024 .f32 := m ((c : Thread nD τ).loc main_arg6)
def argbn (c : Dev nD) : FVec Ideal S1x512x1024 .f32 := m ((c : Thread nD τ).loc main_arg7)
def argwo (c : Dev nD) : FVec Ideal S1x1024x1024 .f32 := m ((c : Thread nD τ).loc main_arg8)

theorem host_x (c : Dev nD) (R : Fin 16384) (k : Fin 1024) (n : Fin 8) (t : Fin 2048) (h : R.val = n.val * 2048 + t.val) : V m c main_v1 (ix2 R k) = argx m c (ix3 n t k) := by
  entry_read
  pointwise
  rw [show (⟨R.val / 2048, by omega⟩ : Fin 8) = n from Fin.ext (by dsimp only; omega), show (⟨R.val % 2048, by omega⟩ : Fin 2048) = t from Fin.ext (by dsimp only; omega)]; rfl
theorem host_m (c : Dev nD) (n : Fin 8) (k : Fin 6144) : V m c main_v0 (ix3 n 0 k) = argm m c (ix2 n k) := by
  entry_read; pointwise; rfl
theorem host_g (c : Dev nD) (k : Fin 1024) : V m c main_v3 (ix2 0 k) = argg m c (ix2 0 k) := by
  entry_read; pointwise; rfl
theorem host_os (c : Dev nD) (R : Fin 16384) (j : Fin 512) (n : Fin 8) (t : Fin 2048) (h : R.val = n.val * 2048 + t.val) :
    V m c main_v5 (ix2 R j) = argos m c (ix4 n t ⟨j.val / 64, by omega⟩ ⟨j.val % 64, by omega⟩) := by
  entry_read
  pointwise
  rw [show (⟨R.val / 2048, by omega⟩ : Fin 8) = n from Fin.ext (by dsimp only; omega), show (⟨R.val % 2048, by omega⟩ : Fin 2048) = t from Fin.ext (by dsimp only; omega)]; rfl
theorem host_on (c : Dev nD) (R : Fin 16384) (j : Fin 512) (n : Fin 8) (t : Fin 2048) (h : R.val = n.val * 2048 + t.val) :
    V m c main_v7 (ix2 R j) = argon m c (ix5 n t ⟨j.val / 256, by omega⟩ ⟨j.val / 64 % 4, by omega⟩ ⟨j.val % 64, by omega⟩) := by
  entry_read
  pointwise
  rw [show (⟨R.val / 2048, by omega⟩ : Fin 8) = n from Fin.ext (by dsimp only; omega), show (⟨R.val % 2048, by omega⟩ : Fin 2048) = t from Fin.ext (by dsimp only; omega)]; rfl
theorem host_w (c : Dev nD) (d : Fin 1024) (k : Fin 2048) : V m c main_v10 (ix2 d k) = argw m c (ix3 0 d ⟨2840 + k.val, by omega⟩) := by
  entry_read; pointwise; rfl
theorem host_bs (c : Dev nD) (j : Fin 512) (k : Fin 1024) : V m c main_v12 (ix2 j k) = argbs m c (ix3 0 j k) := by
  entry_read; pointwise; rfl
theorem host_bn (c : Dev nD) (j : Fin 512) (k : Fin 1024) : V m c main_v14 (ix2 j k) = argbn m c (ix3 0 j k) := by
  entry_read; pointwise; rfl
theorem host_wo (c : Dev nD) (d : Fin 1024) (k : Fin 1024) : V m c main_v16 (ix2 d k) = argwo m c (ix3 0 d k) := by
  entry_read; pointwise; rfl

theorem blk_x (c : Dev nD) (t : Fin cfg0.N) (r : Fin 256) (k : Fin 1024) (n : Fin 8) (q : Fin 2048) (h : n.val * 2048 + q.val = t.val * 256 + r.val) :
    (show FVec Ideal S256x1024 .f32 from iblk m c 0 t) (ix2 r k) = argx m c (ix3 n q k) := by
  refine Eq.trans ?_ (host_x m c ⟨n.val * 2048 + q.val, by omega⟩ k n q rfl)
  blk_simp [iblk]
  blk_ext [idx t]
  all_goals omega
theorem blk_g (c : Dev nD) (t : Fin cfg0.N) (k : Fin 1024) : (show FVec Ideal S1x1024 .f32 from iblk m c 1 t) (ix2 0 k) = argg m c (ix2 0 k) := by
  refine Eq.trans ?_ (host_g m c k)
  blk_simp [iblk]
  blk_ext [idx t]
theorem blk_sc (c : Dev nD) (t : Fin cfg0.N) (k : Fin 1024) (n : Fin 8) (h : n.val = t.val / 8) : (show FVec Ideal S1x1x1024 .f32 from iblk m c 2 t) (ix3 0 0 k) = argm m c (ix2 n ⟨1024 + k.val, by omega⟩) := by
  refine Eq.trans ?_ (host_m m c n _)
  blk_simp [iblk]
  blk_ext [idx t]
theorem blk_sh (c : Dev nD) (t : Fin cfg0.N) (k : Fin 1024) (n : Fin 8) (h : n.val = t.val / 8) : (show FVec Ideal S1x1x1024 .f32 from iblk m c 3 t) (ix3 0 0 k) = argm m c (ix2 n ⟨k.val, by omega⟩) := by
  refine Eq.trans ?_ (host_m m c n _)
  blk_simp [iblk]
  blk_ext [idx t]
theorem blk_gt (c : Dev nD) (t : Fin cfg0.N) (k : Fin 1024) (n : Fin 8) (h : n.val = t.val / 8) : (show FVec Ideal S1x1x1024 .f32 from iblk m c 4 t) (ix3 0 0 k) = argm m c (ix2 n ⟨2048 + k.val, by omega⟩) := by
  refine Eq.trans ?_ (host_m m c n _)
  blk_simp [iblk]
  blk_ext [idx t]
theorem blk_os (c : Dev nD) (t : Fin cfg0.N) (r : Fin 256) (j : Fin 512) (n : Fin 8) (q : Fin 2048) (h : n.val * 2048 + q.val = t.val * 256 + r.val) :
    (show FVec Ideal S256x512 .bf16 from iblk m c 5 t) (ix2 r j) = argos m c (ix4 n q ⟨j.val / 64, by omega⟩ ⟨j.val % 64, by omega⟩) := by
  refine Eq.trans ?_ (host_os m c ⟨n.val * 2048 + q.val, by omega⟩ j n q rfl)
  blk_simp [iblk]
  blk_ext [idx t]
  all_goals omega
theorem blk_on (c : Dev nD) (t : Fin cfg0.N) (r : Fin 256) (j : Fin 512) (n : Fin 8) (q : Fin 2048) (h : n.val * 2048 + q.val = t.val * 256 + r.val) :
    (show FVec Ideal S256x512 .bf16 from iblk m c 6 t) (ix2 r j) = argon m c (ix5 n q ⟨j.val / 256, by omega⟩ ⟨j.val / 64 % 4, by omega⟩ ⟨j.val % 64, by omega⟩) := by
  refine Eq.trans ?_ (host_on m c ⟨n.val * 2048 + q.val, by omega⟩ j n q rfl)
  blk_simp [iblk]
  blk_ext [idx t]
  all_goals omega
/-- The block of the gates' weights: its left half is the first gate's. -/
theorem blk_ws (c : Dev nD) (t : Fin cfg0.N) (d k : Fin 1024) : (show FVec Ideal S1024x1024 .bf16 from View.ld (iblk m c 7 t) r0_3) (ix2 d k) = argw m c (ix3 0 d ⟨2840 + k.val, by omega⟩) := by
  refine Eq.trans ?_ (host_w m c d ⟨k.val, by omega⟩)
  blk_simp [iblk, View.ld]
  blk_ext [idx t]
  · show 0 + 1 * d.val = d.val; omega
  · show 0 + 1 * k.val = k.val; omega
/-- Its right half is the second gate's. -/
theorem blk_wn (c : Dev nD) (t : Fin cfg0.N) (d k : Fin 1024) : (show FVec Ideal S1024x1024 .bf16 from View.ld (iblk m c 7 t) r0_4) (ix2 d k) = argw m c (ix3 0 d ⟨3864 + k.val, by omega⟩) := by
  refine Eq.trans ?_ ((host_w m c d ⟨1024 + k.val, by omega⟩).trans ?_)
  · blk_simp [iblk, View.ld]
    blk_ext [idx t]
    · show 0 + 1 * d.val = d.val; omega
    · show 1024 + 1 * k.val = 1024 + k.val; omega
  · refine congrArg (argw m c) ?_
    blk_ext
theorem blk_bs (c : Dev nD) (t : Fin cfg0.N) (j : Fin 512) (k : Fin 1024) : (show FVec Ideal S512x1024 .bf16 from iblk m c 8 t) (ix2 j k) = argbs m c (ix3 0 j k) := by
  refine Eq.trans ?_ (host_bs m c j k)
  blk_simp [iblk]
  blk_ext [idx t]
theorem blk_bn (c : Dev nD) (t : Fin cfg0.N) (j : Fin 512) (k : Fin 1024) : (show FVec Ideal S512x1024 .bf16 from iblk m c 9 t) (ix2 j k) = argbn m c (ix3 0 j k) := by
  refine Eq.trans ?_ (host_bn m c j k)
  blk_simp [iblk]
  blk_ext [idx t]
theorem blk_wo (c : Dev nD) (t : Fin cfg0.N) (d k : Fin 1024) : (show FVec Ideal S1024x1024 .bf16 from iblk m c 10 t) (ix2 d k) = argwo m c (ix3 0 d k) := by
  refine Eq.trans ?_ (host_wo m c d k)
  blk_simp [iblk]
  blk_ext [idx t]

/-- What the body stores at a row and column of its block. -/
theorem point_at (c : Dev nD) (t : Fin cfg0.N) (r : Fin 256) (k : Fin 1024) (n : Fin 8) (q : Fin 2048) (h : n.val * 2048 + q.val = t.val * 256 + r.val) :
    k0_pay1 (F := Ideal) (k0_pay2 (iblk m c 0 t))
      (k0_pay4 (iblk m c 0 t) (iblk m c 1 t) (iblk m c 2 t) (iblk m c 3 t) (View.ld (iblk m c 7 t) r0_3))
      (k0_pay5 (iblk m c 0 t) (iblk m c 1 t) (iblk m c 2 t) (iblk m c 3 t) (View.ld (iblk m c 7 t) r0_4))
      (k0_pay6 (iblk m c 5 t)) (iblk m c 8 t) (iblk m c 6 t) (iblk m c 9 t) (iblk m c 4 t) (iblk m c 10 t) (ix2 r k)
      = mx (argx m c) (argm m c) (argg m c) (argw m c) (argos m c) (argon m c) (argbs m c) (argbn m c) (argwo m c) n q k := by
  have ht := below t
  have hn : n.val = t.val / 8 := by omega
  refine (body (iblk m c 0 t) (iblk m c 1 t) (iblk m c 2 t) (iblk m c 3 t) (iblk m c 4 t) (iblk m c 5 t) (iblk m c 6 t) (View.ld (iblk m c 7 t) r0_3) (View.ld (iblk m c 7 t) r0_4) (iblk m c 8 t) (iblk m c 9 t) (iblk m c 10 t) r k).trans ?_
  unfold mx
  congr 1
  · funext k; exact blk_x m c t r k n q h
  · funext k; exact blk_g m c t k
  · funext k; exact blk_sc m c t k n hn
  · funext k; exact blk_sh m c t k n hn
  · funext k; exact blk_gt m c t k n hn
  · funext d k; exact blk_ws m c t d k
  · funext d k; exact blk_wn m c t d k
  · funext j; exact blk_os m c t r j n q h
  · funext j; exact blk_on m c t r j n q h
  · funext j k; exact blk_bs m c t j k
  · funext j k; exact blk_bn m c t j k
  · funext d k; exact blk_wo m c t d k

/-- The array the launch leaves. -/
theorem final (c : Dev nD) : (dats m 0 c).arrAt 11 (cfgs 0).N = mxArr (argx m c) (argm m c) (argg m c) (argw m c) (argos m c) (argon m c) (argbs m c) (argbn m c) (argwo m c) := by
  refine (dats m 0 c).arrAt_eq_of_covers 11 _ (by decide +kernel) fun t _ y => ?_
  blk_simp
  rw [after0_11]
  frame_out
  idx_vars y
  have ht := below t
  refine (point_at m c t y0 y1 ⟨(t.val * 256 + y0.val) / 2048, by omega⟩ ⟨(t.val * 256 + y0.val) % 2048, by omega⟩ (by dsimp only; omega)).trans (mxArr_at _ _ _ _ _ _ _ _ _ _ _ _ _ ?_ ?_).symm
  · blk_simp [idx t]
    dsimp only
    omega
  · blk_simp [idx t]

end Cert.Kernel3Ideal.Mx
end
end
-- ==== Proof.MxRef.lean ====
/- The written-out merge: what each of its stages holds at a row. -/
module

public import proofs.«01_k».proof.Proof.Gen.Reference3Ideal.Read
public import proofs.«01_k».proof.Proof.MxArr

@[expose] public section

set_option maxRecDepth 16384

noncomputable section

namespace Cert.Reference3Ideal.Mx

open Cert.Reference3Ideal Cert.Reference3Ideal.Gen Cert.Reference3Ideal.Read Idealize.ShloMosaic Idealize.ShloMosaic.TcCoe Idealize.SL.Sem Cert.Ly

variable (x0 : FVec Ideal S8x2048x1024 .f32) (x1 : FVec Ideal S8x6144 .f32) (x2 : FVec Ideal S1x1024 .f32) (x3 : FVec Ideal S1x1024x4888 .f32)
  (x4 : FVec Ideal S8x2048x8x64 .f32) (x5 : FVec Ideal S8x2048x2x4x64 .f32) (x6 x7 : FVec Ideal S1x512x1024 .f32) (x8 : FVec Ideal S1x1024x1024 .f32)

/-- The normed and modulated activations. -/
theorem hidden (n : Fin 8) (t : Fin 2048) (k : Fin 1024) : val_main_v26 (F := Ideal) x0 x1 x2 (ix3 n t k) =
    hid (fun k => x0 (ix3 n t k)) (fun k => x2 (ix2 0 k)) (fun k => x1 (ix2 n ⟨1024 + k.val, by omega⟩)) (fun k => x1 (ix2 n ⟨k.val, by omega⟩)) k := by
  pointwise [val_main_v26, val_main_v25, val_main_v24, val_main_v23, val_main_v22, val_main_v21, val_main_cst_2, val_main_v20, val_main_v19, val_main_v18, val_main_v17, val_main_v16, val_main_v15, val_main_v14, val_main_v13, val_main_v12, val_main_cst_1, val_main_v11, val_main_v10, val_main_cst_0, val_main_v9, val_main_v8, val_main_cst, val_main_v7, val_main_v6, val_main_v5, val_main_v4, val_main_v2, val_main_v1, val_main_v0]
  rfl

/-- A column of the input projection. -/
theorem projected (n : Fin 8) (t : Fin 2048) (f : Fin 4888) : val_main_v28 (F := Ideal) x0 x1 x2 x3 (ix3 n t f) =
    ∑ d, val_main_v26 (F := Ideal) x0 x1 x2 (ix3 n t d) * x3 (ix3 0 d f) := by
  unfold val_main_v28
  generalize val_main_v26 (F := Ideal) x0 x1 x2 = y
  pointwise [val_main_v27]

/-- The first gate: the logistic of its columns. -/
theorem gate_sb (n : Fin 8) (t : Fin 2048) (k : Fin 1024) : val_main_v35 (F := Ideal) x0 x1 x2 x3 (ix3 n t k) =
    Ideal.logistic (val_main_v28 (F := Ideal) x0 x1 x2 x3 (ix3 n t ⟨2840 + k.val, by omega⟩)) := by
  unfold val_main_v35 val_main_v33 val_main_v31 val_main_v30 val_main_v29
  generalize val_main_v28 (F := Ideal) x0 x1 x2 x3 = y
  pointwise [val_main_v34, val_main_cst_4, val_main_v32, val_main_cst_3]
  rfl

/-- The second gate. -/
theorem gate_nsa (n : Fin 8) (t : Fin 2048) (k : Fin 1024) : val_main_v42 (F := Ideal) x0 x1 x2 x3 (ix3 n t k) =
    Ideal.logistic (val_main_v28 (F := Ideal) x0 x1 x2 x3 (ix3 n t ⟨3864 + k.val, by omega⟩)) := by
  unfold val_main_v42 val_main_v40 val_main_v38 val_main_v37 val_main_v36
  generalize val_main_v28 (F := Ideal) x0 x1 x2 x3 = y
  pointwise [val_main_v41, val_main_cst_6, val_main_v39, val_main_cst_5]
  rfl

/-- The first mixer's output under its projection. -/
theorem branch_sb (n : Fin 8) (t : Fin 2048) (k : Fin 1024) : val_main_v45 (F := Ideal) x4 x6 (ix3 n t k) =
    ∑ j : Fin 512, x4 (ix4 n t ⟨j.val / 64, by omega⟩ ⟨j.val % 64, by omega⟩) * x6 (ix3 0 j k) := by
  pointwise [val_main_v45, val_main_v44, val_main_v43]

/-- The second mixer's output under its projection. -/
theorem branch_nsa (n : Fin 8) (t : Fin 2048) (k : Fin 1024) : val_main_v48 (F := Ideal) x5 x7 (ix3 n t k) =
    ∑ j : Fin 512, x5 (ix5 n t ⟨j.val / 256, by omega⟩ ⟨j.val / 64 % 4, by omega⟩ ⟨j.val % 64, by omega⟩) * x7 (ix3 0 j k) := by
  pointwise [val_main_v48, val_main_v47, val_main_v46]

/-- The gated residual of the merge. -/
theorem residual (n : Fin 8) (t : Fin 2048) (k : Fin 1024) : val_main_v56 (F := Ideal) x0 x1 x2 x3 x4 x5 x6 x7 x8 (ix3 n t k) =
    res (fun k => x0 (ix3 n t k)) (fun k => x1 (ix2 n ⟨2048 + k.val, by omega⟩))
      (fun d => val_main_v35 (F := Ideal) x0 x1 x2 x3 (ix3 n t d) * val_main_v45 (F := Ideal) x4 x6 (ix3 n t d) + val_main_v42 (F := Ideal) x0 x1 x2 x3 (ix3 n t d) * val_main_v48 (F := Ideal) x5 x7 (ix3 n t d))
      (fun d k => x8 (ix3 0 d k)) k := by
  unfold val_main_v56 val_main_v55 val_main_v53 val_main_v51 val_main_v50 val_main_v49
  generalize val_main_v35 (F := Ideal) x0 x1 x2 x3 = y
  generalize val_main_v42 (F := Ideal) x0 x1 x2 x3 = z
  generalize val_main_v45 (F := Ideal) x4 x6 = u
  generalize val_main_v48 (F := Ideal) x5 x7 = v
  pointwise [val_main_v54, val_main_v52, val_main_v3, val_main_v0]
  rfl

/-- The written-out merge is the array of the rows' results. -/
theorem result : val_main_v57 (F := Ideal) x0 x1 x2 x3 x4 x5 x6 x7 x8 = Cert.Kernel3Ideal.Mx.mxArr x0 x1 x2 x3 x4 x5 x6 x7 x8 := by
  funext i
  have h0 : (i 0).val < 16384 := (i 0).isLt
  have h1 : (i 1).val < 1024 := (i 1).isLt
  rw [val_main_v57_apply, Cert.Kernel3Ideal.Mx.mxArr_at x0 x1 x2 x3 x4 x5 x6 x7 x8 i ⟨(i 0).val / 2048, by omega⟩ ⟨(i 0).val % 2048, by omega⟩ ⟨(i 1).val, h1⟩ (by dsimp only; omega) rfl]
  rw [show idx_main_v57 i = ix3 (⟨(i 0).val / 2048, by omega⟩ : Fin 8) (⟨(i 0).val % 2048, by omega⟩ : Fin 2048) (⟨(i 1).val, h1⟩ : Fin 1024) from funext fun a => Fin.ext (match a with
    | ⟨0, _⟩ => by show ((i 0).val * 1024 + (i 1).val) / 2097152 = (i 0).val / 2048; omega
    | ⟨1, _⟩ => by show ((i 0).val * 1024 + (i 1).val) / 1024 % 2048 = (i 0).val % 2048; omega
    | ⟨2, _⟩ => by show ((i 0).val * 1024 + (i 1).val) % 1024 = (i 1).val; omega)]
  rw [residual]
  simp only [gate_sb, gate_nsa, branch_sb, branch_nsa, projected, hidden]
  rfl

end Cert.Reference3Ideal.Mx
end
end
-- ==== Proof.AdArr.lean ====
/- The modulation's launch: what a block of columns holds, and the whole array. -/
module

public import proofs.«01_k».proof.Proof.Gen.Kernel4Ideal.Value
public import proofs.«01_k».proof.Proof.LyRow
public import Idealize.ShloMosaic.Lib.Pipeline.ValueKit
public import Idealize.ShloMosaic.Lib.Claim

@[expose] public section

set_option maxRecDepth 16384

noncomputable section

namespace Cert.Kernel4Ideal.Ad

open Cert.Kernel4Ideal Cert.Kernel4Ideal.Gen Idealize.ShloMosaic Idealize.ShloMosaic.TcCoe Idealize.SL.Sem Cert.Ly

/-- The condition of a row: the eight prompts' first, then the samples'. -/
def cond (P : FVec Ideal S8x1024 .f32) (S : FVec Ideal S128x1024 .f32) (r : Fin 136) (d : Fin 1024) : EReal :=
  if h : r.val < 8 then P (ix2 ⟨r.val, h⟩ d) else S (ix2 ⟨r.val - 8, by omega⟩ d)

/-- The array of the rows' modulations. -/
def adArr (P : FVec Ideal S8x1024 .f32) (S : FVec Ideal S128x1024 .f32) (W : FVec Ideal S1x1024x6144 .f32) (B : FVec Ideal S1x6144 .f32) : FVec Ideal S136x6144 .f32 :=
  fun i => ada (cond P S (i 0)) (fun d k => W (ix3 0 d k)) (fun k => B (ix2 0 k)) (i 1)

theorem adArr_at (P : FVec Ideal S8x1024 .f32) (S : FVec Ideal S128x1024 .f32) (W : FVec Ideal S1x1024x6144 .f32) (B : FVec Ideal S1x6144 .f32)
    (i : S136x6144.Idx) (r : Fin 136) (k : Fin 6144) (h0 : (i 0).val = r.val) (h1 : (i 1).val = k.val) :
    adArr P S W B i = ada (cond P S r) (fun d k => W (ix3 0 d k)) (fun k => B (ix2 0 k)) k := by
  unfold adArr
  have e0 : i 0 = r := Fin.ext h0
  have e1 : i 1 = k := Fin.ext h1
  rw [e0, e1]

theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

theorem below (t : Fin cfg0.N) : t.val < 12 := t.isLt

/-- What the body stores, from the blocks it loads. -/
theorem body (c : FVec Ideal S136x1024 .f32) (w : FVec Ideal S1024x512 .f32) (b : FVec Ideal S1x512 .f32) (r : Fin 136) (k : Fin 512) :
    k0_pay1 (F := Ideal) c w b (ix2 r k) = (∑ d, c (ix2 r d) * Ideal.logistic (c (ix2 r d)) * w (ix2 d k)) + b (ix2 0 k) := by
  pointwise [k0_pay1]

variable (m : (ℓ : Loc nD τ sig) → Buf (Elt Ideal) ℓ)

/-- The arrays the launch reads. -/
def argp (c : Dev nD) : FVec Ideal S8x1024 .f32 := m ((c : Thread nD τ).loc main_arg0)
def args (c : Dev nD) : FVec Ideal S128x1024 .f32 := m ((c : Thread nD τ).loc main_arg1)
def argw (c : Dev nD) : FVec Ideal S1x1024x6144 .f32 := m ((c : Thread nD τ).loc main_arg2)
def argb (c : Dev nD) : FVec Ideal S1x6144 .f32 := m ((c : Thread nD τ).loc main_arg3)

theorem joined (P : FVec Ideal S8x1024 .f32) (S : FVec Ideal S128x1024 .f32) (r : Fin 136) (d : Fin 1024) :
    concatenate S136x1024 0 [⟨S8x1024, P⟩, ⟨S128x1024, S⟩] concatenates_S8x1024_S128x1024_S136x1024_d0 (ix2 r d) = cond P S r d := by
  unfold cond
  split
  · next h =>
    exact concatenate_pair_apply_left (t := S136x1024) (0 : Fin 2) P S concatenates_S8x1024_S128x1024_S136x1024_d0 (ix2 r d) rfl (ix2 ⟨r.val, h⟩ d) fun b => match b with | ⟨0, _⟩ => rfl | ⟨1, _⟩ => rfl
  · next h =>
    refine concatenate_pair_apply_right (t := S136x1024) (0 : Fin 2) P S concatenates_S8x1024_S128x1024_S136x1024_d0 (ix2 r d) rfl rfl (ix2 ⟨r.val - 8, by omega⟩ d) (fun b hb => match b with | ⟨0, _⟩ => absurd rfl hb | ⟨1, _⟩ => rfl) ?_
    show r.val - 8 + 8 = r.val
    omega

theorem host_c (c : Dev nD) (r : Fin 136) (d : Fin 1024) : V m c main_v0 (ix2 r d) = cond (argp m c) (args m c) r d := by
  entry_read
  exact joined _ _ r d
theorem host_w (c : Dev nD) (d : Fin 1024) (k : Fin 6144) : V m c main_v1 (ix2 d k) = argw m c (ix3 0 d k) := by
  entry_read; pointwise; rfl
theorem host_b (c : Dev nD) (k : Fin 6144) : V m c main_v3 (ix2 0 k) = argb m c (ix2 0 k) := by
  entry_read; pointwise; rfl

theorem blk_c (c : Dev nD) (t : Fin cfg0.N) (r : Fin 136) (d : Fin 1024) : (show FVec Ideal S136x1024 .f32 from iblk m c 0 t) (ix2 r d) = cond (argp m c) (args m c) r d := by
  refine Eq.trans ?_ (host_c m c r d)
  blk_simp [iblk]
  blk_ext [idx t]
theorem blk_w (c : Dev nD) (t : Fin cfg0.N) (d : Fin 1024) (k : Fin 512) (K : Fin 6144) (h : K.val = t.val * 512 + k.val) : (show FVec Ideal S1024x512 .f32 from iblk m c 1 t) (ix2 d k) = argw m c (ix3 0 d K) := by
  refine Eq.trans ?_ (host_w m c d K)
  blk_simp [iblk]
  blk_ext [idx t]
  all_goals omega
theorem blk_b (c : Dev nD) (t : Fin cfg0.N) (k : Fin 512) (K : Fin 6144) (h : K.val = t.val * 512 + k.val) : (show FVec Ideal S1x512 .f32 from iblk m c 2 t) (ix2 0 k) = argb m c (ix2 0 K) := by
  refine Eq.trans ?_ (host_b m c K)
  blk_simp [iblk]
  blk_ext [idx t]
  all_goals omega

/-- What the body stores at a row and column of its block. -/
theorem point_at (c : Dev nD) (t : Fin cfg0.N) (r : Fin 136) (k : Fin 512) (K : Fin 6144) (h : K.val = t.val * 512 + k.val) :
    k0_pay1 (F := Ideal) (iblk m c 0 t) (iblk m c 1 t) (iblk m c 2 t) (ix2 r k)
      = ada (cond (argp m c) (args m c) r) (fun d k => argw m c (ix3 0 d k)) (fun k => argb m c (ix2 0 k)) K := by
  refine (body (iblk m c 0 t) (iblk m c 1 t) (iblk m c 2 t) r k).trans ?_
  unfold ada
  exact congrArg₂ (· + ·) (Finset.sum_congr rfl fun d _ => congrArg₂ (· * ·) (congrArg (fun z : EReal => z * Ideal.logistic z) (blk_c m c t r d)) (blk_w m c t d k K h)) (blk_b m c t k K h)

/-- The array the launch leaves. -/
theorem final (c : Dev nD) : (dats m 0 c).arrAt 3 (cfgs 0).N = adArr (argp m c) (args m c) (argw m c) (argb m c) := by
  refine (dats m 0 c).arrAt_eq_of_covers 3 _ (by decide +kernel) fun t _ y => ?_
  blk_simp
  rw [after0_3]
  frame_out
  idx_vars y
  have ht := below t
  refine (point_at m c t y0 y1 ⟨t.val * 512 + y1.val, by omega⟩ rfl).trans (adArr_at _ _ _ _ _ _ _ ?_ ?_).symm
  · blk_simp [idx t]
  · blk_simp [idx t]

end Cert.Kernel4Ideal.Ad
end
end
-- ==== Proof.AdRef.lean ====
/- The written-out modulation: what each of its stages holds at a row. -/
module

public import proofs.«01_k».proof.Proof.Gen.Reference4Ideal.Read
public import proofs.«01_k».proof.Proof.AdArr

@[expose] public section

set_option maxRecDepth 16384

noncomputable section

namespace Cert.Reference4Ideal.Ad

open Cert.Reference4Ideal Cert.Reference4Ideal.Gen Cert.Reference4Ideal.Read Idealize.ShloMosaic Idealize.ShloMosaic.TcCoe Idealize.SL.Sem Cert.Ly

variable (x0 : FVec Ideal S8x1024 .f32) (x1 : FVec Ideal S128x1024 .f32) (x2 : FVec Ideal S1x1024x6144 .f32) (x3 : FVec Ideal S1x6144 .f32)

/-- The prompts' modulation. -/
theorem prompts (r : Fin 8) (k : Fin 6144) : val_main_v6 (F := Ideal) x0 x2 x3 (ix2 r k) =
    ada (fun d => x0 (ix2 r d)) (fun d k => x2 (ix3 0 d k)) (fun k => x3 (ix2 0 k)) k := by
  pointwise [val_main_v6, val_main_v5, val_main_v4, val_main_v3, val_main_v2, val_main_v1, val_main_v0, val_main_call0_v5, val_main_call0_v4, val_main_call0_cst_0, val_main_call0_v3, val_main_call0_v2, val_main_call0_cst, val_main_call0_v1, val_main_call0_v0]
  rfl

/-- The samples' modulation. -/
theorem samples (r : Fin 128) (k : Fin 6144) : val_main_v13 (F := Ideal) x1 x2 x3 (ix2 r k) =
    ada (fun d => x1 (ix2 r d)) (fun d k => x2 (ix3 0 d k)) (fun k => x3 (ix2 0 k)) k := by
  pointwise [val_main_v13, val_main_v12, val_main_v11, val_main_v10, val_main_v9, val_main_v8, val_main_v7, val_main_call1_v5, val_main_call1_v4, val_main_call1_cst_0, val_main_call1_v3, val_main_call1_v2, val_main_call1_cst, val_main_call1_v1, val_main_call1_v0]
  rfl

/-- The written-out modulation is the array of the rows' modulations. -/
theorem result : val_main_v14 (F := Ideal) x0 x1 x2 x3 = Cert.Kernel4Ideal.Ad.adArr x0 x1 x2 x3 := by
  funext i
  idx_vars i
  rw [Cert.Kernel4Ideal.Ad.adArr_at x0 x1 x2 x3 _ i0 i1 rfl rfl]
  unfold val_main_v14
  by_cases h : i0.val < 8
  · rw [show Cert.Kernel4Ideal.Ad.cond x0 x1 i0 = fun d => x0 (ix2 ⟨i0.val, h⟩ d) from funext fun d => dif_pos h, ← prompts]
    exact concatenate_pair_apply_left (t := S136x6144) (0 : Fin 2) _ _ concatenates_S8x6144_S128x6144_S136x6144_d0 (ix2 i0 i1) rfl (ix2 ⟨i0.val, h⟩ i1) fun b => match b with | ⟨0, _⟩ => rfl | ⟨1, _⟩ => rfl
  · rw [show Cert.Kernel4Ideal.Ad.cond x0 x1 i0 = fun d => x1 (ix2 ⟨i0.val - 8, by omega⟩ d) from funext fun d => dif_neg h, ← samples]
    refine concatenate_pair_apply_right (t := S136x6144) (0 : Fin 2) _ _ concatenates_S8x6144_S128x6144_S136x6144_d0 (ix2 i0 i1) rfl rfl (ix2 ⟨i0.val - 8, by omega⟩ i1) (fun b hb => match b with | ⟨0, _⟩ => absurd rfl hb | ⟨1, _⟩ => rfl) ?_
    show i0.val - 8 + 8 = i0.val
    omega

end Cert.Reference4Ideal.Ad
end
end
-- ==== Proof.PjRow.lean ====
/- One column of the input projection on a row of activations, and the arrays its columns are stored in. -/
module

public import proofs.«01_k».proof.Proof.LyRow
public import Idealize.ShloMosaic.Lib.Pointwise

@[expose] public section

noncomputable section

namespace Cert.Ly

open Idealize.ShloMosaic

/-- A row times one column of the weights. -/
def col (h w : Fin 1024 → EReal) : EReal := ∑ d, h d * w d

/-- The factor of the queries, one eighth. -/
def eighth : EReal := Ideal.ofBits .f32 1040187392#32

theorem eighth_eq : eighth = ((1 / 8 : ℝ) : EReal) := by
  simp [eighth, Ideal.ofBits, Ideal.ieee, -EReal.coe_mul]; norm_num

/-- A nonnegative real factor of a sum's right-hand terms comes out of it, whatever the terms are. -/
theorem sum_scaled {n : ℕ} (h w : Fin n → EReal) (c : EReal) (h0 : 0 ≤ c) (h1 : c ≠ ⊤) : ∑ d, h d * (w d * c) = (∑ d, h d * w d) * c := by
  induction n with
  | zero => simp
  | succ n ih => rw [Fin.sum_univ_succ, Fin.sum_univ_succ, ih (fun d => h d.succ) (fun d => w d.succ), EReal.right_distrib_of_nonneg_of_ne_top h0 h1, mul_assoc]

/-- A column scaled by an eighth gives the product scaled by it. -/
theorem col_eighth (h w : Fin 1024 → EReal) : col h (fun d => w d * eighth) = col h w * eighth := by
  refine sum_scaled h w eighth ?_ ?_
  · rw [eighth_eq]; exact_mod_cast (by norm_num : (0 : ℝ) ≤ 1 / 8)
  · rw [eighth_eq]; exact EReal.coe_ne_top _

end Cert.Ly
end
end
-- ==== Proof.PjArr.lean ====
/- The prompt's input projection: what a block of rows holds of each result, and the whole arrays. -/
module

public import proofs.«01_k».proof.Proof.Gen.Kernel5Ideal.Value
public import proofs.«01_k».proof.Proof.PjRow
public import Idealize.ShloMosaic.Lib.Pipeline.ValueKit
public import Idealize.ShloMosaic.Lib.StableHlo.RunRead
public import Idealize.ShloMosaic.Lib.Claim

@[expose] public section

set_option maxRecDepth 16384

noncomputable section

namespace Cert.Kernel5Ideal.Pj

open Cert.Kernel5Ideal Cert.Kernel5Ideal.Gen Idealize.ShloMosaic Idealize.ShloMosaic.TcCoe Idealize.SL.Sem Cert.Ly

/-- A row of the normed and modulated activations. -/
def row (X : FVec Ideal S8x2048x1024 .f32) (M : FVec Ideal S8x6144 .f32) (G : FVec Ideal S1x1024 .f32) (n : Fin 8) (t : Fin 2048) : Fin 1024 → EReal :=
  hid (fun k => X (ix3 n t k)) (fun k => G (ix2 0 k)) (fun k => M (ix2 n ⟨1024 + k.val, by omega⟩)) (fun k => M (ix2 n ⟨k.val, by omega⟩))

/-- A column of the projection at a row. -/
def at_ (X : FVec Ideal S8x2048x1024 .f32) (M : FVec Ideal S8x6144 .f32) (G : FVec Ideal S1x1024 .f32) (W : FVec Ideal S1x1024x4888 .f32) (n : Fin 8) (t : Fin 2048) (f : Fin 4888) : EReal := col (row X M G n t) (fun d => W (ix3 0 d f))

/-- An array with a result's row under each position of the batch, 512 columns wide. -/
def rows512 (f : Fin 8 → Fin 2048 → Fin 512 → EReal) (i : S16384x512.Idx) : EReal :=
  f ⟨(i 0).val / 2048, by have h : (i 0).val < 16384 := (i 0).isLt; omega⟩ ⟨(i 0).val % 2048, by omega⟩ (i 1)

theorem rows512_at (f : Fin 8 → Fin 2048 → Fin 512 → EReal) (i : S16384x512.Idx) (n : Fin 8) (t : Fin 2048) (k : Fin 512) (h0 : (i 0).val = n.val * 2048 + t.val) (h1 : (i 1).val = k.val) : rows512 f i = f n t k := by
  unfold rows512
  have e0 : (i 0).val / 2048 = n.val := by omega
  have e1 : (i 0).val % 2048 = t.val := by omega
  have e2 : i 1 = k := Fin.ext h1
  simp only [e0, e1, e2]

/-- An array with a result's row under each position of the batch, 1024 columns wide. -/
def rows1024 (f : Fin 8 → Fin 2048 → Fin 1024 → EReal) (i : S16384x1024.Idx) : EReal :=
  f ⟨(i 0).val / 2048, by have h : (i 0).val < 16384 := (i 0).isLt; omega⟩ ⟨(i 0).val % 2048, by omega⟩ (i 1)

theorem rows1024_at (f : Fin 8 → Fin 2048 → Fin 1024 → EReal) (i : S16384x1024.Idx) (n : Fin 8) (t : Fin 2048) (k : Fin 1024) (h0 : (i 0).val = n.val * 2048 + t.val) (h1 : (i 1).val = k.val) : rows1024 f i = f n t k := by
  unfold rows1024
  have e0 : (i 0).val / 2048 = n.val := by omega
  have e1 : (i 0).val % 2048 = t.val := by omega
  have e2 : i 1 = k := Fin.ext h1
  simp only [e0, e1, e2]

/-- An array with a result's row under each position of the batch, 256 columns wide. -/
def rows256 (f : Fin 8 → Fin 2048 → Fin 256 → EReal) (i : S16384x256.Idx) : EReal :=
  f ⟨(i 0).val / 2048, by have h : (i 0).val < 16384 := (i 0).isLt; omega⟩ ⟨(i 0).val % 2048, by omega⟩ (i 1)

theorem rows256_at (f : Fin 8 → Fin 2048 → Fin 256 → EReal) (i : S16384x256.Idx) (n : Fin 8) (t : Fin 2048) (k : Fin 256) (h0 : (i 0).val = n.val * 2048 + t.val) (h1 : (i 1).val = k.val) : rows256 f i = f n t k := by
  unfold rows256
  have e0 : (i 0).val / 2048 = n.val := by omega
  have e1 : (i 0).val % 2048 = t.val := by omega
  have e2 : i 1 = k := Fin.ext h1
  simp only [e0, e1, e2]

/-- An array with a result's row under each position of the batch, 1536 columns wide. -/
def rows1536 (f : Fin 8 → Fin 2048 → Fin 1536 → EReal) (i : S16384x1536.Idx) : EReal :=
  f ⟨(i 0).val / 2048, by have h : (i 0).val < 16384 := (i 0).isLt; omega⟩ ⟨(i 0).val % 2048, by omega⟩ (i 1)

theorem rows1536_at (f : Fin 8 → Fin 2048 → Fin 1536 → EReal) (i : S16384x1536.Idx) (n : Fin 8) (t : Fin 2048) (k : Fin 1536) (h0 : (i 0).val = n.val * 2048 + t.val) (h1 : (i 1).val = k.val) : rows1536 f i = f n t k := by
  unfold rows1536
  have e0 : (i 0).val / 2048 = n.val := by omega
  have e1 : (i 0).val % 2048 = t.val := by omega
  have e2 : i 1 = k := Fin.ext h1
  simp only [e0, e1, e2]

/-- An array with a result's rows as columns, 1024 high. -/
def cols1024 (f : Fin 8 → Fin 2048 → Fin 1024 → EReal) (i : S8x1024x2048.Idx) : EReal := f (i 0) (i 2) (i 1)

theorem cols1024_at (f : Fin 8 → Fin 2048 → Fin 1024 → EReal) (i : S8x1024x2048.Idx) (n : Fin 8) (t : Fin 2048) (k : Fin 1024) (h0 : (i 0).val = n.val) (h1 : (i 1).val = k.val) (h2 : (i 2).val = t.val) : cols1024 f i = f n t k := by
  unfold cols1024
  have e0 : i 0 = n := Fin.ext h0
  have e1 : i 1 = k := Fin.ext h1
  have e2 : i 2 = t := Fin.ext h2
  rw [e0, e1, e2]

/-- An array with a result's rows as columns, 256 high. -/
def cols256 (f : Fin 8 → Fin 2048 → Fin 256 → EReal) (i : S8x256x2048.Idx) : EReal := f (i 0) (i 2) (i 1)

theorem cols256_at (f : Fin 8 → Fin 2048 → Fin 256 → EReal) (i : S8x256x2048.Idx) (n : Fin 8) (t : Fin 2048) (k : Fin 256) (h0 : (i 0).val = n.val) (h1 : (i 1).val = k.val) (h2 : (i 2).val = t.val) : cols256 f i = f n t k := by
  unfold cols256
  have e0 : i 0 = n := Fin.ext h0
  have e1 : i 1 = k := Fin.ext h1
  have e2 : i 2 = t := Fin.ext h2
  rw [e0, e1, e2]

/-- The stick-breaking queries: their columns, scaled. -/
def sbq (X : FVec Ideal S8x2048x1024 .f32) (M : FVec Ideal S8x6144 .f32) (G : FVec Ideal S1x1024 .f32) (W : FVec Ideal S1x1024x4888 .f32) (n : Fin 8) (t : Fin 2048) (j : Fin 512) : EReal := at_ X M G W n t ⟨j.val, by omega⟩ * eighth

/-- The stick-breaking keys and values. -/
def sbkv (X : FVec Ideal S8x2048x1024 .f32) (M : FVec Ideal S8x6144 .f32) (G : FVec Ideal S1x1024 .f32) (W : FVec Ideal S1x1024x4888 .f32) (n : Fin 8) (t : Fin 2048) (j : Fin 1024) : EReal := at_ X M G W n t ⟨512 + j.val, by omega⟩

/-- The sparse attention's queries, scaled. -/
def nsq (X : FVec Ideal S8x2048x1024 .f32) (M : FVec Ideal S8x6144 .f32) (G : FVec Ideal S1x1024 .f32) (W : FVec Ideal S1x1024x4888 .f32) (n : Fin 8) (t : Fin 2048) (j : Fin 512) : EReal := at_ X M G W n t ⟨1536 + j.val, by omega⟩ * eighth

/-- The compressed branch's keys and values. -/
def cmp (X : FVec Ideal S8x2048x1024 .f32) (M : FVec Ideal S8x6144 .f32) (G : FVec Ideal S1x1024 .f32) (W : FVec Ideal S1x1024x4888 .f32) (n : Fin 8) (t : Fin 2048) (j : Fin 256) : EReal := at_ X M G W n t ⟨2048 + j.val, by omega⟩

/-- The selected branch's keys and values, each head's twice. -/
def sel (X : FVec Ideal S8x2048x1024 .f32) (M : FVec Ideal S8x6144 .f32) (G : FVec Ideal S1x1024 .f32) (W : FVec Ideal S1x1024x4888 .f32) (n : Fin 8) (t : Fin 2048) (j : Fin 512) : EReal := at_ X M G W n t ⟨2304 + (j.val / 128 * 64 + j.val % 64), by omega⟩

/-- The window branch's keys and values, each head's twice. -/
def win (X : FVec Ideal S8x2048x1024 .f32) (M : FVec Ideal S8x6144 .f32) (G : FVec Ideal S1x1024 .f32) (W : FVec Ideal S1x1024x4888 .f32) (n : Fin 8) (t : Fin 2048) (j : Fin 512) : EReal := at_ X M G W n t ⟨2560 + (j.val / 128 * 64 + j.val % 64), by omega⟩

/-- The branches' gates, one per head and branch, repeated over the head's columns. -/
def gate (X : FVec Ideal S8x2048x1024 .f32) (M : FVec Ideal S8x6144 .f32) (G : FVec Ideal S1x1024 .f32) (W : FVec Ideal S1x1024x4888 .f32) (n : Fin 8) (t : Fin 2048) (j : Fin 1536) : EReal := Ideal.logistic (at_ X M G W n t ⟨2816 + (j.val / 64 % 8 * 3 + j.val / 512), by omega⟩)

/-- A branch's keys and values, each head's once. -/
def selT (X : FVec Ideal S8x2048x1024 .f32) (M : FVec Ideal S8x6144 .f32) (G : FVec Ideal S1x1024 .f32) (W : FVec Ideal S1x1024x4888 .f32) (n : Fin 8) (t : Fin 2048) (j : Fin 256) : EReal := at_ X M G W n t ⟨2304 + j.val, by omega⟩

/-- A branch's keys and values, each head's once. -/
def winT (X : FVec Ideal S8x2048x1024 .f32) (M : FVec Ideal S8x6144 .f32) (G : FVec Ideal S1x1024 .f32) (W : FVec Ideal S1x1024x4888 .f32) (n : Fin 8) (t : Fin 2048) (j : Fin 256) : EReal := at_ X M G W n t ⟨2560 + j.val, by omega⟩

theorem idx : ∀ t : Fin cfg0.N, win0_0.index t = ![t.val, 0] ∧ win0_1.index t = ![0, 0] ∧ win0_2.index t = ![t.val / 8, 0, 1] ∧ win0_3.index t = ![t.val / 8, 0, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val / 8, 0, t.val % 8] ∧ win0_14.index t = ![t.val / 8, 0, t.val % 8] ∧ win0_15.index t = ![t.val / 8, 0, t.val % 8] ∧ win0_16.index t = ![t.val / 8, 0, t.val % 8] :=
  (by decide +kernel : ∀ t : Fin grid0.N, _)

theorem below (t : Fin cfg0.N) : t.val < 64 := t.isLt

/-- The hidden block of the body, from the blocks it loads. -/
theorem body_h (x : FVec Ideal S256x1024 .f32) (g : FVec Ideal S1x1024 .f32) (sc sh : FVec Ideal S1x1x1024 .f32) (r : Fin 256) (d : Fin 1024) :
    k0_pay5 (F := Ideal) x g sc sh (ix2 r d) = hid (fun k => x (ix2 r k)) (fun k => g (ix2 0 k)) (fun k => sc (ix3 0 0 k)) (fun k => sh (ix3 0 0 k)) d := by
  pointwise [k0_pay5]
  rfl

/-- The hidden block is computed from the whole of each block. -/
theorem pay_h (x : FVec Ideal S256x1024 .f32) (g : FVec Ideal S1x1024 .f32) (sc sh : FVec Ideal S1x1x1024 .f32) (wc : FVec Ideal S1024x4864 .bf16) (wt : FVec Ideal S1792x1024 .bf16) :
    k0_pay13 (F := Ideal) x g sc sh wc wt = k0_pay5 x g sc sh := by
  unfold k0_pay13
  rw [View.ld_unit_zero (by funext a; fin_cases a <;> rfl), View.ld_unit_zero (by funext a; fin_cases a <;> rfl), View.ld_unit_zero (by funext a; fin_cases a <;> rfl), View.ld_unit_zero (by funext a; fin_cases a <;> rfl)]

theorem body_sbq (x : FVec Ideal S256x1024 .f32) (g : FVec Ideal S1x1024 .f32) (sc sh : FVec Ideal S1x1x1024 .f32) (w : FVec Ideal S1024x512 .bf16) (r : Fin 256) (j : Fin 512) :
    k0_pay6 (F := Ideal) x g sc sh w (ix2 r j) = col (fun d => k0_pay5 (F := Ideal) x g sc sh (ix2 r d)) (fun d => w (ix2 d j)) := by
  unfold k0_pay6
  generalize k0_pay5 (F := Ideal) x g sc sh = h
  pointwise
  rfl

theorem body_sbkv (x : FVec Ideal S256x1024 .f32) (g : FVec Ideal S1x1024 .f32) (sc sh : FVec Ideal S1x1x1024 .f32) (w : FVec Ideal S1024x1024 .bf16) (r : Fin 256) (j : Fin 1024) :
    k0_pay7 (F := Ideal) x g sc sh w (ix2 r j) = col (fun d => k0_pay5 (F := Ideal) x g sc sh (ix2 r d)) (fun d => w (ix2 d j)) := by
  unfold k0_pay7
  generalize k0_pay5 (F := Ideal) x g sc sh = h
  pointwise
  rfl

theorem body_nsq (h : FVec Ideal S256x1024 .bf16) (w : FVec Ideal S1024x512 .bf16) (r : Fin 256) (j : Fin 512) :
    k0_pay8 (F := Ideal) h w (ix2 r j) = col (fun d => h (ix2 r d)) (fun d => w (ix2 d j)) := by
  pointwise [k0_pay8]
  rfl

theorem body_cmp (h : FVec Ideal S256x1024 .bf16) (w : FVec Ideal S1024x256 .bf16) (r : Fin 256) (j : Fin 256) :
    k0_pay9 (F := Ideal) h w (ix2 r j) = col (fun d => h (ix2 r d)) (fun d => w (ix2 d j)) := by
  pointwise [k0_pay9]
  rfl

theorem body_sel (h : FVec Ideal S256x1024 .bf16) (w : FVec Ideal S1024x512 .bf16) (r : Fin 256) (j : Fin 512) :
    k0_pay10 (F := Ideal) h w (ix2 r j) = col (fun d => h (ix2 r d)) (fun d => w (ix2 d j)) := by
  pointwise [k0_pay10]
  rfl

theorem body_win (h : FVec Ideal S256x1024 .bf16) (w : FVec Ideal S1024x512 .bf16) (r : Fin 256) (j : Fin 512) :
    k0_pay11 (F := Ideal) h w (ix2 r j) = col (fun d => h (ix2 r d)) (fun d => w (ix2 d j)) := by
  pointwise [k0_pay11]
  rfl

theorem body_gate (h : FVec Ideal S256x1024 .bf16) (w : FVec Ideal S1024x1536 .bf16) (r : Fin 256) (j : Fin 1536) :
    k0_pay12 (F := Ideal) h w (ix2 r j) = Ideal.logistic (col (fun d => h (ix2 r d)) (fun d => w (ix2 d j))) := by
  pointwise [k0_pay12]
  rfl

theorem body_sbkvT (h : FVec Ideal S256x1024 .bf16) (w : FVec Ideal S1024x1024 .bf16) (r : Fin 256) (j : Fin 1024) :
    k0_pay1 (F := Ideal) h w (ix3 0 j r) = col (fun d => h (ix2 r d)) (fun d => w (ix2 j d)) := by
  pointwise [k0_pay1]
  exact Finset.sum_congr rfl fun d _ => mul_comm _ _

theorem body_cmpT (h : FVec Ideal S256x1024 .bf16) (w : FVec Ideal S256x1024 .bf16) (r : Fin 256) (j : Fin 256) :
    k0_pay2 (F := Ideal) h w (ix3 0 j r) = col (fun d => h (ix2 r d)) (fun d => w (ix2 j d)) := by
  pointwise [k0_pay2]
  exact Finset.sum_congr rfl fun d _ => mul_comm _ _

theorem body_selT (h : FVec Ideal S256x1024 .bf16) (w : FVec Ideal S256x1024 .bf16) (r : Fin 256) (j : Fin 256) :
    k0_pay3 (F := Ideal) h w (ix3 0 j r) = col (fun d => h (ix2 r d)) (fun d => w (ix2 j d)) := by
  pointwise [k0_pay3]
  exact Finset.sum_congr rfl fun d _ => mul_comm _ _

theorem body_winT (h : FVec Ideal S256x1024 .bf16) (w : FVec Ideal S256x1024 .bf16) (r : Fin 256) (j : Fin 256) :
    k0_pay4 (F := Ideal) h w (ix3 0 j r) = col (fun d => h (ix2 r d)) (fun d => w (ix2 j d)) := by
  pointwise [k0_pay4]
  exact Finset.sum_congr rfl fun d _ => mul_comm _ _

variable (m : (ℓ : Loc nD τ sig) → Buf (Elt Ideal) ℓ)

/-- The arrays the launch reads. -/
def argx (c : Dev nD) : FVec Ideal S8x2048x1024 .f32 := m ((c : Thread nD τ).loc main_arg0)
def argm (c : Dev nD) : FVec Ideal S8x6144 .f32 := m ((c : Thread nD τ).loc main_arg1)
def argg (c : Dev nD) : FVec Ideal S1x1024 .f32 := m ((c : Thread nD τ).loc main_arg2)
def argw (c : Dev nD) : FVec Ideal S1x1024x4888 .f32 := m ((c : Thread nD τ).loc main_arg3)

theorem host_x (c : Dev nD) (R : Fin 16384) (k : Fin 1024) (n : Fin 8) (t : Fin 2048) (h : R.val = n.val * 2048 + t.val) : V m c main_v34 (ix2 R k) = argx m c (ix3 n t k) := by
  entry_read
  pointwise
  rw [show (⟨R.val / 2048, by omega⟩ : Fin 8) = n from Fin.ext (by dsimp only; omega), show (⟨R.val % 2048, by omega⟩ : Fin 2048) = t from Fin.ext (by dsimp only; omega)]; rfl
theorem host_m (c : Dev nD) (n : Fin 8) (k : Fin 6144) : V m c main_v0 (ix3 n 0 k) = argm m c (ix2 n k) := by
  entry_read; pointwise; rfl
theorem host_g (c : Dev nD) (k : Fin 1024) : V m c main_v36 (ix2 0 k) = argg m c (ix2 0 k) := by
  entry_read; pointwise; rfl
theorem host_wt (c : Dev nD) (d : Fin 1024) (j : Fin 1792) (f : Fin 4888) (h : f.val = if j.val < 1024 then 512 + j.val else 1024 + j.val) : V m c main_v33 (ix2 j d) = argw m c (ix3 0 d f) := by
  entry_read
  pointwise
  by_cases e : j.val < 1024
  · rw [dif_pos e]; rw [if_pos e] at h; exact congrArg (fun f => argw m c (ix3 0 d f)) (Fin.ext h.symm)
  · rw [dif_neg e]; rw [if_neg e] at h; exact congrArg (fun f => argw m c (ix3 0 d f)) (Fin.ext (by dsimp only; omega))

/-- What the host's operations up to the joining of the weights' pieces leave in a buffer. -/
abbrev piece (c : Dev nD) := StableHlo.upto (τ := τ) (hostOps0 (F := Ideal)) (fun b => m (c, b)) 29

def piece_v4 (c : Dev nD) : FVec Ideal S1024x512 .f32 := piece m c (Proc.devRef .tc main_v4)
def piece_v5 (c : Dev nD) : FVec Ideal S1024x1024 .f32 := piece m c (Proc.devRef .tc main_v5)
def piece_v8 (c : Dev nD) : FVec Ideal S1024x512 .f32 := piece m c (Proc.devRef .tc main_v8)
def piece_v9 (c : Dev nD) : FVec Ideal S1024x256 .f32 := piece m c (Proc.devRef .tc main_v9)
def piece_v14 (c : Dev nD) : FVec Ideal S1024x512 .f32 := piece m c (Proc.devRef .tc main_v14)
def piece_v19 (c : Dev nD) : FVec Ideal S1024x512 .f32 := piece m c (Proc.devRef .tc main_v19)
def piece_v26 (c : Dev nD) : FVec Ideal S1024x1536 .f32 := piece m c (Proc.devRef .tc main_v26)

/-- The joined weights' pieces. -/
abbrev pieces (c : Dev nD) : List ((s : Shape) × (s.Idx → EReal)) := [⟨S1024x512, piece_v4 m c⟩, ⟨S1024x1024, piece_v5 m c⟩, ⟨S1024x512, piece_v8 m c⟩, ⟨S1024x256, piece_v9 m c⟩, ⟨S1024x512, piece_v14 m c⟩, ⟨S1024x512, piece_v19 m c⟩, ⟨S1024x1536, piece_v26 m c⟩]

/-- The joined weights. -/
theorem joined (c : Dev nD) (J : S1024x4864.Idx) : V m c main_v28 J = concatenate S1024x4864 1 (pieces m c) concatenates_S1024x512_S1024x1024_S1024x512_S1024x256_S1024x512_S1024x512_S1024x1536_S1024x4864_d1 J := by
  refine (congrFun (StableHlo.after_last_write (ops := hostOps0 (F := Ideal)) (r := main_v28) (i := 30) [main_v29, main_v30, main_v31, main_v32, main_v33, main_v34, main_v35, main_v36] rfl rfl (by decide) _) J).trans ?_
  rw [StableHlo.unary_result]
  refine (congrFun (StableHlo.upto_last_write (ops := hostOps0 (F := Ideal)) (r := main_v27) (n := 30) (i := 29) (rest := []) [] rfl rfl (by decide) _) J).trans ?_
  rw [StableHlo.nary_result]
  rfl

theorem host_sbq (c : Dev nD) (d : Fin 1024) (j : Fin 512) : V m c main_v28 (ix2 d ⟨0 + j.val, by omega⟩) = argw m c (ix3 0 d ⟨j.val, by omega⟩) * eighth := by
  refine (joined m c _).trans ((concatenate_apply_piece (t := S1024x4864) (1 : Fin 2) (pieces m c) _ _ 0 (by simp only [pieces, List.length]; omega) S1024x512 (piece_v4 m c) rfl rfl 0 (by rfl) (ix2 d j) (fun b hb => match b, hb with
    | ⟨0, _⟩, _ => rfl
    | ⟨1, _⟩, hb => absurd rfl hb) rfl).trans ?_)
  unfold piece_v4
  after_reads_simp
  pointwise
  rfl

theorem host_sbkv (c : Dev nD) (d : Fin 1024) (j : Fin 1024) : V m c main_v28 (ix2 d ⟨512 + j.val, by omega⟩) = argw m c (ix3 0 d ⟨512 + j.val, by omega⟩) := by
  refine (joined m c _).trans ((concatenate_apply_piece (t := S1024x4864) (1 : Fin 2) (pieces m c) _ _ 1 (by simp only [pieces, List.length]; omega) S1024x1024 (piece_v5 m c) rfl rfl 512 (by rfl) (ix2 d j) (fun b hb => match b, hb with
    | ⟨0, _⟩, _ => rfl
    | ⟨1, _⟩, hb => absurd rfl hb) rfl).trans ?_)
  unfold piece_v5
  after_reads_simp
  pointwise
  rfl

theorem host_nsq (c : Dev nD) (d : Fin 1024) (j : Fin 512) : V m c main_v28 (ix2 d ⟨1536 + j.val, by omega⟩) = argw m c (ix3 0 d ⟨1536 + j.val, by omega⟩) * eighth := by
  refine (joined m c _).trans ((concatenate_apply_piece (t := S1024x4864) (1 : Fin 2) (pieces m c) _ _ 2 (by simp only [pieces, List.length]; omega) S1024x512 (piece_v8 m c) rfl rfl 1536 (by rfl) (ix2 d j) (fun b hb => match b, hb with
    | ⟨0, _⟩, _ => rfl
    | ⟨1, _⟩, hb => absurd rfl hb) rfl).trans ?_)
  unfold piece_v8
  after_reads_simp
  pointwise
  rfl

theorem host_cmp (c : Dev nD) (d : Fin 1024) (j : Fin 256) : V m c main_v28 (ix2 d ⟨2048 + j.val, by omega⟩) = argw m c (ix3 0 d ⟨2048 + j.val, by omega⟩) := by
  refine (joined m c _).trans ((concatenate_apply_piece (t := S1024x4864) (1 : Fin 2) (pieces m c) _ _ 3 (by simp only [pieces, List.length]; omega) S1024x256 (piece_v9 m c) rfl rfl 2048 (by rfl) (ix2 d j) (fun b hb => match b, hb with
    | ⟨0, _⟩, _ => rfl
    | ⟨1, _⟩, hb => absurd rfl hb) rfl).trans ?_)
  unfold piece_v9
  after_reads_simp
  pointwise
  rfl

theorem host_sel (c : Dev nD) (d : Fin 1024) (j : Fin 512) : V m c main_v28 (ix2 d ⟨2304 + j.val, by omega⟩) = argw m c (ix3 0 d ⟨2304 + (j.val / 128 * 64 + j.val % 64), by omega⟩) := by
  refine (joined m c _).trans ((concatenate_apply_piece (t := S1024x4864) (1 : Fin 2) (pieces m c) _ _ 4 (by simp only [pieces, List.length]; omega) S1024x512 (piece_v14 m c) rfl rfl 2304 (by rfl) (ix2 d j) (fun b hb => match b, hb with
    | ⟨0, _⟩, _ => rfl
    | ⟨1, _⟩, hb => absurd rfl hb) rfl).trans ?_)
  unfold piece_v14
  after_reads_simp
  pointwise
  rfl

theorem host_win (c : Dev nD) (d : Fin 1024) (j : Fin 512) : V m c main_v28 (ix2 d ⟨2816 + j.val, by omega⟩) = argw m c (ix3 0 d ⟨2560 + (j.val / 128 * 64 + j.val % 64), by omega⟩) := by
  refine (joined m c _).trans ((concatenate_apply_piece (t := S1024x4864) (1 : Fin 2) (pieces m c) _ _ 5 (by simp only [pieces, List.length]; omega) S1024x512 (piece_v19 m c) rfl rfl 2816 (by rfl) (ix2 d j) (fun b hb => match b, hb with
    | ⟨0, _⟩, _ => rfl
    | ⟨1, _⟩, hb => absurd rfl hb) rfl).trans ?_)
  unfold piece_v19
  after_reads_simp
  pointwise
  rfl

theorem host_gate (c : Dev nD) (d : Fin 1024) (j : Fin 1536) : V m c main_v28 (ix2 d ⟨3328 + j.val, by omega⟩) = argw m c (ix3 0 d ⟨2816 + (j.val / 64 % 8 * 3 + j.val / 512), by omega⟩) := by
  refine (joined m c _).trans ((concatenate_apply_piece (t := S1024x4864) (1 : Fin 2) (pieces m c) _ _ 6 (by simp only [pieces, List.length]; omega) S1024x1536 (piece_v26 m c) rfl rfl 3328 (by rfl) (ix2 d j) (fun b hb => match b, hb with
    | ⟨0, _⟩, _ => rfl
    | ⟨1, _⟩, hb => absurd rfl hb) rfl).trans ?_)
  unfold piece_v26
  after_reads_simp
  pointwise
  rfl

theorem blk_x (c : Dev nD) (t : Fin cfg0.N) (r : Fin 256) (k : Fin 1024) (n : Fin 8) (q : Fin 2048) (h : n.val * 2048 + q.val = t.val * 256 + r.val) :
    (show FVec Ideal S256x1024 .f32 from iblk m c 0 t) (ix2 r k) = argx m c (ix3 n q k) := by
  refine Eq.trans ?_ (host_x m c ⟨n.val * 2048 + q.val, by omega⟩ k n q rfl)
  blk_simp [iblk]
  blk_ext [idx t]
  all_goals omega
theorem blk_g (c : Dev nD) (t : Fin cfg0.N) (k : Fin 1024) : (show FVec Ideal S1x1024 .f32 from iblk m c 1 t) (ix2 0 k) = argg m c (ix2 0 k) := by
  refine Eq.trans ?_ (host_g m c k)
  blk_simp [iblk]
  blk_ext [idx t]
theorem blk_sc (c : Dev nD) (t : Fin cfg0.N) (k : Fin 1024) (n : Fin 8) (h : n.val = t.val / 8) : (show FVec Ideal S1x1x1024 .f32 from iblk m c 2 t) (ix3 0 0 k) = argm m c (ix2 n ⟨1024 + k.val, by omega⟩) := by
  refine Eq.trans ?_ (host_m m c n _)
  blk_simp [iblk]
  blk_ext [idx t]
theorem blk_sh (c : Dev nD) (t : Fin cfg0.N) (k : Fin 1024) (n : Fin 8) (h : n.val = t.val / 8) : (show FVec Ideal S1x1x1024 .f32 from iblk m c 3 t) (ix3 0 0 k) = argm m c (ix2 n ⟨k.val, by omega⟩) := by
  refine Eq.trans ?_ (host_m m c n _)
  blk_simp [iblk]
  blk_ext [idx t]

/-- The hidden block's rows. -/
theorem blk_h (c : Dev nD) (t : Fin cfg0.N) (r : Fin 256) (n : Fin 8) (q : Fin 2048) (h : n.val * 2048 + q.val = t.val * 256 + r.val) :
    (fun d => k0_pay5 (F := Ideal) (iblk m c 0 t) (iblk m c 1 t) (iblk m c 2 t) (iblk m c 3 t) (ix2 r d)) = row (argx m c) (argm m c) (argg m c) n q := by
  have ht := below t
  have hn : n.val = t.val / 8 := by omega
  funext d
  refine (body_h (iblk m c 0 t) (iblk m c 1 t) (iblk m c 2 t) (iblk m c 3 t) r d).trans ?_
  unfold row
  congr 1
  · funext k; exact blk_x m c t r k n q h
  · funext k; exact blk_g m c t k
  · funext k; exact blk_sc m c t k n hn
  · funext k; exact blk_sh m c t k n hn
theorem blk_hid (c : Dev nD) (t : Fin cfg0.N) (r : Fin 256) (n : Fin 8) (q : Fin 2048) (h : n.val * 2048 + q.val = t.val * 256 + r.val) :
    (fun d => k0_pay13 (F := Ideal) (iblk m c 0 t) (iblk m c 1 t) (iblk m c 2 t) (iblk m c 3 t) (iblk m c 4 t) (iblk m c 5 t) (ix2 r d)) = row (argx m c) (argm m c) (argg m c) n q :=
  (funext fun d => congrFun (pay_h (iblk m c 0 t) (iblk m c 1 t) (iblk m c 2 t) (iblk m c 3 t) (iblk m c 4 t) (iblk m c 5 t)) (ix2 r d)).trans (blk_h m c t r n q h)

/-- The stick-breaking queries: their columns, scaled. Its block of the weights, the points of a block of rows, and the array the launch leaves. -/
theorem blk_sbq (c : Dev nD) (t : Fin cfg0.N) (d : Fin 1024) (j : Fin 512) : (show FVec Ideal S1024x512 .bf16 from View.ld (iblk m c 4 t) r0_3) (ix2 d j) = argw m c (ix3 0 d ⟨j.val, by omega⟩) * eighth := by
  refine Eq.trans ?_ (host_sbq m c d j)
  blk_simp [iblk, View.ld]
  blk_ext [idx t]
  · show 0 + 1 * d.val = d.val; omega
  · show 0 + 1 * j.val = j.val; omega

theorem point_sbq (c : Dev nD) (t : Fin cfg0.N) (r : Fin 256) (j : Fin 512) (n : Fin 8) (q : Fin 2048) (h : n.val * 2048 + q.val = t.val * 256 + r.val) :
    k0_pay6 (F := Ideal) (iblk m c 0 t) (iblk m c 1 t) (iblk m c 2 t) (iblk m c 3 t) (View.ld (iblk m c 4 t) r0_3) (ix2 r j) = sbq (argx m c) (argm m c) (argg m c) (argw m c) n q j :=
  (body_sbq (iblk m c 0 t) (iblk m c 1 t) (iblk m c 2 t) (iblk m c 3 t) (View.ld (iblk m c 4 t) r0_3) r j).trans ((congrArg₂ col (blk_h m c t r n q h) (funext fun d => blk_sbq m c t d j)).trans (col_eighth _ _))
theorem final_sbq (c : Dev nD) : (dats m 0 c).arrAt 6 (cfgs 0).N = rows512 (sbq (argx m c) (argm m c) (argg m c) (argw m c)) := by
  refine (dats m 0 c).arrAt_eq_of_covers 6 _ (by decide +kernel) fun t _ y => ?_
  blk_simp
  rw [after0_6]
  frame_out
  idx_vars y
  have ht := below t
  refine (point_sbq m c t y0 y1 ⟨(t.val * 256 + y0.val) / 2048, by omega⟩ ⟨(t.val * 256 + y0.val) % 2048, by omega⟩ (by dsimp only; omega)).trans (rows512_at _ _ _ _ _ ?_ ?_).symm
  · blk_simp [idx t]
    dsimp only
    omega
  · blk_simp [idx t]

/-- The stick-breaking keys and values. Its block of the weights, the points of a block of rows, and the array the launch leaves. -/
theorem blk_sbkv (c : Dev nD) (t : Fin cfg0.N) (d : Fin 1024) (j : Fin 1024) : (show FVec Ideal S1024x1024 .bf16 from View.ld (iblk m c 4 t) r0_5) (ix2 d j) = argw m c (ix3 0 d ⟨512 + j.val, by omega⟩) := by
  refine Eq.trans ?_ (host_sbkv m c d j)
  blk_simp [iblk, View.ld]
  blk_ext [idx t]
  · show 0 + 1 * d.val = d.val; omega
  · show 512 + 1 * j.val = 512 + j.val; omega

theorem point_sbkv (c : Dev nD) (t : Fin cfg0.N) (r : Fin 256) (j : Fin 1024) (n : Fin 8) (q : Fin 2048) (h : n.val * 2048 + q.val = t.val * 256 + r.val) :
    k0_pay7 (F := Ideal) (iblk m c 0 t) (iblk m c 1 t) (iblk m c 2 t) (iblk m c 3 t) (View.ld (iblk m c 4 t) r0_5) (ix2 r j) = sbkv (argx m c) (argm m c) (argg m c) (argw m c) n q j :=
  (body_sbkv (iblk m c 0 t) (iblk m c 1 t) (iblk m c 2 t) (iblk m c 3 t) (View.ld (iblk m c 4 t) r0_5) r j).trans (congrArg₂ col (blk_h m c t r n q h) (funext fun d => blk_sbkv m c t d j))
theorem final_sbkv (c : Dev nD) : (dats m 0 c).arrAt 7 (cfgs 0).N = rows1024 (sbkv (argx m c) (argm m c) (argg m c) (argw m c)) := by
  refine (dats m 0 c).arrAt_eq_of_covers 7 _ (by decide +kernel) fun t _ y => ?_
  blk_simp
  rw [after0_7]
  frame_out
  idx_vars y
  have ht := below t
  refine (point_sbkv m c t y0 y1 ⟨(t.val * 256 + y0.val) / 2048, by omega⟩ ⟨(t.val * 256 + y0.val) % 2048, by omega⟩ (by dsimp only; omega)).trans (rows1024_at _ _ _ _ _ ?_ ?_).symm
  · blk_simp [idx t]
    dsimp only
    omega
  · blk_simp [idx t]

/-- The sparse attention's queries, scaled. Its block of the weights, the points of a block of rows, and the array the launch leaves. -/
theorem blk_nsq (c : Dev nD) (t : Fin cfg0.N) (d : Fin 1024) (j : Fin 512) : (show FVec Ideal S1024x512 .bf16 from View.ld (iblk m c 4 t) r0_6) (ix2 d j) = argw m c (ix3 0 d ⟨1536 + j.val, by omega⟩) * eighth := by
  refine Eq.trans ?_ (host_nsq m c d j)
  blk_simp [iblk, View.ld]
  blk_ext [idx t]
  · show 0 + 1 * d.val = d.val; omega
  · show 1536 + 1 * j.val = 1536 + j.val; omega

theorem point_nsq (c : Dev nD) (t : Fin cfg0.N) (r : Fin 256) (j : Fin 512) (n : Fin 8) (q : Fin 2048) (h : n.val * 2048 + q.val = t.val * 256 + r.val) :
    k0_pay8 (F := Ideal) (k0_pay13 (iblk m c 0 t) (iblk m c 1 t) (iblk m c 2 t) (iblk m c 3 t) (iblk m c 4 t) (iblk m c 5 t)) (View.ld (iblk m c 4 t) r0_6) (ix2 r j) = nsq (argx m c) (argm m c) (argg m c) (argw m c) n q j :=
  (body_nsq (k0_pay13 (iblk m c 0 t) (iblk m c 1 t) (iblk m c 2 t) (iblk m c 3 t) (iblk m c 4 t) (iblk m c 5 t)) (View.ld (iblk m c 4 t) r0_6) r j).trans ((congrArg₂ col (blk_hid m c t r n q h) (funext fun d => blk_nsq m c t d j)).trans (col_eighth _ _))
theorem final_nsq (c : Dev nD) : (dats m 0 c).arrAt 8 (cfgs 0).N = rows512 (nsq (argx m c) (argm m c) (argg m c) (argw m c)) := by
  refine (dats m 0 c).arrAt_eq_of_covers 8 _ (by decide +kernel) fun t _ y => ?_
  blk_simp
  rw [after0_8]
  frame_out
  idx_vars y
  have ht := below t
  refine (point_nsq m c t y0 y1 ⟨(t.val * 256 + y0.val) / 2048, by omega⟩ ⟨(t.val * 256 + y0.val) % 2048, by omega⟩ (by dsimp only; omega)).trans (rows512_at _ _ _ _ _ ?_ ?_).symm
  · blk_simp [idx t]
    dsimp only
    omega
  · blk_simp [idx t]

/-- The compressed branch's keys and values. Its block of the weights, the points of a block of rows, and the array the launch leaves. -/
theorem blk_cmp (c : Dev nD) (t : Fin cfg0.N) (d : Fin 1024) (j : Fin 256) : (show FVec Ideal S1024x256 .bf16 from View.ld (iblk m c 4 t) r0_7) (ix2 d j) = argw m c (ix3 0 d ⟨2048 + j.val, by omega⟩) := by
  refine Eq.trans ?_ (host_cmp m c d j)
  blk_simp [iblk, View.ld]
  blk_ext [idx t]
  · show 0 + 1 * d.val = d.val; omega
  · show 2048 + 1 * j.val = 2048 + j.val; omega

theorem point_cmp (c : Dev nD) (t : Fin cfg0.N) (r : Fin 256) (j : Fin 256) (n : Fin 8) (q : Fin 2048) (h : n.val * 2048 + q.val = t.val * 256 + r.val) :
    k0_pay9 (F := Ideal) (k0_pay13 (iblk m c 0 t) (iblk m c 1 t) (iblk m c 2 t) (iblk m c 3 t) (iblk m c 4 t) (iblk m c 5 t)) (View.ld (iblk m c 4 t) r0_7) (ix2 r j) = cmp (argx m c) (argm m c) (argg m c) (argw m c) n q j :=
  (body_cmp (k0_pay13 (iblk m c 0 t) (iblk m c 1 t) (iblk m c 2 t) (iblk m c 3 t) (iblk m c 4 t) (iblk m c 5 t)) (View.ld (iblk m c 4 t) r0_7) r j).trans (congrArg₂ col (blk_hid m c t r n q h) (funext fun d => blk_cmp m c t d j))
theorem final_cmp (c : Dev nD) : (dats m 0 c).arrAt 9 (cfgs 0).N = rows256 (cmp (argx m c) (argm m c) (argg m c) (argw m c)) := by
  refine (dats m 0 c).arrAt_eq_of_covers 9 _ (by decide +kernel) fun t _ y => ?_
  blk_simp
  rw [after0_9]
  frame_out
  idx_vars y
  have ht := below t
  refine (point_cmp m c t y0 y1 ⟨(t.val * 256 + y0.val) / 2048, by omega⟩ ⟨(t.val * 256 + y0.val) % 2048, by omega⟩ (by dsimp only; omega)).trans (rows256_at _ _ _ _ _ ?_ ?_).symm
  · blk_simp [idx t]
    dsimp only
    omega
  · blk_simp [idx t]

/-- The selected branch's keys and values, each head's twice. Its block of the weights, the points of a block of rows, and the array the launch leaves. -/
theorem blk_sel (c : Dev nD) (t : Fin cfg0.N) (d : Fin 1024) (j : Fin 512) : (show FVec Ideal S1024x512 .bf16 from View.ld (iblk m c 4 t) r0_9) (ix2 d j) = argw m c (ix3 0 d ⟨2304 + (j.val / 128 * 64 + j.val % 64), by omega⟩) := by
  refine Eq.trans ?_ (host_sel m c d j)
  blk_simp [iblk, View.ld]
  blk_ext [idx t]
  · show 0 + 1 * d.val = d.val; omega
  · show 2304 + 1 * j.val = 2304 + j.val; omega

theorem point_sel (c : Dev nD) (t : Fin cfg0.N) (r : Fin 256) (j : Fin 512) (n : Fin 8) (q : Fin 2048) (h : n.val * 2048 + q.val = t.val * 256 + r.val) :
    k0_pay10 (F := Ideal) (k0_pay13 (iblk m c 0 t) (iblk m c 1 t) (iblk m c 2 t) (iblk m c 3 t) (iblk m c 4 t) (iblk m c 5 t)) (View.ld (iblk m c 4 t) r0_9) (ix2 r j) = sel (argx m c) (argm m c) (argg m c) (argw m c) n q j :=
  (body_sel (k0_pay13 (iblk m c 0 t) (iblk m c 1 t) (iblk m c 2 t) (iblk m c 3 t) (iblk m c 4 t) (iblk m c 5 t)) (View.ld (iblk m c 4 t) r0_9) r j).trans (congrArg₂ col (blk_hid m c t r n q h) (funext fun d => blk_sel m c t d j))
theorem final_sel (c : Dev nD) : (dats m 0 c).arrAt 10 (cfgs 0).N = rows512 (sel (argx m c) (argm m c) (argg m c) (argw m c)) := by
  refine (dats m 0 c).arrAt_eq_of_covers 10 _ (by decide +kernel) fun t _ y => ?_
  blk_simp
  rw [after0_10]
  frame_out
  idx_vars y
  have ht := below t
  refine (point_sel m c t y0 y1 ⟨(t.val * 256 + y0.val) / 2048, by omega⟩ ⟨(t.val * 256 + y0.val) % 2048, by omega⟩ (by dsimp only; omega)).trans (rows512_at _ _ _ _ _ ?_ ?_).symm
  · blk_simp [idx t]
    dsimp only
    omega
  · blk_simp [idx t]

/-- The window branch's keys and values, each head's twice. Its block of the weights, the points of a block of rows, and the array the launch leaves. -/
theorem blk_win (c : Dev nD) (t : Fin cfg0.N) (d : Fin 1024) (j : Fin 512) : (show FVec Ideal S1024x512 .bf16 from View.ld (iblk m c 4 t) r0_10) (ix2 d j) = argw m c (ix3 0 d ⟨2560 + (j.val / 128 * 64 + j.val % 64), by omega⟩) := by
  refine Eq.trans ?_ (host_win m c d j)
  blk_simp [iblk, View.ld]
  blk_ext [idx t]
  · show 0 + 1 * d.val = d.val; omega
  · show 2816 + 1 * j.val = 2816 + j.val; omega

theorem point_win (c : Dev nD) (t : Fin cfg0.N) (r : Fin 256) (j : Fin 512) (n : Fin 8) (q : Fin 2048) (h : n.val * 2048 + q.val = t.val * 256 + r.val) :
    k0_pay11 (F := Ideal) (k0_pay13 (iblk m c 0 t) (iblk m c 1 t) (iblk m c 2 t) (iblk m c 3 t) (iblk m c 4 t) (iblk m c 5 t)) (View.ld (iblk m c 4 t) r0_10) (ix2 r j) = win (argx m c) (argm m c) (argg m c) (argw m c) n q j :=
  (body_win (k0_pay13 (iblk m c 0 t) (iblk m c 1 t) (iblk m c 2 t) (iblk m c 3 t) (iblk m c 4 t) (iblk m c 5 t)) (View.ld (iblk m c 4 t) r0_10) r j).trans (congrArg₂ col (blk_hid m c t r n q h) (funext fun d => blk_win m c t d j))
theorem final_win (c : Dev nD) : (dats m 0 c).arrAt 11 (cfgs 0).N = rows512 (win (argx m c) (argm m c) (argg m c) (argw m c)) := by
  refine (dats m 0 c).arrAt_eq_of_covers 11 _ (by decide +kernel) fun t _ y => ?_
  blk_simp
  rw [after0_11]
  frame_out
  idx_vars y
  have ht := below t
  refine (point_win m c t y0 y1 ⟨(t.val * 256 + y0.val) / 2048, by omega⟩ ⟨(t.val * 256 + y0.val) % 2048, by omega⟩ (by dsimp only; omega)).trans (rows512_at _ _ _ _ _ ?_ ?_).symm
  · blk_simp [idx t]
    dsimp only
    omega
  · blk_simp [idx t]

/-- The branches' gates, one per head and branch, repeated over the head's columns. Its block of the weights, the points of a block of rows, and the array the launch leaves. -/
theorem blk_gate (c : Dev nD) (t : Fin cfg0.N) (d : Fin 1024) (j : Fin 1536) : (show FVec Ideal S1024x1536 .bf16 from View.ld (iblk m c 4 t) r0_11) (ix2 d j) = argw m c (ix3 0 d ⟨2816 + (j.val / 64 % 8 * 3 + j.val / 512), by omega⟩) := by
  refine Eq.trans ?_ (host_gate m c d j)
  blk_simp [iblk, View.ld]
  blk_ext [idx t]
  · show 0 + 1 * d.val = d.val; omega
  · show 3328 + 1 * j.val = 3328 + j.val; omega

theorem point_gate (c : Dev nD) (t : Fin cfg0.N) (r : Fin 256) (j : Fin 1536) (n : Fin 8) (q : Fin 2048) (h : n.val * 2048 + q.val = t.val * 256 + r.val) :
    k0_pay12 (F := Ideal) (k0_pay13 (iblk m c 0 t) (iblk m c 1 t) (iblk m c 2 t) (iblk m c 3 t) (iblk m c 4 t) (iblk m c 5 t)) (View.ld (iblk m c 4 t) r0_11) (ix2 r j) = gate (argx m c) (argm m c) (argg m c) (argw m c) n q j :=
  (body_gate (k0_pay13 (iblk m c 0 t) (iblk m c 1 t) (iblk m c 2 t) (iblk m c 3 t) (iblk m c 4 t) (iblk m c 5 t)) (View.ld (iblk m c 4 t) r0_11) r j).trans (congrArg Ideal.logistic (congrArg₂ col (blk_hid m c t r n q h) (funext fun d => blk_gate m c t d j)))
theorem final_gate (c : Dev nD) : (dats m 0 c).arrAt 12 (cfgs 0).N = rows1536 (gate (argx m c) (argm m c) (argg m c) (argw m c)) := by
  refine (dats m 0 c).arrAt_eq_of_covers 12 _ (by decide +kernel) fun t _ y => ?_
  blk_simp
  rw [after0_12]
  frame_out
  idx_vars y
  have ht := below t
  refine (point_gate m c t y0 y1 ⟨(t.val * 256 + y0.val) / 2048, by omega⟩ ⟨(t.val * 256 + y0.val) % 2048, by omega⟩ (by dsimp only; omega)).trans (rows1536_at _ _ _ _ _ ?_ ?_).symm
  · blk_simp [idx t]
    dsimp only
    omega
  · blk_simp [idx t]

theorem blk_sbkvT (c : Dev nD) (t : Fin cfg0.N) (d : Fin 1024) (j : Fin 1024) : (show FVec Ideal S1024x1024 .bf16 from View.ld (iblk m c 5 t) r0_13) (ix2 j d) = argw m c (ix3 0 d ⟨512 + j.val, by omega⟩) := by
  refine Eq.trans ?_ (host_wt m c d ⟨0 + j.val, by omega⟩ ⟨512 + j.val, by omega⟩ ?_)
  · blk_simp [iblk, View.ld]
    blk_ext [idx t]
    · show 0 + 1 * j.val = j.val; omega
    · show 0 + 1 * d.val = d.val; omega
  · dsimp only; split <;> omega
theorem point_sbkvT (c : Dev nD) (t : Fin cfg0.N) (r : Fin 256) (j : Fin 1024) (n : Fin 8) (q : Fin 2048) (h : n.val * 2048 + q.val = t.val * 256 + r.val) :
    k0_pay1 (F := Ideal) (k0_pay13 (iblk m c 0 t) (iblk m c 1 t) (iblk m c 2 t) (iblk m c 3 t) (iblk m c 4 t) (iblk m c 5 t)) (View.ld (iblk m c 5 t) r0_13) (ix3 0 j r) = sbkv (argx m c) (argm m c) (argg m c) (argw m c) n q j :=
  (body_sbkvT (k0_pay13 (iblk m c 0 t) (iblk m c 1 t) (iblk m c 2 t) (iblk m c 3 t) (iblk m c 4 t) (iblk m c 5 t)) (View.ld (iblk m c 5 t) r0_13) r j).trans (congrArg₂ col (blk_hid m c t r n q h) (funext fun d => blk_sbkvT m c t d j))
theorem final_sbkvT (c : Dev nD) : (dats m 0 c).arrAt 13 (cfgs 0).N = cols1024 (sbkv (argx m c) (argm m c) (argg m c) (argw m c)) := by
  refine (dats m 0 c).arrAt_eq_of_covers 13 _ (by decide +kernel) fun t _ y => ?_
  blk_simp
  rw [after0_13]
  frame_out
  idx_vars y
  have ht := below t
  obtain rfl : y0 = 0 := Subsingleton.elim _ _
  refine (point_sbkvT m c t y2 y1 ⟨t.val / 8, by omega⟩ ⟨t.val % 8 * 256 + y2.val, by omega⟩ (by dsimp only; omega)).trans (cols1024_at _ _ _ _ _ ?_ ?_ ?_).symm
  · blk_simp [idx t]
    exact Nat.add_zero _
  · blk_simp [idx t]
  · blk_simp [idx t]

theorem blk_cmpT (c : Dev nD) (t : Fin cfg0.N) (d : Fin 1024) (j : Fin 256) : (show FVec Ideal S256x1024 .bf16 from View.ld (iblk m c 5 t) r0_15) (ix2 j d) = argw m c (ix3 0 d ⟨2048 + j.val, by omega⟩) := by
  refine Eq.trans ?_ (host_wt m c d ⟨1024 + j.val, by omega⟩ ⟨2048 + j.val, by omega⟩ ?_)
  · blk_simp [iblk, View.ld]
    blk_ext [idx t]
    · show 1024 + 1 * j.val = 1024 + j.val; omega
    · show 0 + 1 * d.val = d.val; omega
  · dsimp only; split <;> omega
theorem point_cmpT (c : Dev nD) (t : Fin cfg0.N) (r : Fin 256) (j : Fin 256) (n : Fin 8) (q : Fin 2048) (h : n.val * 2048 + q.val = t.val * 256 + r.val) :
    k0_pay2 (F := Ideal) (k0_pay13 (iblk m c 0 t) (iblk m c 1 t) (iblk m c 2 t) (iblk m c 3 t) (iblk m c 4 t) (iblk m c 5 t)) (View.ld (iblk m c 5 t) r0_15) (ix3 0 j r) = cmp (argx m c) (argm m c) (argg m c) (argw m c) n q j :=
  (body_cmpT (k0_pay13 (iblk m c 0 t) (iblk m c 1 t) (iblk m c 2 t) (iblk m c 3 t) (iblk m c 4 t) (iblk m c 5 t)) (View.ld (iblk m c 5 t) r0_15) r j).trans (congrArg₂ col (blk_hid m c t r n q h) (funext fun d => blk_cmpT m c t d j))
theorem final_cmpT (c : Dev nD) : (dats m 0 c).arrAt 14 (cfgs 0).N = cols256 (cmp (argx m c) (argm m c) (argg m c) (argw m c)) := by
  refine (dats m 0 c).arrAt_eq_of_covers 14 _ (by decide +kernel) fun t _ y => ?_
  blk_simp
  rw [after0_14]
  frame_out
  idx_vars y
  have ht := below t
  obtain rfl : y0 = 0 := Subsingleton.elim _ _
  refine (point_cmpT m c t y2 y1 ⟨t.val / 8, by omega⟩ ⟨t.val % 8 * 256 + y2.val, by omega⟩ (by dsimp only; omega)).trans (cols256_at _ _ _ _ _ ?_ ?_ ?_).symm
  · blk_simp [idx t]
    exact Nat.add_zero _
  · blk_simp [idx t]
  · blk_simp [idx t]

theorem blk_selT (c : Dev nD) (t : Fin cfg0.N) (d : Fin 1024) (j : Fin 256) : (show FVec Ideal S256x1024 .bf16 from View.ld (iblk m c 5 t) r0_17) (ix2 j d) = argw m c (ix3 0 d ⟨2304 + j.val, by omega⟩) := by
  refine Eq.trans ?_ (host_wt m c d ⟨1280 + j.val, by omega⟩ ⟨2304 + j.val, by omega⟩ ?_)
  · blk_simp [iblk, View.ld]
    blk_ext [idx t]
    · show 1280 + 1 * j.val = 1280 + j.val; omega
    · show 0 + 1 * d.val = d.val; omega
  · dsimp only; split <;> omega
theorem point_selT (c : Dev nD) (t : Fin cfg0.N) (r : Fin 256) (j : Fin 256) (n : Fin 8) (q : Fin 2048) (h : n.val * 2048 + q.val = t.val * 256 + r.val) :
    k0_pay3 (F := Ideal) (k0_pay13 (iblk m c 0 t) (iblk m c 1 t) (iblk m c 2 t) (iblk m c 3 t) (iblk m c 4 t) (iblk m c 5 t)) (View.ld (iblk m c 5 t) r0_17) (ix3 0 j r) = selT (argx m c) (argm m c) (argg m c) (argw m c) n q j :=
  (body_selT (k0_pay13 (iblk m c 0 t) (iblk m c 1 t) (iblk m c 2 t) (iblk m c 3 t) (iblk m c 4 t) (iblk m c 5 t)) (View.ld (iblk m c 5 t) r0_17) r j).trans (congrArg₂ col (blk_hid m c t r n q h) (funext fun d => blk_selT m c t d j))
theorem final_selT (c : Dev nD) : (dats m 0 c).arrAt 15 (cfgs 0).N = cols256 (selT (argx m c) (argm m c) (argg m c) (argw m c)) := by
  refine (dats m 0 c).arrAt_eq_of_covers 15 _ (by decide +kernel) fun t _ y => ?_
  blk_simp
  rw [after0_15]
  frame_out
  idx_vars y
  have ht := below t
  obtain rfl : y0 = 0 := Subsingleton.elim _ _
  refine (point_selT m c t y2 y1 ⟨t.val / 8, by omega⟩ ⟨t.val % 8 * 256 + y2.val, by omega⟩ (by dsimp only; omega)).trans (cols256_at _ _ _ _ _ ?_ ?_ ?_).symm
  · blk_simp [idx t]
    exact Nat.add_zero _
  · blk_simp [idx t]
  · blk_simp [idx t]

theorem blk_winT (c : Dev nD) (t : Fin cfg0.N) (d : Fin 1024) (j : Fin 256) : (show FVec Ideal S256x1024 .bf16 from View.ld (iblk m c 5 t) r0_18) (ix2 j d) = argw m c (ix3 0 d ⟨2560 + j.val, by omega⟩) := by
  refine Eq.trans ?_ (host_wt m c d ⟨1536 + j.val, by omega⟩ ⟨2560 + j.val, by omega⟩ ?_)
  · blk_simp [iblk, View.ld]
    blk_ext [idx t]
    · show 1536 + 1 * j.val = 1536 + j.val; omega
    · show 0 + 1 * d.val = d.val; omega
  · dsimp only; split <;> omega
theorem point_winT (c : Dev nD) (t : Fin cfg0.N) (r : Fin 256) (j : Fin 256) (n : Fin 8) (q : Fin 2048) (h : n.val * 2048 + q.val = t.val * 256 + r.val) :
    k0_pay4 (F := Ideal) (k0_pay13 (iblk m c 0 t) (iblk m c 1 t) (iblk m c 2 t) (iblk m c 3 t) (iblk m c 4 t) (iblk m c 5 t)) (View.ld (iblk m c 5 t) r0_18) (ix3 0 j r) = winT (argx m c) (argm m c) (argg m c) (argw m c) n q j :=
  (body_winT (k0_pay13 (iblk m c 0 t) (iblk m c 1 t) (iblk m c 2 t) (iblk m c 3 t) (iblk m c 4 t) (iblk m c 5 t)) (View.ld (iblk m c 5 t) r0_18) r j).trans (congrArg₂ col (blk_hid m c t r n q h) (funext fun d => blk_winT m c t d j))
theorem final_winT (c : Dev nD) : (dats m 0 c).arrAt 16 (cfgs 0).N = cols256 (winT (argx m c) (argm m c) (argg m c) (argw m c)) := by
  refine (dats m 0 c).arrAt_eq_of_covers 16 _ (by decide +kernel) fun t _ y => ?_
  blk_simp
  rw [after0_16]
  frame_out
  idx_vars y
  have ht := below t
  obtain rfl : y0 = 0 := Subsingleton.elim _ _
  refine (point_winT m c t y2 y1 ⟨t.val / 8, by omega⟩ ⟨t.val % 8 * 256 + y2.val, by omega⟩ (by dsimp only; omega)).trans (cols256_at _ _ _ _ _ ?_ ?_ ?_).symm
  · blk_simp [idx t]
    exact Nat.add_zero _
  · blk_simp [idx t]
  · blk_simp [idx t]

end Cert.Kernel5Ideal.Pj
end
end
-- ==== Proof.PjRef.lean ====
/- The written-out input projection of the prompt: what its stages hold at a row, and its results. -/
module

public import proofs.«01_k».proof.Proof.Gen.Reference5Ideal.Read
public import proofs.«01_k».proof.Proof.PjArr

@[expose] public section

set_option maxRecDepth 16384

noncomputable section

namespace Cert.Reference5Ideal.Pj

open Cert.Reference5Ideal Cert.Reference5Ideal.Gen Cert.Reference5Ideal.Read Idealize.ShloMosaic Idealize.ShloMosaic.TcCoe Idealize.SL.Sem Cert.Ly

variable (x0 : FVec Ideal S8x2048x1024 .f32) (x1 : FVec Ideal S8x6144 .f32) (x2 : FVec Ideal S1x1024 .f32) (x3 : FVec Ideal S1x1024x4888 .f32)

/-- The normed and modulated activations. -/
theorem hidden (n : Fin 8) (t : Fin 2048) : (fun k => val_main_v26 (F := Ideal) x0 x1 x2 (ix3 n t k)) = Cert.Kernel5Ideal.Pj.row x0 x1 x2 n t := by
  funext k
  pointwise [val_main_v26, val_main_v25, val_main_v24, val_main_v23, val_main_v22, val_main_v21, val_main_cst_2, val_main_v20, val_main_v19, val_main_v18, val_main_v17, val_main_v16, val_main_v15, val_main_v14, val_main_v13, val_main_v12, val_main_cst_1, val_main_v11, val_main_v10, val_main_cst_0, val_main_v9, val_main_v8, val_main_cst, val_main_v7, val_main_v6, val_main_v5, val_main_v4, val_main_v2, val_main_v1, val_main_v0]
  rfl

/-- A column of the input projection. -/
theorem projected (n : Fin 8) (t : Fin 2048) (f : Fin 4888) : val_main_v28 (F := Ideal) x0 x1 x2 x3 (ix3 n t f) = Cert.Kernel5Ideal.Pj.at_ x0 x1 x2 x3 n t f := by
  refine Eq.trans ?_ (congrArg (fun h => col h (fun d => x3 (ix3 0 d f))) (hidden x0 x1 x2 n t))
  unfold val_main_v28
  generalize val_main_v26 (F := Ideal) x0 x1 x2 = y
  pointwise [val_main_v27]
  rfl

theorem result_sbq : val_main_v51 (F := Ideal) x0 x1 x2 x3 = Cert.Kernel5Ideal.Pj.rows512 (Cert.Kernel5Ideal.Pj.sbq x0 x1 x2 x3) := by
  funext i
  idx_vars i
  unfold val_main_v51 val_main_v50 val_main_v49 val_main_v30 val_main_v29
  generalize e : val_main_v28 (F := Ideal) x0 x1 x2 x3 = y
  pointwise [val_main_v48, val_main_cst_5]
  subst e
  rw [projected]
  rfl

theorem result_sbkv : val_main_v53 (F := Ideal) x0 x1 x2 x3 = Cert.Kernel5Ideal.Pj.rows1024 (Cert.Kernel5Ideal.Pj.sbkv x0 x1 x2 x3) := by
  funext i
  idx_vars i
  unfold val_main_v53 val_main_v52 val_main_v31 val_main_v29
  generalize e : val_main_v28 (F := Ideal) x0 x1 x2 x3 = y
  pointwise
  subst e
  rw [projected]
  rfl

theorem result_nsq : val_main_v57 (F := Ideal) x0 x1 x2 x3 = Cert.Kernel5Ideal.Pj.rows512 (Cert.Kernel5Ideal.Pj.nsq x0 x1 x2 x3) := by
  funext i
  idx_vars i
  unfold val_main_v57 val_main_v56 val_main_v55 val_main_v32 val_main_v29
  generalize e : val_main_v28 (F := Ideal) x0 x1 x2 x3 = y
  pointwise [val_main_v54, val_main_cst_6]
  subst e
  rw [projected]
  rfl

theorem result_cmp : val_main_v58 (F := Ideal) x0 x1 x2 x3 = Cert.Kernel5Ideal.Pj.rows256 (Cert.Kernel5Ideal.Pj.cmp x0 x1 x2 x3) := by
  funext i
  idx_vars i
  unfold val_main_v58 val_main_v33 val_main_v29
  generalize e : val_main_v28 (F := Ideal) x0 x1 x2 x3 = y
  pointwise
  subst e
  rw [projected]
  rfl

theorem result_sel : val_main_v62 (F := Ideal) x0 x1 x2 x3 = Cert.Kernel5Ideal.Pj.rows512 (Cert.Kernel5Ideal.Pj.sel x0 x1 x2 x3) := by
  funext i
  idx_vars i
  unfold val_main_v62 val_main_v61 val_main_v60 val_main_v59 val_main_v34 val_main_v29
  generalize e : val_main_v28 (F := Ideal) x0 x1 x2 x3 = y
  pointwise
  subst e
  rw [projected]
  rfl

theorem result_win : val_main_v66 (F := Ideal) x0 x1 x2 x3 = Cert.Kernel5Ideal.Pj.rows512 (Cert.Kernel5Ideal.Pj.win x0 x1 x2 x3) := by
  funext i
  idx_vars i
  unfold val_main_v66 val_main_v65 val_main_v64 val_main_v63 val_main_v35 val_main_v29
  generalize e : val_main_v28 (F := Ideal) x0 x1 x2 x3 = y
  pointwise
  subst e
  rw [projected]
  rfl

theorem result_gate : val_main_v67 (F := Ideal) x0 x1 x2 x3 = Cert.Kernel5Ideal.Pj.rows1536 (Cert.Kernel5Ideal.Pj.gate x0 x1 x2 x3) := by
  funext i
  idx_vars i
  unfold val_main_v67 val_main_v47 val_main_v46 val_main_v45 val_main_v44 val_main_v43 val_main_v41 val_main_v39 val_main_v38 val_main_v37 val_main_v36 val_main_v29
  generalize e : val_main_v28 (F := Ideal) x0 x1 x2 x3 = y
  pointwise [val_main_v42, val_main_v40, val_main_cst_3, val_main_cst_4]
  subst e
  rw [projected]
  rfl

theorem result_sbkvT : val_main_v68 (F := Ideal) x0 x1 x2 x3 = Cert.Kernel5Ideal.Pj.cols1024 (Cert.Kernel5Ideal.Pj.sbkv x0 x1 x2 x3) := by
  funext i
  idx_vars i
  unfold val_main_v68 val_main_v31 val_main_v29
  generalize e : val_main_v28 (F := Ideal) x0 x1 x2 x3 = y
  pointwise
  subst e
  rw [projected]
  rfl

theorem result_cmpT : val_main_v69 (F := Ideal) x0 x1 x2 x3 = Cert.Kernel5Ideal.Pj.cols256 (Cert.Kernel5Ideal.Pj.cmp x0 x1 x2 x3) := by
  funext i
  idx_vars i
  unfold val_main_v69 val_main_v33 val_main_v29
  generalize e : val_main_v28 (F := Ideal) x0 x1 x2 x3 = y
  pointwise
  subst e
  rw [projected]
  rfl

theorem result_selT : val_main_v70 (F := Ideal) x0 x1 x2 x3 = Cert.Kernel5Ideal.Pj.cols256 (Cert.Kernel5Ideal.Pj.selT x0 x1 x2 x3) := by
  funext i
  idx_vars i
  unfold val_main_v70 val_main_v34 val_main_v29
  generalize e : val_main_v28 (F := Ideal) x0 x1 x2 x3 = y
  pointwise
  subst e
  rw [projected]
  rfl

theorem result_winT : val_main_v71 (F := Ideal) x0 x1 x2 x3 = Cert.Kernel5Ideal.Pj.cols256 (Cert.Kernel5Ideal.Pj.winT x0 x1 x2 x3) := by
  funext i
  idx_vars i
  unfold val_main_v71 val_main_v35 val_main_v29
  generalize e : val_main_v28 (F := Ideal) x0 x1 x2 x3 = y
  pointwise
  subst e
  rw [projected]
  rfl

end Cert.Reference5Ideal.Pj
end
end
-- ==== Proof.Ml7Arr.lean ====
/- The samples' MLP's launch: what a block of rows holds, and the whole array. -/
module

public import proofs.«01_k».proof.Proof.Gen.Kernel7Ideal.Value
public import proofs.«01_k».proof.Proof.LyRow
public import Idealize.ShloMosaic.Lib.Pipeline.ValueKit
public import Idealize.ShloMosaic.Lib.Claim

@[expose] public section

set_option maxRecDepth 512

noncomputable section

namespace Cert.Kernel7Ideal.Ml

open Cert.Kernel7Ideal Cert.Kernel7Ideal.Gen Idealize.ShloMosaic Idealize.ShloMosaic.TcCoe Idealize.SL.Sem Cert.Ly

/-- The MLP's result: every row's, from the activations, the modulation, the gains and the weights. -/
def ml (X : FVec Ideal S128x4x1024 .f32) (M : FVec Ideal S128x6144 .f32) (G : FVec Ideal S1x1024 .f32) (GF : FVec Ideal S1024 .f32)
    (WU : FVec Ideal S1x1024x4096 .f32) (WD : FVec Ideal S1x4096x1024 .f32) (n : Fin 128) (t : Fin 4) (k : Fin 1024) : EReal :=
  mlp (fun k => X (ix3 n t k)) (fun k => G (ix2 0 k)) (fun k => M (ix2 n ⟨4096 + k.val, by omega⟩)) (fun k => M (ix2 n ⟨3072 + k.val, by omega⟩))
    (fun k => M (ix2 n ⟨5120 + k.val, by omega⟩)) (fun k => GF (ix1 k)) (fun d f => WU (ix3 0 d f)) (fun f k => WD (ix3 0 f k)) k

/-- The array of the rows' results. -/
def mlArr (X : FVec Ideal S128x4x1024 .f32) (M : FVec Ideal S128x6144 .f32) (G : FVec Ideal S1x1024 .f32) (GF : FVec Ideal S1024 .f32)
    (WU : FVec Ideal S1x1024x4096 .f32) (WD : FVec Ideal S1x4096x1024 .f32) : FVec Ideal S512x1024 .f32 :=
  fun i => ml X M G GF WU WD ⟨(i 0).val / 4, by have h : (i 0).val < 512 := (i 0).isLt; omega⟩ ⟨(i 0).val % 4, by omega⟩ (i 1)

theorem mlArr_at (X : FVec Ideal S128x4x1024 .f32) (M : FVec Ideal S128x6144 .f32) (G : FVec Ideal S1x1024 .f32) (GF : FVec Ideal S1024 .f32)
    (WU : FVec Ideal S1x1024x4096 .f32) (WD : FVec Ideal S1x4096x1024 .f32) (i : S512x1024.Idx) (n : Fin 128) (t : Fin 4) (k : Fin 1024) (h0 : (i 0).val = n.val * 4 + t.val) (h1 : (i 1).val = k.val) :
    mlArr X M G GF WU WD i = ml X M G GF WU WD n t k := by
  unfold mlArr
  have e0 : (i 0).val / 4 = n.val := by omega
  have e1 : (i 0).val % 4 = t.val := by omega
  have e2 : i 1 = k := Fin.ext h1
  simp only [e0, e1, e2]

theorem idx : ∀ t : Fin cfg0.N, win0_0.index t = ![t.val, 0] ∧ win0_1.index t = ![0, 0] ∧ win0_2.index t = ![t.val, 0, 4] ∧ win0_3.index t = ![t.val, 0, 3] ∧ win0_4.index t = ![t.val, 0, 5] ∧ win0_5.index t = ![0, 0] ∧ win0_6.index t = ![0, 0] ∧ win0_7.index t = ![0, 0] ∧ win0_8.index t = ![t.val, 0] ∧ t.val < 4 :=
  (by decide +kernel : ∀ t : Fin grid0.N, _)

/-- What the body stores, from the blocks it loads. -/
theorem body (x : FVec Ideal S128x1024 .f32) (g : FVec Ideal S1x1024 .f32) (sc sh gt : FVec Ideal S1x128x1024 .f32) (gf : FVec Ideal S1x1024 .f32) (wu : FVec Ideal S1024x4096 .bf16) (wd : FVec Ideal S4096x1024 .bf16) (r : Fin 128) (k : Fin 1024) :
    k0_pay1 (F := Ideal) (k0_pay2 x) (k0_pay3 gt) (k0_pay4 x g sc sh wu) (k0_pay5 wd) gf (ix2 r k) =
      mlp (fun k => x (ix2 r k)) (fun k => g (ix2 0 k)) (fun k => sc (ix3 0 r k)) (fun k => sh (ix3 0 r k)) (fun k => gt (ix3 0 r k)) (fun k => gf (ix2 0 k)) (fun d f => wu (ix2 d f)) (fun f k => wd (ix2 f k)) k := by
  have e4 : ∀ f : Fin 4096, k0_pay4 (F := Ideal) x g sc sh wu (ix2 r f) = act (hid (fun k => x (ix2 r k)) (fun k => g (ix2 0 k)) (fun k => sc (ix3 0 r k)) (fun k => sh (ix3 0 r k))) (fun d f => wu (ix2 d f)) f := by
    intro f
    pointwise [k0_pay4, k0_pay2]
    rfl
  generalize k0_pay4 (F := Ideal) x g sc sh wu = u at e4
  pointwise [k0_pay1, k0_pay2, k0_pay3, k0_pay5]
  simp only [e4]
  rfl

variable (m : (ℓ : Loc nD τ sig) → Buf (Elt Ideal) ℓ)

/-- The activations, the modulation, the gains and the weights the launch reads. -/
def argx (c : Dev nD) : FVec Ideal S128x4x1024 .f32 := m ((c : Thread nD τ).loc main_arg0)
def argm (c : Dev nD) : FVec Ideal S128x6144 .f32 := m ((c : Thread nD τ).loc main_arg1)
def argg (c : Dev nD) : FVec Ideal S1x1024 .f32 := m ((c : Thread nD τ).loc main_arg2)
def arggf (c : Dev nD) : FVec Ideal S1024 .f32 := m ((c : Thread nD τ).loc main_arg3)
def argwu (c : Dev nD) : FVec Ideal S1x1024x4096 .f32 := m ((c : Thread nD τ).loc main_arg4)
def argwd (c : Dev nD) : FVec Ideal S1x4096x1024 .f32 := m ((c : Thread nD τ).loc main_arg5)

theorem host_x (c : Dev nD) (R : Fin 512) (k : Fin 1024) (n : Fin 128) (t : Fin 4) (h : R.val = n.val * 4 + t.val) : V m c main_v3 (ix2 R k) = argx m c (ix3 n t k) := by
  entry_read
  pointwise
  rw [show (⟨R.val / 4, by omega⟩ : Fin 128) = n from Fin.ext (by dsimp only; omega), show (⟨R.val % 4, by omega⟩ : Fin 4) = t from Fin.ext (by dsimp only; omega)]; rfl
theorem host_m (c : Dev nD) (a : Fin 4) (r : Fin 128) (k : Fin 6144) (n : Fin 128) (q : Fin 4) (h : n.val * 4 + q.val = a.val * 128 + r.val) : V m c main_v2 (ix3 a r k) = argm m c (ix2 n k) := by
  entry_read
  pointwise
  exact congrArg (fun n => argm m c (ix2 n k)) (Fin.ext (by dsimp only; omega))
theorem host_g (c : Dev nD) (k : Fin 1024) : V m c main_v5 (ix2 0 k) = argg m c (ix2 0 k) := by
  entry_read; pointwise; rfl
theorem host_gf (c : Dev nD) (k : Fin 1024) : V m c main_v6 (ix2 0 k) = arggf m c (ix1 k) := by
  entry_read; pointwise; rfl
theorem host_wu (c : Dev nD) (d : Fin 1024) (f : Fin 4096) : V m c main_v8 (ix2 d f) = argwu m c (ix3 0 d f) := by
  entry_read; pointwise; rfl
theorem host_wd (c : Dev nD) (f : Fin 4096) (k : Fin 1024) : V m c main_v10 (ix2 f k) = argwd m c (ix3 0 f k) := by
  entry_read; pointwise; rfl

theorem blk_x (c : Dev nD) (t : Fin cfg0.N) (r : Fin 128) (k : Fin 1024) (n : Fin 128) (q : Fin 4) (h : n.val * 4 + q.val = t.val * 128 + r.val) :
    (show FVec Ideal S128x1024 .f32 from iblk m c 0 t) (ix2 r k) = argx m c (ix3 n q k) := by
  have hi := (idx t).2.2.2.2.2.2.2.2.2
  refine Eq.trans ?_ (host_x m c ⟨n.val * 4 + q.val, by omega⟩ k n q rfl)
  blk_simp [iblk]
  blk_ext [idx t]
  all_goals omega
theorem blk_g (c : Dev nD) (t : Fin cfg0.N) (k : Fin 1024) : (show FVec Ideal S1x1024 .f32 from iblk m c 1 t) (ix2 0 k) = argg m c (ix2 0 k) := by
  refine Eq.trans ?_ (host_g m c k)
  blk_simp [iblk]
  blk_ext [idx t]
theorem blk_sc (c : Dev nD) (t : Fin cfg0.N) (r : Fin 128) (k : Fin 1024) (n : Fin 128) (q : Fin 4) (h : n.val * 4 + q.val = t.val * 128 + r.val) : (show FVec Ideal S1x128x1024 .f32 from iblk m c 2 t) (ix3 0 r k) = argm m c (ix2 n ⟨4096 + k.val, by omega⟩) := by
  refine Eq.trans ?_ (host_m m c ⟨t.val, t.isLt⟩ r _ n q h)
  blk_simp [iblk]
  blk_ext [idx t]
theorem blk_sh (c : Dev nD) (t : Fin cfg0.N) (r : Fin 128) (k : Fin 1024) (n : Fin 128) (q : Fin 4) (h : n.val * 4 + q.val = t.val * 128 + r.val) : (show FVec Ideal S1x128x1024 .f32 from iblk m c 3 t) (ix3 0 r k) = argm m c (ix2 n ⟨3072 + k.val, by omega⟩) := by
  refine Eq.trans ?_ (host_m m c ⟨t.val, t.isLt⟩ r _ n q h)
  blk_simp [iblk]
  blk_ext [idx t]
theorem blk_gt (c : Dev nD) (t : Fin cfg0.N) (r : Fin 128) (k : Fin 1024) (n : Fin 128) (q : Fin 4) (h : n.val * 4 + q.val = t.val * 128 + r.val) : (show FVec Ideal S1x128x1024 .f32 from iblk m c 4 t) (ix3 0 r k) = argm m c (ix2 n ⟨5120 + k.val, by omega⟩) := by
  refine Eq.trans ?_ (host_m m c ⟨t.val, t.isLt⟩ r _ n q h)
  blk_simp [iblk]
  blk_ext [idx t]
theorem blk_gf (c : Dev nD) (t : Fin cfg0.N) (k : Fin 1024) : (show FVec Ideal S1x1024 .f32 from iblk m c 5 t) (ix2 0 k) = arggf m c (ix1 k) := by
  refine Eq.trans ?_ (host_gf m c k)
  blk_simp [iblk]
  blk_ext [idx t]
theorem blk_wu (c : Dev nD) (t : Fin cfg0.N) (d : Fin 1024) (f : Fin 4096) : (show FVec Ideal S1024x4096 .bf16 from iblk m c 6 t) (ix2 d f) = argwu m c (ix3 0 d f) := by
  refine Eq.trans ?_ (host_wu m c d f)
  blk_simp [iblk]
  blk_ext [idx t]
theorem blk_wd (c : Dev nD) (t : Fin cfg0.N) (f : Fin 4096) (k : Fin 1024) : (show FVec Ideal S4096x1024 .bf16 from iblk m c 7 t) (ix2 f k) = argwd m c (ix3 0 f k) := by
  refine Eq.trans ?_ (host_wd m c f k)
  blk_simp [iblk]
  blk_ext [idx t]

/-- What the body stores at a row and column of its block. -/
theorem point_at (c : Dev nD) (t : Fin cfg0.N) (r : Fin 128) (k : Fin 1024) (n : Fin 128) (q : Fin 4) (h : n.val * 4 + q.val = t.val * 128 + r.val) :
    k0_pay1 (F := Ideal) (k0_pay2 (iblk m c 0 t)) (k0_pay3 (iblk m c 4 t)) (k0_pay4 (iblk m c 0 t) (iblk m c 1 t) (iblk m c 2 t) (iblk m c 3 t) (iblk m c 6 t)) (k0_pay5 (iblk m c 7 t)) (iblk m c 5 t) (ix2 r k)
      = ml (argx m c) (argm m c) (argg m c) (arggf m c) (argwu m c) (argwd m c) n q k := by
  refine (body (iblk m c 0 t) (iblk m c 1 t) (iblk m c 2 t) (iblk m c 3 t) (iblk m c 4 t) (iblk m c 5 t) (iblk m c 6 t) (iblk m c 7 t) r k).trans ?_
  unfold ml
  congr 1
  · funext k; exact blk_x m c t r k n q h
  · funext k; exact blk_g m c t k
  · funext k; exact blk_sc m c t r k n q h
  · funext k; exact blk_sh m c t r k n q h
  · funext k; exact blk_gt m c t r k n q h
  · funext k; exact blk_gf m c t k
  · funext d f; exact blk_wu m c t d f
  · funext f k; exact blk_wd m c t f k

/-- The array the launch leaves. -/
theorem final (c : Dev nD) : (dats m 0 c).arrAt 8 (cfgs 0).N = mlArr (argx m c) (argm m c) (argg m c) (arggf m c) (argwu m c) (argwd m c) := by
  refine (dats m 0 c).arrAt_eq_of_covers 8 _ (by decide +kernel) fun t _ y => ?_
  blk_simp
  rw [after0_8]
  frame_out
  idx_vars y
  have hi := (idx t).2.2.2.2.2.2.2.2.2
  refine (point_at m c t y0 y1 ⟨(t.val * 128 + y0.val) / 4, by omega⟩ ⟨(t.val * 128 + y0.val) % 4, by omega⟩ (by dsimp only; omega)).trans (mlArr_at _ _ _ _ _ _ _ _ _ _ ?_ ?_).symm
  · blk_simp [idx t]
    dsimp only
    omega
  · blk_simp [idx t]

end Cert.Kernel7Ideal.Ml
end
end
-- ==== Proof.Ml7Ref.lean ====
/- The written-out MLP of the samples: what each of its stages holds at a row. -/
module

public import proofs.«01_k».proof.Proof.Gen.Reference7Ideal.Read
public import proofs.«01_k».proof.Proof.Ml7Arr

@[expose] public section

set_option maxRecDepth 512

noncomputable section

namespace Cert.Reference7Ideal.Ml

open Cert.Reference7Ideal Cert.Reference7Ideal.Gen Cert.Reference7Ideal.Read Idealize.ShloMosaic Idealize.ShloMosaic.TcCoe Idealize.SL.Sem Cert.Ly

variable (x0 : FVec Ideal S128x4x1024 .f32) (x1 : FVec Ideal S128x6144 .f32) (x2 : FVec Ideal S1x1024 .f32) (x3 : FVec Ideal S1024 .f32) (x4 : FVec Ideal S1x1024x4096 .f32) (x5 : FVec Ideal S1x4096x1024 .f32)

/-- The normed and modulated activations. -/
theorem hidden (n : Fin 128) (t : Fin 4) (k : Fin 1024) : val_main_v26 (F := Ideal) x0 x1 x2 (ix3 n t k) =
    hid (fun k => x0 (ix3 n t k)) (fun k => x2 (ix2 0 k)) (fun k => x1 (ix2 n ⟨4096 + k.val, by omega⟩)) (fun k => x1 (ix2 n ⟨3072 + k.val, by omega⟩)) k := by
  pointwise [val_main_v26, val_main_v25, val_main_v24, val_main_v23, val_main_v22, val_main_v21, val_main_cst_2, val_main_v20, val_main_v19, val_main_v18, val_main_v17, val_main_v16, val_main_v15, val_main_v14, val_main_v13, val_main_cst_1, val_main_v12, val_main_v11, val_main_cst_0, val_main_v10, val_main_v9, val_main_cst, val_main_v8, val_main_v7, val_main_v5, val_main_v4, val_main_v0]
  rfl

theorem active (n : Fin 128) (t : Fin 4) (f : Fin 4096) : val_main_v30 (F := Ideal) x0 x1 x2 x4 (ix3 n t f) =
    act (fun k => val_main_v26 (F := Ideal) x0 x1 x2 (ix3 n t k)) (fun d f => x4 (ix3 0 d f)) f := by
  unfold val_main_v30 val_main_v29 val_main_v28
  generalize val_main_v26 (F := Ideal) x0 x1 x2 = y
  pointwise [val_main_v27, val_main_call0_v0, val_main_call0_cst]
  rfl

/-- The gated residual of the MLP. -/
theorem residual (n : Fin 128) (t : Fin 4) (k : Fin 1024) : val_main_v35 (F := Ideal) x0 x1 x2 x4 x5 (ix3 n t k) =
    res (fun k => x0 (ix3 n t k)) (fun k => x1 (ix2 n ⟨5120 + k.val, by omega⟩)) (fun f => val_main_v30 (F := Ideal) x0 x1 x2 x4 (ix3 n t f)) (fun f k => x5 (ix3 0 f k)) k := by
  unfold val_main_v35 val_main_v34 val_main_v32
  generalize val_main_v30 (F := Ideal) x0 x1 x2 x4 = y
  pointwise [val_main_v33, val_main_v31, val_main_v6, val_main_v0]
  rfl

/-- The final norm. -/
theorem normed (n : Fin 128) (t : Fin 4) (k : Fin 1024) : val_main_v48 (F := Ideal) x0 x1 x2 x3 x4 x5 (ix3 n t k) =
    norm (fun k => val_main_v35 (F := Ideal) x0 x1 x2 x4 x5 (ix3 n t k)) k * x3 (ix1 k) := by
  unfold val_main_v48 val_main_v45 val_main_v44 val_main_v43 val_main_v42 val_main_v40 val_main_v38 val_main_v37 val_main_v36
  generalize val_main_v35 (F := Ideal) x0 x1 x2 x4 x5 = y
  pointwise [val_main_v47, val_main_v46, val_main_v41, val_main_cst_5, val_main_v39, val_main_cst_4, val_main_cst_3]
  rfl

/-- The written-out MLP is the array of the rows' results. -/
theorem result : val_main_v49 (F := Ideal) x0 x1 x2 x3 x4 x5 = Cert.Kernel7Ideal.Ml.mlArr x0 x1 x2 x3 x4 x5 := by
  funext i
  have h0 : (i 0).val < 512 := (i 0).isLt
  have h1 : (i 1).val < 1024 := (i 1).isLt
  rw [val_main_v49_apply, Cert.Kernel7Ideal.Ml.mlArr_at x0 x1 x2 x3 x4 x5 i ⟨(i 0).val / 4, by omega⟩ ⟨(i 0).val % 4, by omega⟩ ⟨(i 1).val, h1⟩ (by dsimp only; omega) rfl]
  rw [show idx_main_v49 i = ix3 (⟨(i 0).val / 4, by omega⟩ : Fin 128) (⟨(i 0).val % 4, by omega⟩ : Fin 4) (⟨(i 1).val, h1⟩ : Fin 1024) from funext fun a => Fin.ext (match a with
    | ⟨0, _⟩ => by show ((i 0).val * 1024 + (i 1).val) / 4096 = (i 0).val / 4; omega
    | ⟨1, _⟩ => by show ((i 0).val * 1024 + (i 1).val) / 1024 % 4 = (i 0).val % 4; omega
    | ⟨2, _⟩ => by show ((i 0).val * 1024 + (i 1).val) % 1024 = (i 1).val; omega)]
  rw [normed]
  simp only [residual, active, hidden]
  rfl

end Cert.Reference7Ideal.Ml
end
end
-- ==== Proof.Mx8Arr.lean ====
/- The samples' merge's launch: what a block of rows holds, and the whole array. -/
module

public import proofs.«01_k».proof.Proof.Gen.Kernel8Ideal.Value
public import proofs.«01_k».proof.Proof.LyRow
public import Idealize.ShloMosaic.Lib.Pipeline.ValueKit
public import Idealize.ShloMosaic.Lib.Claim

@[expose] public section

set_option maxRecDepth 512

noncomputable section

namespace Cert.Kernel8Ideal.Mx

open Cert.Kernel8Ideal Cert.Kernel8Ideal.Gen Idealize.ShloMosaic Idealize.ShloMosaic.TcCoe Idealize.SL.Sem Cert.Ly

/-- The merge's result at a row and column: from the activations, the modulation, the gain, the input weights, the two
    mixers' outputs and the three projections. -/
def mx (X : FVec Ideal S128x4x1024 .f32) (M : FVec Ideal S128x6144 .f32) (G : FVec Ideal S1x1024 .f32) (W : FVec Ideal S1x1024x4888 .f32)
    (OS : FVec Ideal S128x4x8x64 .f32) (ON : FVec Ideal S128x4x2x4x64 .f32) (BS BN : FVec Ideal S1x512x1024 .f32) (WO : FVec Ideal S1x1024x1024 .f32) (n : Fin 128) (t : Fin 4) (k : Fin 1024) : EReal :=
  mix (fun k => X (ix3 n t k)) (fun k => G (ix2 0 k)) (fun k => M (ix2 n ⟨1024 + k.val, by omega⟩)) (fun k => M (ix2 n ⟨k.val, by omega⟩)) (fun k => M (ix2 n ⟨2048 + k.val, by omega⟩))
    (fun d k => W (ix3 0 d ⟨2840 + k.val, by omega⟩)) (fun d k => W (ix3 0 d ⟨3864 + k.val, by omega⟩))
    (fun j => OS (ix4 n t ⟨j.val / 64, by omega⟩ ⟨j.val % 64, by omega⟩)) (fun j => ON (ix5 n t ⟨j.val / 256, by omega⟩ ⟨j.val / 64 % 4, by omega⟩ ⟨j.val % 64, by omega⟩))
    (fun j k => BS (ix3 0 j k)) (fun j k => BN (ix3 0 j k)) (fun d k => WO (ix3 0 d k)) k

/-- The array of the rows' results. -/
def mxArr (X : FVec Ideal S128x4x1024 .f32) (M : FVec Ideal S128x6144 .f32) (G : FVec Ideal S1x1024 .f32) (W : FVec Ideal S1x1024x4888 .f32)
    (OS : FVec Ideal S128x4x8x64 .f32) (ON : FVec Ideal S128x4x2x4x64 .f32) (BS BN : FVec Ideal S1x512x1024 .f32) (WO : FVec Ideal S1x1024x1024 .f32) : FVec Ideal S512x1024 .f32 :=
  fun i => mx X M G W OS ON BS BN WO ⟨(i 0).val / 4, by have h : (i 0).val < 512 := (i 0).isLt; omega⟩ ⟨(i 0).val % 4, by omega⟩ (i 1)

theorem mxArr_at (X : FVec Ideal S128x4x1024 .f32) (M : FVec Ideal S128x6144 .f32) (G : FVec Ideal S1x1024 .f32) (W : FVec Ideal S1x1024x4888 .f32)
    (OS : FVec Ideal S128x4x8x64 .f32) (ON : FVec Ideal S128x4x2x4x64 .f32) (BS BN : FVec Ideal S1x512x1024 .f32) (WO : FVec Ideal S1x1024x1024 .f32) (i : S512x1024.Idx) (n : Fin 128) (t : Fin 4) (k : Fin 1024) (h0 : (i 0).val = n.val * 4 + t.val) (h1 : (i 1).val = k.val) :
    mxArr X M G W OS ON BS BN WO i = mx X M G W OS ON BS BN WO n t k := by
  unfold mxArr
  have e0 : (i 0).val / 4 = n.val := by omega
  have e1 : (i 0).val % 4 = t.val := by omega
  have e2 : i 1 = k := Fin.ext h1
  simp only [e0, e1, e2]

theorem idx : ∀ t : Fin cfg0.N, win0_0.index t = ![t.val, 0] ∧ win0_1.index t = ![0, 0] ∧ win0_2.index t = ![t.val, 0, 1] ∧ win0_3.index t = ![t.val, 0, 0] ∧ win0_4.index t = ![t.val, 0, 2] ∧ win0_5.index t = ![t.val, 0] ∧ win0_6.index t = ![t.val, 0] ∧ win0_7.index t = ![0, 0] ∧ win0_8.index t = ![0, 0] ∧ win0_9.index t = ![0, 0] ∧ win0_10.index t = ![0, 0] ∧ win0_11.index t = ![t.val, 0] :=
  (by decide +kernel : ∀ t : Fin grid0.N, _)

theorem below (t : Fin cfg0.N) : t.val < 4 := t.isLt

/-- What the body stores, from the blocks it loads. -/
theorem body (x : FVec Ideal S128x1024 .f32) (g : FVec Ideal S1x1024 .f32) (sc sh gt : FVec Ideal S1x128x1024 .f32) (os on : FVec Ideal S128x512 .bf16) (ws wn : FVec Ideal S1024x1024 .bf16) (bs bn : FVec Ideal S512x1024 .bf16) (wo : FVec Ideal S1024x1024 .bf16) (r : Fin 128) (k : Fin 1024) :
    k0_pay1 (F := Ideal) (k0_pay2 x) (k0_pay4 x g sc sh ws) (k0_pay5 x g sc sh wn) (k0_pay6 os) bs on bn gt wo (ix2 r k) =
      mix (fun k => x (ix2 r k)) (fun k => g (ix2 0 k)) (fun k => sc (ix3 0 r k)) (fun k => sh (ix3 0 r k)) (fun k => gt (ix3 0 r k)) (fun d k => ws (ix2 d k)) (fun d k => wn (ix2 d k))
        (fun j => os (ix2 r j)) (fun j => on (ix2 r j)) (fun j k => bs (ix2 j k)) (fun j k => bn (ix2 j k)) (fun d k => wo (ix2 d k)) k := by
  have e3 : ∀ d : Fin 1024, k0_pay3 (F := Ideal) x g sc sh (ix2 r d) = hid (fun k => x (ix2 r k)) (fun k => g (ix2 0 k)) (fun k => sc (ix3 0 r k)) (fun k => sh (ix3 0 r k)) d := by
    intro d
    pointwise [k0_pay3, k0_pay2]
    rfl
  unfold k0_pay4 k0_pay5
  generalize k0_pay3 (F := Ideal) x g sc sh = h at e3
  pointwise [k0_pay1, k0_pay2, k0_pay6]
  simp only [e3]
  rfl

variable (m : (ℓ : Loc nD τ sig) → Buf (Elt Ideal) ℓ)

/-- The arrays the launch reads. -/
def argx (c : Dev nD) : FVec Ideal S128x4x1024 .f32 := m ((c : Thread nD τ).loc main_arg0)
def argm (c : Dev nD) : FVec Ideal S128x6144 .f32 := m ((c : Thread nD τ).loc main_arg1)
def argg (c : Dev nD) : FVec Ideal S1x1024 .f32 := m ((c : Thread nD τ).loc main_arg2)
def argw (c : Dev nD) : FVec Ideal S1x1024x4888 .f32 := m ((c : Thread nD τ).loc main_arg3)
def argos (c : Dev nD) : FVec Ideal S128x4x8x64 .f32 := m ((c : Thread nD τ).loc main_arg4)
def argon (c : Dev nD) : FVec Ideal S128x4x2x4x64 .f32 := m ((c : Thread nD τ).loc main_arg5)
def argbs (c : Dev nD) : FVec Ideal S1x512x1024 .f32 := m ((c : Thread nD τ).loc main_arg6)
def argbn (c : Dev nD) : FVec Ideal S1x512x1024 .f32 := m ((c : Thread nD τ).loc main_arg7)
def argwo (c : Dev nD) : FVec Ideal S1x1024x1024 .f32 := m ((c : Thread nD τ).loc main_arg8)

theorem host_x (c : Dev nD) (R : Fin 512) (k : Fin 1024) (n : Fin 128) (t : Fin 4) (h : R.val = n.val * 4 + t.val) : V m c main_v3 (ix2 R k) = argx m c (ix3 n t k) := by
  entry_read
  pointwise
  rw [show (⟨R.val / 4, by omega⟩ : Fin 128) = n from Fin.ext (by dsimp only; omega), show (⟨R.val % 4, by omega⟩ : Fin 4) = t from Fin.ext (by dsimp only; omega)]; rfl
theorem host_m (c : Dev nD) (a : Fin 4) (r : Fin 128) (k : Fin 6144) (n : Fin 128) (q : Fin 4) (h : n.val * 4 + q.val = a.val * 128 + r.val) : V m c main_v2 (ix3 a r k) = argm m c (ix2 n k) := by
  entry_read
  pointwise
  exact congrArg (fun n => argm m c (ix2 n k)) (Fin.ext (by dsimp only; omega))
theorem host_g (c : Dev nD) (k : Fin 1024) : V m c main_v5 (ix2 0 k) = argg m c (ix2 0 k) := by
  entry_read; pointwise; rfl
theorem host_os (c : Dev nD) (R : Fin 512) (j : Fin 512) (n : Fin 128) (t : Fin 4) (h : R.val = n.val * 4 + t.val) :
    V m c main_v7 (ix2 R j) = argos m c (ix4 n t ⟨j.val / 64, by omega⟩ ⟨j.val % 64, by omega⟩) := by
  entry_read
  pointwise
  rw [show (⟨R.val / 4, by omega⟩ : Fin 128) = n from Fin.ext (by dsimp only; omega), show (⟨R.val % 4, by omega⟩ : Fin 4) = t from Fin.ext (by dsimp only; omega)]; rfl
theorem host_on (c : Dev nD) (R : Fin 512) (j : Fin 512) (n : Fin 128) (t : Fin 4) (h : R.val = n.val * 4 + t.val) :
    V m c main_v9 (ix2 R j) = argon m c (ix5 n t ⟨j.val / 256, by omega⟩ ⟨j.val / 64 % 4, by omega⟩ ⟨j.val % 64, by omega⟩) := by
  entry_read
  pointwise
  rw [show (⟨R.val / 4, by omega⟩ : Fin 128) = n from Fin.ext (by dsimp only; omega), show (⟨R.val % 4, by omega⟩ : Fin 4) = t from Fin.ext (by dsimp only; omega)]; rfl
theorem host_w (c : Dev nD) (d : Fin 1024) (k : Fin 2048) : V m c main_v12 (ix2 d k) = argw m c (ix3 0 d ⟨2840 + k.val, by omega⟩) := by
  entry_read; pointwise; rfl
theorem host_bs (c : Dev nD) (j : Fin 512) (k : Fin 1024) : V m c main_v14 (ix2 j k) = argbs m c (ix3 0 j k) := by
  entry_read; pointwise; rfl
theorem host_bn (c : Dev nD) (j : Fin 512) (k : Fin 1024) : V m c main_v16 (ix2 j k) = argbn m c (ix3 0 j k) := by
  entry_read; pointwise; rfl
theorem host_wo (c : Dev nD) (d : Fin 1024) (k : Fin 1024) : V m c main_v18 (ix2 d k) = argwo m c (ix3 0 d k) := by
  entry_read; pointwise; rfl

theorem blk_x (c : Dev nD) (t : Fin cfg0.N) (r : Fin 128) (k : Fin 1024) (n : Fin 128) (q : Fin 4) (h : n.val * 4 + q.val = t.val * 128 + r.val) :
    (show FVec Ideal S128x1024 .f32 from iblk m c 0 t) (ix2 r k) = argx m c (ix3 n q k) := by
  refine Eq.trans ?_ (host_x m c ⟨n.val * 4 + q.val, by omega⟩ k n q rfl)
  blk_simp [iblk]
  blk_ext [idx t]
  all_goals omega
theorem blk_g (c : Dev nD) (t : Fin cfg0.N) (k : Fin 1024) : (show FVec Ideal S1x1024 .f32 from iblk m c 1 t) (ix2 0 k) = argg m c (ix2 0 k) := by
  refine Eq.trans ?_ (host_g m c k)
  blk_simp [iblk]
  blk_ext [idx t]
theorem blk_sc (c : Dev nD) (t : Fin cfg0.N) (r : Fin 128) (k : Fin 1024) (n : Fin 128) (q : Fin 4) (h : n.val * 4 + q.val = t.val * 128 + r.val) : (show FVec Ideal S1x128x1024 .f32 from iblk m c 2 t) (ix3 0 r k) = argm m c (ix2 n ⟨1024 + k.val, by omega⟩) := by
  refine Eq.trans ?_ (host_m m c ⟨t.val, t.isLt⟩ r _ n q h)
  blk_simp [iblk]
  blk_ext [idx t]
theorem blk_sh (c : Dev nD) (t : Fin cfg0.N) (r : Fin 128) (k : Fin 1024) (n : Fin 128) (q : Fin 4) (h : n.val * 4 + q.val = t.val * 128 + r.val) : (show FVec Ideal S1x128x1024 .f32 from iblk m c 3 t) (ix3 0 r k) = argm m c (ix2 n ⟨k.val, by omega⟩) := by
  refine Eq.trans ?_ (host_m m c ⟨t.val, t.isLt⟩ r _ n q h)
  blk_simp [iblk]
  blk_ext [idx t]
theorem blk_gt (c : Dev nD) (t : Fin cfg0.N) (r : Fin 128) (k : Fin 1024) (n : Fin 128) (q : Fin 4) (h : n.val * 4 + q.val = t.val * 128 + r.val) : (show FVec Ideal S1x128x1024 .f32 from iblk m c 4 t) (ix3 0 r k) = argm m c (ix2 n ⟨2048 + k.val, by omega⟩) := by
  refine Eq.trans ?_ (host_m m c ⟨t.val, t.isLt⟩ r _ n q h)
  blk_simp [iblk]
  blk_ext [idx t]
theorem blk_os (c : Dev nD) (t : Fin cfg0.N) (r : Fin 128) (j : Fin 512) (n : Fin 128) (q : Fin 4) (h : n.val * 4 + q.val = t.val * 128 + r.val) :
    (show FVec Ideal S128x512 .bf16 from iblk m c 5 t) (ix2 r j) = argos m c (ix4 n q ⟨j.val / 64, by omega⟩ ⟨j.val % 64, by omega⟩) := by
  refine Eq.trans ?_ (host_os m c ⟨n.val * 4 + q.val, by omega⟩ j n q rfl)
  blk_simp [iblk]
  blk_ext [idx t]
  all_goals omega
theorem blk_on (c : Dev nD) (t : Fin cfg0.N) (r : Fin 128) (j : Fin 512) (n : Fin 128) (q : Fin 4) (h : n.val * 4 + q.val = t.val * 128 + r.val) :
    (show FVec Ideal S128x512 .bf16 from iblk m c 6 t) (ix2 r j) = argon m c (ix5 n q ⟨j.val / 256, by omega⟩ ⟨j.val / 64 % 4, by omega⟩ ⟨j.val % 64, by omega⟩) := by
  refine Eq.trans ?_ (host_on m c ⟨n.val * 4 + q.val, by omega⟩ j n q rfl)
  blk_simp [iblk]
  blk_ext [idx t]
  all_goals omega
/-- The block of the gates' weights: its left half is the first gate's. -/
theorem blk_ws (c : Dev nD) (t : Fin cfg0.N) (d k : Fin 1024) : (show FVec Ideal S1024x1024 .bf16 from View.ld (iblk m c 7 t) r0_3) (ix2 d k) = argw m c (ix3 0 d ⟨2840 + k.val, by omega⟩) := by
  refine Eq.trans ?_ (host_w m c d ⟨k.val, by omega⟩)
  blk_simp [iblk, View.ld]
  blk_ext [idx t]
  · show 0 + 1 * d.val = d.val; omega
  · show 0 + 1 * k.val = k.val; omega
/-- Its right half is the second gate's. -/
theorem blk_wn (c : Dev nD) (t : Fin cfg0.N) (d k : Fin 1024) : (show FVec Ideal S1024x1024 .bf16 from View.ld (iblk m c 7 t) r0_4) (ix2 d k) = argw m c (ix3 0 d ⟨3864 + k.val, by omega⟩) := by
  refine Eq.trans ?_ ((host_w m c d ⟨1024 + k.val, by omega⟩).trans ?_)
  · blk_simp [iblk, View.ld]
    blk_ext [idx t]
    · show 0 + 1 * d.val = d.val; omega
    · show 1024 + 1 * k.val = 1024 + k.val; omega
  · refine congrArg (argw m c) ?_
    blk_ext
theorem blk_bs (c : Dev nD) (t : Fin cfg0.N) (j : Fin 512) (k : Fin 1024) : (show FVec Ideal S512x1024 .bf16 from iblk m c 8 t) (ix2 j k) = argbs m c (ix3 0 j k) := by
  refine Eq.trans ?_ (host_bs m c j k)
  blk_simp [iblk]
  blk_ext [idx t]
theorem blk_bn (c : Dev nD) (t : Fin cfg0.N) (j : Fin 512) (k : Fin 1024) : (show FVec Ideal S512x1024 .bf16 from iblk m c 9 t) (ix2 j k) = argbn m c (ix3 0 j k) := by
  refine Eq.trans ?_ (host_bn m c j k)
  blk_simp [iblk]
  blk_ext [idx t]
theorem blk_wo (c : Dev nD) (t : Fin cfg0.N) (d k : Fin 1024) : (show FVec Ideal S1024x1024 .bf16 from iblk m c 10 t) (ix2 d k) = argwo m c (ix3 0 d k) := by
  refine Eq.trans ?_ (host_wo m c d k)
  blk_simp [iblk]
  blk_ext [idx t]

/-- What the body stores at a row and column of its block. -/
theorem point_at (c : Dev nD) (t : Fin cfg0.N) (r : Fin 128) (k : Fin 1024) (n : Fin 128) (q : Fin 4) (h : n.val * 4 + q.val = t.val * 128 + r.val) :
    k0_pay1 (F := Ideal) (k0_pay2 (iblk m c 0 t))
      (k0_pay4 (iblk m c 0 t) (iblk m c 1 t) (iblk m c 2 t) (iblk m c 3 t) (View.ld (iblk m c 7 t) r0_3))
      (k0_pay5 (iblk m c 0 t) (iblk m c 1 t) (iblk m c 2 t) (iblk m c 3 t) (View.ld (iblk m c 7 t) r0_4))
      (k0_pay6 (iblk m c 5 t)) (iblk m c 8 t) (iblk m c 6 t) (iblk m c 9 t) (iblk m c 4 t) (iblk m c 10 t) (ix2 r k)
      = mx (argx m c) (argm m c) (argg m c) (argw m c) (argos m c) (argon m c) (argbs m c) (argbn m c) (argwo m c) n q k := by
  have ht := below t
  refine (body (iblk m c 0 t) (iblk m c 1 t) (iblk m c 2 t) (iblk m c 3 t) (iblk m c 4 t) (iblk m c 5 t) (iblk m c 6 t) (View.ld (iblk m c 7 t) r0_3) (View.ld (iblk m c 7 t) r0_4) (iblk m c 8 t) (iblk m c 9 t) (iblk m c 10 t) r k).trans ?_
  unfold mx
  congr 1
  · funext k; exact blk_x m c t r k n q h
  · funext k; exact blk_g m c t k
  · funext k; exact blk_sc m c t r k n q h
  · funext k; exact blk_sh m c t r k n q h
  · funext k; exact blk_gt m c t r k n q h
  · funext d k; exact blk_ws m c t d k
  · funext d k; exact blk_wn m c t d k
  · funext j; exact blk_os m c t r j n q h
  · funext j; exact blk_on m c t r j n q h
  · funext j k; exact blk_bs m c t j k
  · funext j k; exact blk_bn m c t j k
  · funext d k; exact blk_wo m c t d k

/-- The array the launch leaves. -/
theorem final (c : Dev nD) : (dats m 0 c).arrAt 11 (cfgs 0).N = mxArr (argx m c) (argm m c) (argg m c) (argw m c) (argos m c) (argon m c) (argbs m c) (argbn m c) (argwo m c) := by
  refine (dats m 0 c).arrAt_eq_of_covers 11 _ (by decide +kernel) fun t _ y => ?_
  blk_simp
  rw [after0_11]
  frame_out
  idx_vars y
  have ht := below t
  refine (point_at m c t y0 y1 ⟨(t.val * 128 + y0.val) / 4, by omega⟩ ⟨(t.val * 128 + y0.val) % 4, by omega⟩ (by dsimp only; omega)).trans (mxArr_at _ _ _ _ _ _ _ _ _ _ _ _ _ ?_ ?_).symm
  · blk_simp [idx t]
    dsimp only
    omega
  · blk_simp [idx t]

end Cert.Kernel8Ideal.Mx
end
end
-- ==== Proof.Mx8Ref.lean ====
/- The written-out merge of the samples: what each of its stages holds at a row. -/
module

public import proofs.«01_k».proof.Proof.Gen.Reference8Ideal.Read
public import proofs.«01_k».proof.Proof.Mx8Arr

@[expose] public section

set_option maxRecDepth 512

noncomputable section

namespace Cert.Reference8Ideal.Mx

open Cert.Reference8Ideal Cert.Reference8Ideal.Gen Cert.Reference8Ideal.Read Idealize.ShloMosaic Idealize.ShloMosaic.TcCoe Idealize.SL.Sem Cert.Ly

variable (x0 : FVec Ideal S128x4x1024 .f32) (x1 : FVec Ideal S128x6144 .f32) (x2 : FVec Ideal S1x1024 .f32) (x3 : FVec Ideal S1x1024x4888 .f32)
  (x4 : FVec Ideal S128x4x8x64 .f32) (x5 : FVec Ideal S128x4x2x4x64 .f32) (x6 x7 : FVec Ideal S1x512x1024 .f32) (x8 : FVec Ideal S1x1024x1024 .f32)

/-- The normed and modulated activations. -/
theorem hidden (n : Fin 128) (t : Fin 4) (k : Fin 1024) : val_main_v26 (F := Ideal) x0 x1 x2 (ix3 n t k) =
    hid (fun k => x0 (ix3 n t k)) (fun k => x2 (ix2 0 k)) (fun k => x1 (ix2 n ⟨1024 + k.val, by omega⟩)) (fun k => x1 (ix2 n ⟨k.val, by omega⟩)) k := by
  pointwise [val_main_v26, val_main_v25, val_main_v24, val_main_v23, val_main_v22, val_main_v21, val_main_cst_2, val_main_v20, val_main_v19, val_main_v18, val_main_v17, val_main_v16, val_main_v15, val_main_v14, val_main_v13, val_main_v12, val_main_cst_1, val_main_v11, val_main_v10, val_main_cst_0, val_main_v9, val_main_v8, val_main_cst, val_main_v7, val_main_v6, val_main_v5, val_main_v4, val_main_v2, val_main_v1, val_main_v0]
  rfl

/-- A column of the input projection. -/
theorem projected (n : Fin 128) (t : Fin 4) (f : Fin 4888) : val_main_v28 (F := Ideal) x0 x1 x2 x3 (ix3 n t f) =
    ∑ d, val_main_v26 (F := Ideal) x0 x1 x2 (ix3 n t d) * x3 (ix3 0 d f) := by
  unfold val_main_v28
  generalize val_main_v26 (F := Ideal) x0 x1 x2 = y
  pointwise [val_main_v27]

/-- The first gate: the logistic of its columns. -/
theorem gate_sb (n : Fin 128) (t : Fin 4) (k : Fin 1024) : val_main_v35 (F := Ideal) x0 x1 x2 x3 (ix3 n t k) =
    Ideal.logistic (val_main_v28 (F := Ideal) x0 x1 x2 x3 (ix3 n t ⟨2840 + k.val, by omega⟩)) := by
  unfold val_main_v35 val_main_v33 val_main_v31 val_main_v30 val_main_v29
  generalize val_main_v28 (F := Ideal) x0 x1 x2 x3 = y
  pointwise [val_main_v34, val_main_cst_4, val_main_v32, val_main_cst_3]
  rfl

/-- The second gate. -/
theorem gate_nsa (n : Fin 128) (t : Fin 4) (k : Fin 1024) : val_main_v42 (F := Ideal) x0 x1 x2 x3 (ix3 n t k) =
    Ideal.logistic (val_main_v28 (F := Ideal) x0 x1 x2 x3 (ix3 n t ⟨3864 + k.val, by omega⟩)) := by
  unfold val_main_v42 val_main_v40 val_main_v38 val_main_v37 val_main_v36
  generalize val_main_v28 (F := Ideal) x0 x1 x2 x3 = y
  pointwise [val_main_v41, val_main_cst_6, val_main_v39, val_main_cst_5]
  rfl

/-- The first mixer's output under its projection. -/
theorem branch_sb (n : Fin 128) (t : Fin 4) (k : Fin 1024) : val_main_v45 (F := Ideal) x4 x6 (ix3 n t k) =
    ∑ j : Fin 512, x4 (ix4 n t ⟨j.val / 64, by omega⟩ ⟨j.val % 64, by omega⟩) * x6 (ix3 0 j k) := by
  pointwise [val_main_v45, val_main_v44, val_main_v43]

/-- The second mixer's output under its projection. -/
theorem branch_nsa (n : Fin 128) (t : Fin 4) (k : Fin 1024) : val_main_v48 (F := Ideal) x5 x7 (ix3 n t k) =
    ∑ j : Fin 512, x5 (ix5 n t ⟨j.val / 256, by omega⟩ ⟨j.val / 64 % 4, by omega⟩ ⟨j.val % 64, by omega⟩) * x7 (ix3 0 j k) := by
  pointwise [val_main_v48, val_main_v47, val_main_v46]

/-- The gated residual of the merge. -/
theorem residual (n : Fin 128) (t : Fin 4) (k : Fin 1024) : val_main_v56 (F := Ideal) x0 x1 x2 x3 x4 x5 x6 x7 x8 (ix3 n t k) =
    res (fun k => x0 (ix3 n t k)) (fun k => x1 (ix2 n ⟨2048 + k.val, by omega⟩))
      (fun d => val_main_v35 (F := Ideal) x0 x1 x2 x3 (ix3 n t d) * val_main_v45 (F := Ideal) x4 x6 (ix3 n t d) + val_main_v42 (F := Ideal) x0 x1 x2 x3 (ix3 n t d) * val_main_v48 (F := Ideal) x5 x7 (ix3 n t d))
      (fun d k => x8 (ix3 0 d k)) k := by
  unfold val_main_v56 val_main_v55 val_main_v53 val_main_v51 val_main_v50 val_main_v49
  generalize val_main_v35 (F := Ideal) x0 x1 x2 x3 = y
  generalize val_main_v42 (F := Ideal) x0 x1 x2 x3 = z
  generalize val_main_v45 (F := Ideal) x4 x6 = u
  generalize val_main_v48 (F := Ideal) x5 x7 = v
  pointwise [val_main_v54, val_main_v52, val_main_v3, val_main_v0]
  rfl

/-- The written-out merge is the array of the rows' results. -/
theorem result : val_main_v57 (F := Ideal) x0 x1 x2 x3 x4 x5 x6 x7 x8 = Cert.Kernel8Ideal.Mx.mxArr x0 x1 x2 x3 x4 x5 x6 x7 x8 := by
  funext i
  have h0 : (i 0).val < 512 := (i 0).isLt
  have h1 : (i 1).val < 1024 := (i 1).isLt
  rw [val_main_v57_apply, Cert.Kernel8Ideal.Mx.mxArr_at x0 x1 x2 x3 x4 x5 x6 x7 x8 i ⟨(i 0).val / 4, by omega⟩ ⟨(i 0).val % 4, by omega⟩ ⟨(i 1).val, h1⟩ (by dsimp only; omega) rfl]
  rw [show idx_main_v57 i = ix3 (⟨(i 0).val / 4, by omega⟩ : Fin 128) (⟨(i 0).val % 4, by omega⟩ : Fin 4) (⟨(i 1).val, h1⟩ : Fin 1024) from funext fun a => Fin.ext (match a with
    | ⟨0, _⟩ => by show ((i 0).val * 1024 + (i 1).val) / 4096 = (i 0).val / 4; omega
    | ⟨1, _⟩ => by show ((i 0).val * 1024 + (i 1).val) / 1024 % 4 = (i 0).val % 4; omega
    | ⟨2, _⟩ => by show ((i 0).val * 1024 + (i 1).val) % 1024 = (i 1).val; omega)]
  rw [residual]
  simp only [gate_sb, gate_nsa, branch_sb, branch_nsa, projected, hidden]
  rfl

end Cert.Reference8Ideal.Mx
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_sb_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.SbArr
public import proofs.«01_k».proof.Proof.SbRef
public import proofs.«01_k».proof.Proof.SbPre
public import proofs.«01_k».proof.Proof.MlRef
public import proofs.«01_k».proof.Proof.MxRef
public import proofs.«01_k».proof.Proof.AdRef
public import proofs.«01_k».proof.Proof.PjRef
public import proofs.«01_k».proof.Proof.Ml7Ref
public import proofs.«01_k».proof.Proof.Mx8Ref
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The launch and the written-out attention leave the same array. -/
theorem algebraic : Cert.algebraic_KernelIdeal_ReferenceIdeal_pre_sb_finite := by
  pair_intro
  · run_from Cert.KernelIdeal.Gen.run_main m g
  · run_from Cert.ReferenceIdeal.Value.run m' g'
    have hr := Cert.KernelIdeal.Sb.reals_of_pre _ _ (hpre c)
    rw [Cert.ReferenceIdeal.Read.val_main_v25_eq, (hagree c).1, (hagree c).2]
    exact (Cert.ReferenceIdeal.Sb.result _ _ hr).trans (Cert.KernelIdeal.Sb.final m c hr).symm

/-- The written-out attention leaves its arguments as they were, and has no counters to leave otherwise. -/
theorem frame_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  θ_run_mono (Cert.ReferenceIdeal.Value.run m ρ) fun r h => ⟨fun c => (h c).2, sem_eq_zero_of_no_sems (by decide) r.2⟩

/-- The launch and the written-out MLP leave the same array. -/
theorem algebraic2 : Cert.algebraic_Kernel2Ideal_Reference2Ideal := by
  pair_intro
  · run_from Cert.Kernel2Ideal.Gen.run_main m g
  · run_from Cert.Reference2Ideal.Value.run m' g'
    rw [Cert.Reference2Ideal.Read.val_main_v49_eq, (hagree c).1, (hagree c).2.1, (hagree c).2.2.1, (hagree c).2.2.2.1, (hagree c).2.2.2.2.1, (hagree c).2.2.2.2.2]
    exact (Cert.Reference2Ideal.Ml.result _ _ _ _ _ _).trans (Cert.Kernel2Ideal.Ml.final m c).symm

/-- The written-out MLP leaves its arguments as they were, and has no counters to leave otherwise. -/
theorem frame_reference2 : Cert.quiescent_Reference2Ideal := fun m ρ _ =>
  θ_run_mono (Cert.Reference2Ideal.Value.run m ρ) fun r h => ⟨fun c => (h c).2, sem_eq_zero_of_no_sems (by decide) r.2⟩

/-- The launch and the written-out merge leave the same array. -/
theorem algebraic3 : Cert.algebraic_Kernel3Ideal_Reference3Ideal := by
  pair_intro
  · run_from Cert.Kernel3Ideal.Gen.run_main m g
  · run_from Cert.Reference3Ideal.Value.run m' g'
    rw [Cert.Reference3Ideal.Read.val_main_v57_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact (Cert.Reference3Ideal.Mx.result _ _ _ _ _ _ _ _ _).trans (Cert.Kernel3Ideal.Mx.final m c).symm

/-- The written-out merge leaves its arguments as they were, and has no counters to leave otherwise. -/
theorem frame_reference3 : Cert.quiescent_Reference3Ideal := fun m ρ _ =>
  θ_run_mono (Cert.Reference3Ideal.Value.run m ρ) fun r h => ⟨fun c => (h c).2, sem_eq_zero_of_no_sems (by decide) r.2⟩

/-- The launch and the written-out modulation leave the same array. -/
theorem algebraic4 : Cert.algebraic_Kernel4Ideal_Reference4Ideal := by
  pair_intro
  · run_from Cert.Kernel4Ideal.Gen.run_main m g
  · run_from Cert.Reference4Ideal.Value.run m' g'
    rw [Cert.Reference4Ideal.Read.val_main_v14_eq, (hagree c).2.2.2]
    exact (Cert.Reference4Ideal.Ad.result _ _ _ _).trans (Cert.Kernel4Ideal.Ad.final m c).symm

/-- The written-out modulation leaves its arguments as they were, and has no counters to leave otherwise. -/
theorem frame_reference4 : Cert.quiescent_Reference4Ideal := fun m ρ _ =>
  θ_run_mono (Cert.Reference4Ideal.Value.run m ρ) fun r h => ⟨fun c => (h c).2, sem_eq_zero_of_no_sems (by decide) r.2⟩

set_option maxHeartbeats 3200000 in
/-- The launch and the written-out projection of the prompt leave the same arrays. -/
theorem algebraic5 : Cert.algebraic_Kernel5Ideal_Reference5Ideal := by
  pair_intro
  · run_from Cert.Kernel5Ideal.Gen.run_main m g
    exact hc.1 16
  · refine θ_run_mono (Cert.Reference5Ideal.Value.run m' g') fun r hr c => ?_
    obtain ⟨r0, r1, r2, r3, r4, r5, r6, r7, r8, r9, r10, a0, a1, a2, a3⟩ := hr c
    obtain ⟨e0, e1, e2, e3⟩ := hagree c
    refine ⟨r0.trans ?_, r1.trans ?_, r2.trans ?_, r3.trans ?_, r4.trans ?_, r5.trans ?_, r6.trans ?_, r7.trans ?_, r8.trans ?_, r9.trans ?_, r10.trans ?_, a0, a1, a2, a3⟩
    · rw [Cert.Reference5Ideal.Read.val_main_v51_eq, e0, e1, e2, e3]
      exact (Cert.Reference5Ideal.Pj.result_sbq _ _ _ _).trans (Cert.Kernel5Ideal.Pj.final_sbq m c).symm
    · rw [Cert.Reference5Ideal.Read.val_main_v53_eq, e0, e1, e2, e3]
      exact (Cert.Reference5Ideal.Pj.result_sbkv _ _ _ _).trans (Cert.Kernel5Ideal.Pj.final_sbkv m c).symm
    · rw [Cert.Reference5Ideal.Read.val_main_v57_eq, e0, e1, e2, e3]
      exact (Cert.Reference5Ideal.Pj.result_nsq _ _ _ _).trans (Cert.Kernel5Ideal.Pj.final_nsq m c).symm
    · rw [Cert.Reference5Ideal.Read.val_main_v58_eq, e0, e1, e2, e3]
      exact (Cert.Reference5Ideal.Pj.result_cmp _ _ _ _).trans (Cert.Kernel5Ideal.Pj.final_cmp m c).symm
    · rw [Cert.Reference5Ideal.Read.val_main_v62_eq, e0, e1, e2, e3]
      exact (Cert.Reference5Ideal.Pj.result_sel _ _ _ _).trans (Cert.Kernel5Ideal.Pj.final_sel m c).symm
    · rw [Cert.Reference5Ideal.Read.val_main_v66_eq, e0, e1, e2, e3]
      exact (Cert.Reference5Ideal.Pj.result_win _ _ _ _).trans (Cert.Kernel5Ideal.Pj.final_win m c).symm
    · rw [Cert.Reference5Ideal.Read.val_main_v67_eq, e0, e1, e2, e3]
      exact (Cert.Reference5Ideal.Pj.result_gate _ _ _ _).trans (Cert.Kernel5Ideal.Pj.final_gate m c).symm
    · rw [Cert.Reference5Ideal.Read.val_main_v68_eq, e0, e1, e2, e3]
      exact (Cert.Reference5Ideal.Pj.result_sbkvT _ _ _ _).trans (Cert.Kernel5Ideal.Pj.final_sbkvT m c).symm
    · rw [Cert.Reference5Ideal.Read.val_main_v69_eq, e0, e1, e2, e3]
      exact (Cert.Reference5Ideal.Pj.result_cmpT _ _ _ _).trans (Cert.Kernel5Ideal.Pj.final_cmpT m c).symm
    · rw [Cert.Reference5Ideal.Read.val_main_v70_eq, e0, e1, e2, e3]
      exact (Cert.Reference5Ideal.Pj.result_selT _ _ _ _).trans (Cert.Kernel5Ideal.Pj.final_selT m c).symm
    · rw [Cert.Reference5Ideal.Read.val_main_v71_eq, e0, e1, e2, e3]
      exact (Cert.Reference5Ideal.Pj.result_winT _ _ _ _).trans (Cert.Kernel5Ideal.Pj.final_winT m c).symm

/-- The written-out projection of the prompt leaves its arguments as they were, and has no counters to leave otherwise. -/
theorem frame_reference5 : Cert.quiescent_Reference5Ideal := fun m ρ _ =>
  θ_run_mono (Cert.Reference5Ideal.Value.run m ρ) fun r h => ⟨fun c => (h c).2.2.2.2.2.2.2.2.2.2.2, sem_eq_zero_of_no_sems (by decide) r.2⟩

/-- The launch and the written-out MLP of the samples leave the same array. -/
theorem algebraic7 : Cert.algebraic_Kernel7Ideal_Reference7Ideal := by
  pair_intro
  · run_from Cert.Kernel7Ideal.Gen.run_main m g
  · run_from Cert.Reference7Ideal.Value.run m' g'
    rw [Cert.Reference7Ideal.Read.val_main_v49_eq, (hagree c).1, (hagree c).2.1, (hagree c).2.2.1, (hagree c).2.2.2.1, (hagree c).2.2.2.2.1, (hagree c).2.2.2.2.2]
    exact (Cert.Reference7Ideal.Ml.result _ _ _ _ _ _).trans (Cert.Kernel7Ideal.Ml.final m c).symm

/-- The written-out MLP of the samples leaves its arguments as they were, and has no counters to leave otherwise. -/
theorem frame_reference7 : Cert.quiescent_Reference7Ideal := fun m ρ _ =>
  θ_run_mono (Cert.Reference7Ideal.Value.run m ρ) fun r h => ⟨fun c => (h c).2, sem_eq_zero_of_no_sems (by decide) r.2⟩

/-- The launch and the written-out merge of the samples leave the same array. -/
theorem algebraic8 : Cert.algebraic_Kernel8Ideal_Reference8Ideal := by
  pair_intro
  · run_from Cert.Kernel8Ideal.Gen.run_main m g
  · run_from Cert.Reference8Ideal.Value.run m' g'
    rw [Cert.Reference8Ideal.Read.val_main_v57_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact (Cert.Reference8Ideal.Mx.result _ _ _ _ _ _ _ _ _).trans (Cert.Kernel8Ideal.Mx.final m c).symm

/-- The written-out merge of the samples leaves its arguments as they were, and has no counters to leave otherwise. -/
theorem frame_reference8 : Cert.quiescent_Reference8Ideal := fun m ρ _ =>
  θ_run_mono (Cert.Reference8Ideal.Value.run m ρ) fun r h => ⟨fun c => (h c).2, sem_eq_zero_of_no_sems (by decide) r.2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_sb_finite.Gen.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  trivial, algebraic, trivial, algebraic2, trivial, algebraic3, trivial, algebraic4, trivial, algebraic5, trivial, algebraic7, trivial, algebraic8⟩

end Cert.Proof

end
